-- ==== Defs.lean ====
def Pre_Kernel [hPre_columns : Cert.Pre_columns.Facts] (m : (ℓ : Loc Cert.Kernel.nD Cert.Kernel.τ Cert.Kernel.sig) → Buf (Elt Bits) ℓ) : Prop :=
  ∀ c : Dev Cert.Kernel.nD,
    (Cert.Pre_columns.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_columns : Cert.Pre_columns.Facts] (m : (ℓ : Loc Cert.KernelIdeal.nD Cert.KernelIdeal.τ Cert.KernelIdeal.sig) → Buf (Elt Ideal) ℓ) : Prop :=
  ∀ c : Dev Cert.KernelIdeal.nD,
    (Cert.Pre_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_columns : Cert.Pre_columns.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_columns : Cert.Pre_columns.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_columns : Cert.Pre_columns.Facts) (hPre_inputs : Cert.Pre_inputs.Facts),
    quiescent_Kernel (hKernel := hKernel) (hPre_columns := hPre_columns)
    ∧ quiescent_KernelIdeal (hKernelIdeal := hKernelIdeal) (hPre_columns := hPre_columns)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_columns.lean ====
abbrev S16384x256 : Shape := ⟨2, ![16384, 256]⟩
abbrev S256 : Shape := ⟨1, ![256]⟩
abbrev S128 : Shape := ⟨1, ![128]⟩
abbrev S128x3 : Shape := ⟨2, ![128, 3]⟩
abbrev S_ : Shape := ⟨0, ![]⟩

class Facts : Prop where
  bcast_S_S128x3 : S_.BroadcastsInDim S128x3 (![] : Fin 0 → Fin S128x3.rank)
  reducesTo_S128x3_S_d0_1 : S128x3.ReducesTo [0, 1] S_
  h_S_ : 0 < S_.numel

variable [Facts]

def fn_part1 {F : FTy → Type} [FloatOps F] (main_arg9 : IVec S128x3 32) (main_v13 : IVec S_ 1) (main_v15 : IVec S128x3 1) : IVec S_ 1 :=
  let main_c_7 : IVec S_ 32 := constantI S_ 32 256#32
  let main_v16 : IVec S128x3 32 := broadcastInDim S128x3 ![] bcast_S_S128x3 main_c_7
  let main_v17 : IVec S128x3 1 := cmpi .slt main_arg9 main_v16
  let main_v18 : IVec S128x3 1 := andi main_v15 main_v17
  let main_c_8 : IVec S_ 1 := constantI S_ 1 1#1
  let main_v19 : IVec S_ 1 := (fun x v => Host.reduce IntOp.andi x v reducesTo_S128x3_S_d0_1 h_S_) main_v18 main_c_8
  let main_v20 : IVec S_ 1 := andi main_v13 main_v19
  main_v20

def fn {F : FTy → Type} [FloatOps F] (main_arg0 : FVec F S16384x256 .f32) (main_arg1 : IVec S256 32) (main_arg2 : IVec S128 32) (main_arg3 : IVec S128x3 32) (main_arg4 : IVec S128x3 32) (main_arg5 : IVec S128 32) (main_arg6 : IVec S128x3 32) (main_arg7 : IVec S128x3 32) (main_arg8 : IVec S128 32) (main_arg9 : IVec S128x3 32) (main_arg10 : IVec S128x3 32) : IVec S_ 1 :=
  let main_c : IVec S_ 32 := constantI S_ 32 0#32
  let main_v0 : IVec S128x3 32 := broadcastInDim S128x3 ![] bcast_S_S128x3 main_c
  let main_v1 : IVec S128x3 1 := cmpi .sge main_arg3 main_v0
  let main_c_0 : IVec S_ 32 := constantI S_ 32 256#32
  let main_v2 : IVec S128x3 32 := broadcastInDim S128x3 ![] bcast_S_S128x3 main_c_0
  let main_v3 : IVec S128x3 1 := cmpi .slt main_arg3 main_v2
  let main_v4 : IVec S128x3 1 := andi main_v1 main_v3
  let main_c_1 : IVec S_ 1 := constantI S_ 1 1#1
  let main_v5 : IVec S_ 1 := (fun x v => Host.reduce IntOp.andi x v reducesTo_S128x3_S_d0_1 h_S_) main_v4 main_c_1
  let main_c_2 : IVec S_ 1 := constantI S_ 1 1#1
  let main_v6 : IVec S_ 1 := andi main_c_2 main_v5
  let main_c_3 : IVec S_ 32 := constantI S_ 32 0#32
  let main_v7 : IVec S128x3 32 := broadcastInDim S128x3 ![] bcast_S_S128x3 main_c_3
  let main_v8 : IVec S128x3 1 := cmpi .sge main_arg6 main_v7
  let main_c_4 : IVec S_ 32 := constantI S_ 32 256#32
  let main_v9 : IVec S128x3 32 := broadcastInDim S128x3 ![] bcast_S_S128x3 main_c_4
  let main_v10 : IVec S128x3 1 := cmpi .slt main_arg6 main_v9
  let main_v11 : IVec S128x3 1 := andi main_v8 main_v10
  let main_c_5 : IVec S_ 1 := constantI S_ 1 1#1
  let main_v12 : IVec S_ 1 := (fun x v => Host.reduce IntOp.andi x v reducesTo_S128x3_S_d0_1 h_S_) main_v11 main_c_5
  let main_v13 : IVec S_ 1 := andi main_v6 main_v12
  let main_c_6 : IVec S_ 32 := constantI S_ 32 0#32
  let main_v14 : IVec S128x3 32 := broadcastInDim S128x3 ![] bcast_S_S128x3 main_c_6
  let main_v15 : IVec S128x3 1 := cmpi .sge main_arg9 main_v14
  fn_part1 (F := F) main_arg9 main_v13 main_v15
-- ==== Pre_inputs.lean ====
abbrev S16384x256 : Shape := ⟨2, ![16384, 256]⟩
abbrev S256 : Shape := ⟨1, ![256]⟩
abbrev S128 : Shape := ⟨1, ![128]⟩
abbrev S128x3 : Shape := ⟨2, ![128, 3]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  reducesTo_S256_S_d0 : S256.ReducesTo [0] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_

variable [Facts]

def fn_part4 {F : FTy → Type} [FloatOps F] (main_v62 : IVec S_ 1) (main_v67 : IVec S128x3 1) : IVec S_ 1 :=
  let main_c_26 : IVec S_ 1 := constantI S_ 1 1#1
  let main_v68 : IVec S_ 1 := (fun x v => Host.reduce IntOp.andi x v reducesTo_S128x3_S_d0_1 h_S_) main_v67 main_c_26
  let main_v69 : IVec S_ 1 := andi main_v62 main_v68
  main_v69

def fn_part3 {F : FTy → Type} [FloatOps F] (main_arg8 : IVec S128 32) (main_arg9 : IVec S128x3 32) (main_arg10 : IVec S128x3 32) (main_v12 : IVec S128 32) (main_v50 : IVec S_ 1) : IVec S_ 1 :=
  let main_c_19 : IVec S_ 32 := constantI S_ 32 192#32
  let main_v51 : IVec S128 32 := broadcastInDim S128 ![] bcast_S_S128 main_c_19
  let main_v52 : IVec S128 32 := addi main_v12 main_v51
  let main_v53 : IVec S128 1 := cmpi .eq main_arg8 main_v52
  let main_c_20 : IVec S_ 1 := constantI S_ 1 1#1
  let main_v54 : IVec S_ 1 := (fun x v => Host.reduce IntOp.andi x v reducesTo_S128_S_d0 h_S_) main_v53 main_c_20
  let main_v55 : IVec S_ 1 := andi main_v50 main_v54
  let main_c_21 : IVec S_ 32 := constantI S_ 32 0#32
  let main_v56 : IVec S128x3 32 := broadcastInDim S128x3 ![] bcast_S_S128x3 main_c_21
  let main_v57 : IVec S128x3 1 := cmpi .sge main_arg9 main_v56
  let main_c_22 : IVec S_ 32 := constantI S_ 32 256#32
  let main_v58 : IVec S128x3 32 := broadcastInDim S128x3 ![] bcast_S_S128x3 main_c_22
  let main_v59 : IVec S128x3 1 := cmpi .slt main_arg9 main_v58
  let main_v60 : IVec S128x3 1 := andi main_v57 main_v59
  let main_c_23 : IVec S_ 1 := constantI S_ 1 1#1
  let main_v61 : IVec S_ 1 := (fun x v => Host.reduce IntOp.andi x v reducesTo_S128x3_S_d0_1 h_S_) main_v60 main_c_23
  let main_v62 : IVec S_ 1 := andi main_v55 main_v61
  let main_c_24 : IVec S_ 32 := constantI S_ 32 0#32
  let main_v63 : IVec S128x3 32 := broadcastInDim S128x3 ![] bcast_S_S128x3 main_c_24
  let main_v64 : IVec S128x3 1 := cmpi .sge main_arg10 main_v63
  let main_c_25 : IVec S_ 32 := constantI S_ 32 1#32
  let main_v65 : IVec S128x3 32 := broadcastInDim S128x3 ![] bcast_S_S128x3 main_c_25
  let main_v66 : IVec S128x3 1 := cmpi .sle main_arg10 main_v65
  let main_v67 : IVec S128x3 1 := andi main_v64 main_v66
  fn_part4 (F := F) main_v62 main_v67

def fn_part2 {F : FTy → Type} [FloatOps F] (main_arg5 : IVec S128 32) (main_arg6 : IVec S128x3 32) (main_arg7 : IVec S128x3 32) (main_arg8 : IVec S128 32) (main_arg9 : IVec S128x3 32) (main_arg10 : IVec S128x3 32) (main_v12 : IVec S128 32) (main_v31 : IVec S_ 1) (main_v33 : IVec S128 32) : IVec S_ 1 :=
  let main_v34 : IVec S128 1 := cmpi .eq main_arg5 main_v33
  let main_c_12 : IVec S_ 1 := constantI S_ 1 1#1
  let main_v35 : IVec S_ 1 := (fun x v => Host.reduce IntOp.andi x v reducesTo_S128_S_d0 h_S_) main_v34 main_c_12
  let main_v36 : IVec S_ 1 := andi main_v31 main_v35
  let main_c_13 : IVec S_ 32 := constantI S_ 32 0#32
  let main_v37 : IVec S128x3 32 := broadcastInDim S128x3 ![] bcast_S_S128x3 main_c_13
  let main_v38 : IVec S128x3 1 := cmpi .sge main_arg6 main_v37
  let main_c_14 : IVec S_ 32 := constantI S_ 32 256#32
  let main_v39 : IVec S128x3 32 := broadcastInDim S128x3 ![] bcast_S_S128x3 main_c_14
  let main_v40 : IVec S128x3 1 := cmpi .slt main_arg6 main_v39
  let main_v41 : IVec S128x3 1 := andi main_v38 main_v40
  let main_c_15 : IVec S_ 1 := constantI S_ 1 1#1
  let main_v42 : IVec S_ 1 := (fun x v => Host.reduce IntOp.andi x v reducesTo_S128x3_S_d0_1 h_S_) main_v41 main_c_15
  let main_v43 : IVec S_ 1 := andi main_v36 main_v42
  let main_c_16 : IVec S_ 32 := constantI S_ 32 0#32
  let main_v44 : IVec S128x3 32 := broadcastInDim S128x3 ![] bcast_S_S128x3 main_c_16
  let main_v45 : IVec S128x3 1 := cmpi .sge main_arg7 main_v44
  let main_c_17 : IVec S_ 32 := constantI S_ 32 1#32
  let main_v46 : IVec S128x3 32 := broadcastInDim S128x3 ![] bcast_S_S128x3 main_c_17
  let main_v47 : IVec S128x3 1 := cmpi .sle main_arg7 main_v46
  let main_v48 : IVec S128x3 1 := andi main_v45 main_v47
  let main_c_18 : IVec S_ 1 := constantI S_ 1 1#1
  let main_v49 : IVec S_ 1 := (fun x v => Host.reduce IntOp.andi x v reducesTo_S128x3_S_d0_1 h_S_) main_v48 main_c_18
  let main_v50 : IVec S_ 1 := andi main_v43 main_v49
  fn_part3 (F := F) main_arg8 main_arg9 main_arg10 main_v12 main_v50

def fn_part1 {F : FTy → Type} [FloatOps F] (main_arg3 : IVec S128x3 32) (main_arg4 : IVec S128x3 32) (main_arg5 : IVec S128 32) (main_arg6 : IVec S128x3 32) (main_arg7 : IVec S128x3 32) (main_arg8 : IVec S128 32) (main_arg9 : IVec S128x3 32) (main_arg10 : IVec S128x3 32) (main_v9 : IVec S_ 1) (main_v12 : IVec S128 32) (main_v16 : IVec S_ 1) : IVec S_ 1 :=
  let main_v17 : IVec S_ 1 := andi main_v9 main_v16
  let main_c_5 : IVec S_ 32 := constantI S_ 32 0#32
  let main_v18 : IVec S128x3 32 := broadcastInDim S128x3 ![] bcast_S_S128x3 main_c_5
  let main_v19 : IVec S128x3 1 := cmpi .sge main_arg3 main_v18
  let main_c_6 : IVec S_ 32 := constantI S_ 32 256#32
  let main_v20 : IVec S128x3 32 := broadcastInDim S128x3 ![] bcast_S_S128x3 main_c_6
  let main_v21 : IVec S128x3 1 := cmpi .slt main_arg3 main_v20
  let main_v22 : IVec S128x3 1 := andi main_v19 main_v21
  let main_c_7 : IVec S_ 1 := constantI S_ 1 1#1
  let main_v23 : IVec S_ 1 := (fun x v => Host.reduce IntOp.andi x v reducesTo_S128x3_S_d0_1 h_S_) main_v22 main_c_7
  let main_v24 : IVec S_ 1 := andi main_v17 main_v23
  let main_c_8 : IVec S_ 32 := constantI S_ 32 0#32
  let main_v25 : IVec S128x3 32 := broadcastInDim S128x3 ![] bcast_S_S128x3 main_c_8
  let main_v26 : IVec S128x3 1 := cmpi .sge main_arg4 main_v25
  let main_c_9 : IVec S_ 32 := constantI S_ 32 1#32
  let main_v27 : IVec S128x3 32 := broadcastInDim S128x3 ![] bcast_S_S128x3 main_c_9
  let main_v28 : IVec S128x3 1 := cmpi .sle main_arg4 main_v27
  let main_v29 : IVec S128x3 1 := andi main_v26 main_v28
  let main_c_10 : IVec S_ 1 := constantI S_ 1 1#1
  let main_v30 : IVec S_ 1 := (fun x v => Host.reduce IntOp.andi x v reducesTo_S128x3_S_d0_1 h_S_) main_v29 main_c_10
  let main_v31 : IVec S_ 1 := andi main_v24 main_v30
  let main_c_11 : IVec S_ 32 := constantI S_ 32 128#32
  let main_v32 : IVec S128 32 := broadcastInDim S128 ![] bcast_S_S128 main_c_11
  let main_v33 : IVec S128 32 := addi main_v12 main_v32
  fn_part2 (F := F) main_arg5 main_arg6 main_arg7 main_arg8 main_arg9 main_arg10 main_v12 main_v31 main_v33

def fn {F : FTy → Type} [FloatOps F] (main_arg0 : FVec F S16384x256 .f32) (main_arg1 : IVec S256 32) (main_arg2 : IVec S128 32) (main_arg3 : IVec S128x3 32) (main_arg4 : IVec S128x3 32) (main_arg5 : IVec S128 32) (main_arg6 : IVec S128x3 32) (main_arg7 : IVec S128x3 32) (main_arg8 : IVec S128 32) (main_arg9 : IVec S128x3 32) (main_arg10 : IVec S128x3 32) : IVec S_ 1 :=
  let main_cst : FVec F S_ .f32 := constant S_ .f32 0x00000000#32
  let main_v0 : FVec F S16384x256 .f32 := broadcastInDim S16384x256 ![] bcast_S_S16384x256 main_cst
  let main_v1 : IVec S16384x256 1 := cmpf .oge main_arg0 main_v0
  let main_cst_0 : FVec F S_ .f32 := constant S_ .f32 0x3F800000#32
  let main_v2 : FVec F S16384x256 .f32 := broadcastInDim S16384x256 ![] bcast_S_S16384x256 main_cst_0
  let main_v3 : IVec S16384x256 1 := cmpf .ole main_arg0 main_v2
  let main_v4 : IVec S16384x256 1 := andi main_v1 main_v3
  let main_c : IVec S_ 1 := constantI S_ 1 1#1
  let main_v5 : IVec S_ 1 := (fun x v => Host.reduce IntOp.andi x v reducesTo_S16384x256_S_d0_1 h_S_) main_v4 main_c
  let main_v6 : IVec S256 32 := iotaInDim S256 32 0
  let main_v7 : IVec S256 1 := cmpi .eq main_arg1 main_v6
  let main_c_1 : IVec S_ 1 := constantI S_ 1 1#1
  let main_v8 : IVec S_ 1 := (fun x v => Host.reduce IntOp.andi x v reducesTo_S256_S_d0 h_S_) main_v7 main_c_1
  let main_v9 : IVec S_ 1 := andi main_v5 main_v8
  let main_v10 : IVec S128 32 := iotaInDim S128 32 0
  let main_c_2 : IVec S_ 32 := constantI S_ 32 1#32
  let main_v11 : IVec S128 32 := broadcastInDim S128 ![] bcast_S_S128 main_c_2
  let main_v12 : IVec S128 32 := Host.shrui main_v10 main_v11
  let main_c_3 : IVec S_ 32 := constantI S_ 32 64#32
  let main_v13 : IVec S128 32 := broadcastInDim S128 ![] bcast_S_S128 main_c_3
  let main_v14 : IVec S128 32 := addi main_v12 main_v13
  let main_v15 : IVec S128 1 := cmpi .eq main_arg2 main_v14
  let main_c_4 : IVec S_ 1 := constantI S_ 1 1#1
  let main_v16 : IVec S_ 1 := (fun x v => Host.reduce IntOp.andi x v reducesTo_S128_S_d0 h_S_) main_v15 main_c_4
  fn_part1 (F := F) main_arg3 main_arg4 main_arg5 main_arg6 main_arg7 main_arg8 main_arg9 main_arg10 main_v9 main_v12 main_v16
-- ==== Kernel.lean ====
abbrev S16384x256 : Shape := ⟨2, ![16384, 256]⟩
abbrev S256 : Shape := ⟨1, ![256]⟩
abbrev S128 : Shape := ⟨1, ![128]⟩
abbrev S128x3 : Shape := ⟨2, ![128, 3]⟩
abbrev S64x2x3 : Shape := ⟨3, ![64, 2, 3]⟩
abbrev S3x2x64 : Shape := ⟨3, ![3, 2, 64]⟩
abbrev S24x16 : Shape := ⟨2, ![24, 16]⟩
abbrev S_ : Shape := ⟨0, ![]⟩
abbrev S72x16 : Shape := ⟨2, ![72, 16]⟩
abbrev S1152 : Shape := ⟨1, ![1152]⟩
abbrev S4194304 : Shape := ⟨1, ![4194304]⟩
abbrev S32768 : Shape := ⟨1, ![32768]⟩
abbrev S16 : Shape := ⟨1, ![16]⟩

abbrev nBuf : Table → Nat
  | .hbm => 51
  | .local .scVector .vmem => 3
  | _ => 0

abbrev bufTy : (tb : Table) → Fin (nBuf tb) → BufTy
  | .hbm, ⟨0, _⟩ => ⟨S16384x256, .f32⟩
  | .hbm, ⟨1, _⟩ => ⟨S256, .i32⟩
  | .hbm, ⟨2, _⟩ => ⟨S128, .i32⟩
  | .hbm, ⟨3, _⟩ => ⟨S128x3, .i32⟩
  | .hbm, ⟨4, _⟩ => ⟨S128x3, .i32⟩
  | .hbm, ⟨5, _⟩ => ⟨S128, .i32⟩
  | .hbm, ⟨6, _⟩ => ⟨S128x3, .i32⟩
  | .hbm, ⟨7, _⟩ => ⟨S128x3, .i32⟩
  | .hbm, ⟨8, _⟩ => ⟨S128, .i32⟩
  | .hbm, ⟨9, _⟩ => ⟨S128x3, .i32⟩
  | .hbm, ⟨10, _⟩ => ⟨S128x3, .i32⟩
  | .hbm, ⟨11, _⟩ => ⟨S64x2x3, .i32⟩
  | .hbm, ⟨12, _⟩ => ⟨S3x2x64, .i32⟩
  | .hbm, ⟨13, _⟩ => ⟨S64x2x3, .i32⟩
  | .hbm, ⟨14, _⟩ => ⟨S3x2x64, .i32⟩
  | .hbm, ⟨15, _⟩ => ⟨S24x16, .i32⟩
  | .hbm, ⟨16, _⟩ => ⟨S24x16, .i32⟩
  | .hbm, ⟨17, _⟩ => ⟨S24x16, .f32⟩
  | .hbm, ⟨18, _⟩ => ⟨S_, .f32⟩
  | .hbm, ⟨19, _⟩ => ⟨S24x16, .f32⟩
  | .hbm, ⟨20, _⟩ => ⟨S24x16, .f32⟩
  | .hbm, ⟨21, _⟩ => ⟨S24x16, .f32⟩
  | .hbm, ⟨22, _⟩ => ⟨S64x2x3, .i32⟩
  | .hbm, ⟨23, _⟩ => ⟨S3x2x64, .i32⟩
  | .hbm, ⟨24, _⟩ => ⟨S64x2x3, .i32⟩
  | .hbm, ⟨25, _⟩ => ⟨S3x2x64, .i32⟩
  | .hbm, ⟨26, _⟩ => ⟨S24x16, .i32⟩
  | .hbm, ⟨27, _⟩ => ⟨S24x16, .i32⟩
  | .hbm, ⟨28, _⟩ => ⟨S24x16, .f32⟩
  | .hbm, ⟨29, _⟩ => ⟨S_, .f32⟩
  | .hbm, ⟨30, _⟩ => ⟨S24x16, .f32⟩
  | .hbm, ⟨31, _⟩ => ⟨S24x16, .f32⟩
  | .hbm, ⟨32, _⟩ => ⟨S24x16, .f32⟩
  | .hbm, ⟨33, _⟩ => ⟨S64x2x3, .i32⟩
  | .hbm, ⟨34, _⟩ => ⟨S3x2x64, .i32⟩
  | .hbm, ⟨35, _⟩ => ⟨S64x2x3, .i32⟩
  | .hbm, ⟨36, _⟩ => ⟨S3x2x64, .i32⟩
  | .hbm, ⟨37, _⟩ => ⟨S24x16, .i32⟩
  | .hbm, ⟨38, _⟩ => ⟨S24x16, .i32⟩
  | .hbm, ⟨39, _⟩ => ⟨S24x16, .f32⟩
  | .hbm, ⟨40, _⟩ => ⟨S_, .f32⟩
  | .hbm, ⟨41, _⟩ => ⟨S24x16, .f32⟩
  | .hbm, ⟨42, _⟩ => ⟨S24x16, .f32⟩
  | .hbm, ⟨43, _⟩ => ⟨S24x16, .f32⟩
  | .hbm, ⟨44, _⟩ => ⟨S72x16, .i32⟩
  | .hbm, ⟨45, _⟩ => ⟨S1152, .i32⟩
  | .hbm, ⟨46, _⟩ => ⟨S72x16, .f32⟩
  | .hbm, ⟨47, _⟩ => ⟨S1152, .f32⟩
  | .hbm, ⟨48, _⟩ => ⟨S4194304, .f32⟩
  | .hbm, ⟨49, _⟩ => ⟨S4194304, .f32⟩
  | .hbm, ⟨50, _⟩ => ⟨S16384x256, .f32⟩
  | .local .scVector .vmem, ⟨0, _⟩ => ⟨S32768, .f32⟩
  | .local .scVector .vmem, ⟨1, _⟩ => ⟨S1152, .i32⟩
  | .local .scVector .vmem, ⟨2, _⟩ => ⟨S1152, .f32⟩
  | _, _ => ⟨S16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v34_scv : Ref sig .scVector := ⟨.hbm, 48, rfl⟩
abbrev main_v31_scv : Ref sig .scVector := ⟨.hbm, 45, rfl⟩
abbrev main_v33_scv : Ref sig .scVector := ⟨.hbm, 47, rfl⟩
abbrev main_v35_scv : Ref sig .scVector := ⟨.hbm, 49, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c256_i32 : BitVec 32 := 256#32
  let v4 : BitVec 32 := Scalar.muli v3 c256_i32
  ![v4.toNat]
@[reducible] def k0_t1_loop : Scf.Loop 32 :=
  let c0_i32_25 : BitVec 32 := 0#32
  let c128_i32 : BitVec 32 := 128#32
  let v53 : BitVec 32 := Scalar.addi c0_i32_25 c128_i32
  let c1_i32 : BitVec 32 := 1#32
  ⟨c0_i32_25, v53, c1_i32⟩

def k0_chk1 (v608 : IVec S16 32) : Prop :=
  (∀ a x, ((![v608] : Fin 1 → IVec S16 32) a x).toNat < S32768.size a)
theorem k0_idx1_inb : ∀ (v608 : IVec S16 32) (k0_hw1 : k0_chk1 v608), ∀ a x, ((![v608] : Fin 1 → IVec S16 32) a x).toNat < S32768.size a := fun v608 k0_hw1 => k0_hw1

def k0_chk2 (v613 : IVec S16 32) : Prop :=
  (∀ a x, ((![v613] : Fin 1 → IVec S16 32) a x).toNat < S32768.size a)
theorem k0_idx2_inb : ∀ (v613 : IVec S16 32) (k0_hw2 : k0_chk2 v613), ∀ a x, ((![v613] : Fin 1 → IVec S16 32) a x).toNat < S32768.size a := fun v613 k0_hw2 => k0_hw2

def k0_chk3 (v618 : IVec S16 32) : Prop :=
  (∀ a x, ((![v618] : Fin 1 → IVec S16 32) a x).toNat < S32768.size a)
theorem k0_idx3_inb : ∀ (v618 : IVec S16 32) (k0_hw3 : k0_chk3 v618), ∀ a x, ((![v618] : Fin 1 → IVec S16 32) a x).toNat < S32768.size a := fun v618 k0_hw3 => k0_hw3

def k0_chk4 (v623 : IVec S16 32) : Prop :=
  (∀ a x, ((![v623] : Fin 1 → IVec S16 32) a x).toNat < S32768.size a)
theorem k0_idx4_inb : ∀ (v623 : IVec S16 32) (k0_hw4 : k0_chk4 v623), ∀ a x, ((![v623] : Fin 1 → IVec S16 32) a x).toNat < S32768.size a := fun v623 k0_hw4 => k0_hw4

def k0_chk5 (v628 : IVec S16 32) : Prop :=
  (∀ a x, ((![v628] : Fin 1 → IVec S16 32) a x).toNat < S32768.size a)
theorem k0_idx5_inb : ∀ (v628 : IVec S16 32) (k0_hw5 : k0_chk5 v628), ∀ a x, ((![v628] : Fin 1 → IVec S16 32) a x).toNat < S32768.size a := fun v628 k0_hw5 => k0_hw5

def k0_chk6 (v633 : IVec S16 32) : Prop :=
  (∀ a x, ((![v633] : Fin 1 → IVec S16 32) a x).toNat < S32768.size a)
theorem k0_idx6_inb : ∀ (v633 : IVec S16 32) (k0_hw6 : k0_chk6 v633), ∀ a x, ((![v633] : Fin 1 → IVec S16 32) a x).toNat < S32768.size a := fun v633 k0_hw6 => k0_hw6

def k0_chk7 (v638 : IVec S16 32) : Prop :=
  (∀ a x, ((![v638] : Fin 1 → IVec S16 32) a x).toNat < S32768.size a)
theorem k0_idx7_inb : ∀ (v638 : IVec S16 32) (k0_hw7 : k0_chk7 v638), ∀ a x, ((![v638] : Fin 1 → IVec S16 32) a x).toNat < S32768.size a := fun v638 k0_hw7 => k0_hw7

def k0_chk8 (v643 : IVec S16 32) : Prop :=
  (∀ a x, ((![v643] : Fin 1 → IVec S16 32) a x).toNat < S32768.size a)
theorem k0_idx8_inb : ∀ (v643 : IVec S16 32) (k0_hw8 : k0_chk8 v643), ∀ a x, ((![v643] : Fin 1 → IVec S16 32) a x).toNat < S32768.size a := fun v643 k0_hw8 => k0_hw8

def k0_chk9 (v648 : IVec S16 32) : Prop :=
  (∀ a x, ((![v648] : Fin 1 → IVec S16 32) a x).toNat < S32768.size a)
theorem k0_idx9_inb : ∀ (v648 : IVec S16 32) (k0_hw9 : k0_chk9 v648), ∀ a x, ((![v648] : Fin 1 → IVec S16 32) a x).toNat < S32768.size a := fun v648 k0_hw9 => k0_hw9

def k0_chk10 (v653 : IVec S16 32) : Prop :=
  (∀ a x, ((![v653] : Fin 1 → IVec S16 32) a x).toNat < S32768.size a)
theorem k0_idx10_inb : ∀ (v653 : IVec S16 32) (k0_hw10 : k0_chk10 v653), ∀ a x, ((![v653] : Fin 1 → IVec S16 32) a x).toNat < S32768.size a := fun v653 k0_hw10 => k0_hw10

def k0_chk11 (v658 : IVec S16 32) : Prop :=
  (∀ a x, ((![v658] : Fin 1 → IVec S16 32) a x).toNat < S32768.size a)
theorem k0_idx11_inb : ∀ (v658 : IVec S16 32) (k0_hw11 : k0_chk11 v658), ∀ a x, ((![v658] : Fin 1 → IVec S16 32) a x).toNat < S32768.size a := fun v658 k0_hw11 => k0_hw11

def k0_chk12 (v663 : IVec S16 32) : Prop :=
  (∀ a x, ((![v663] : Fin 1 → IVec S16 32) a x).toNat < S32768.size a)
theorem k0_idx12_inb : ∀ (v663 : IVec S16 32) (k0_hw12 : k0_chk12 v663), ∀ a x, ((![v663] : Fin 1 → IVec S16 32) a x).toNat < S32768.size a := fun v663 k0_hw12 => k0_hw12

def k0_chk13 (v668 : IVec S16 32) : Prop :=
  (∀ a x, ((![v668] : Fin 1 → IVec S16 32) a x).toNat < S32768.size a)
theorem k0_idx13_inb : ∀ (v668 : IVec S16 32) (k0_hw13 : k0_chk13 v668), ∀ a x, ((![v668] : Fin 1 → IVec S16 32) a x).toNat < S32768.size a := fun v668 k0_hw13 => k0_hw13

def k0_chk14 (v673 : IVec S16 32) : Prop :=
  (∀ a x, ((![v673] : Fin 1 → IVec S16 32) a x).toNat < S32768.size a)
theorem k0_idx14_inb : ∀ (v673 : IVec S16 32) (k0_hw14 : k0_chk14 v673), ∀ a x, ((![v673] : Fin 1 → IVec S16 32) a x).toNat < S32768.size a := fun v673 k0_hw14 => k0_hw14

def k0_chk15 (v678 : IVec S16 32) : Prop :=
  (∀ a x, ((![v678] : Fin 1 → IVec S16 32) a x).toNat < S32768.size a)
theorem k0_idx15_inb : ∀ (v678 : IVec S16 32) (k0_hw15 : k0_chk15 v678), ∀ a x, ((![v678] : Fin 1 → IVec S16 32) a x).toNat < S32768.size a := fun v678 k0_hw15 => k0_hw15

def k0_chk16 (v683 : IVec S16 32) : Prop :=
  (∀ a x, ((![v683] : Fin 1 → IVec S16 32) a x).toNat < S32768.size a)
theorem k0_idx16_inb : ∀ (v683 : IVec S16 32) (k0_hw16 : k0_chk16 v683), ∀ a x, ((![v683] : Fin 1 → IVec S16 32) a x).toNat < S32768.size a := fun v683 k0_hw16 => k0_hw16

def k0_chk17 (v688 : IVec S16 32) : Prop :=
  (∀ a x, ((![v688] : Fin 1 → IVec S16 32) a x).toNat < S32768.size a)
theorem k0_idx17_inb : ∀ (v688 : IVec S16 32) (k0_hw17 : k0_chk17 v688), ∀ a x, ((![v688] : Fin 1 → IVec S16 32) a x).toNat < S32768.size a := fun v688 k0_hw17 => k0_hw17

def k0_chk18 (v693 : IVec S16 32) : Prop :=
  (∀ a x, ((![v693] : Fin 1 → IVec S16 32) a x).toNat < S32768.size a)
theorem k0_idx18_inb : ∀ (v693 : IVec S16 32) (k0_hw18 : k0_chk18 v693), ∀ a x, ((![v693] : Fin 1 → IVec S16 32) a x).toNat < S32768.size a := fun v693 k0_hw18 => k0_hw18

def k0_chk19 (v698 : IVec S16 32) : Prop :=
  (∀ a x, ((![v698] : Fin 1 → IVec S16 32) a x).toNat < S32768.size a)
theorem k0_idx19_inb : ∀ (v698 : IVec S16 32) (k0_hw19 : k0_chk19 v698), ∀ a x, ((![v698] : Fin 1 → IVec S16 32) a x).toNat < S32768.size a := fun v698 k0_hw19 => k0_hw19

def k0_chk20 (v703 : IVec S16 32) : Prop :=
  (∀ a x, ((![v703] : Fin 1 → IVec S16 32) a x).toNat < S32768.size a)
theorem k0_idx20_inb : ∀ (v703 : IVec S16 32) (k0_hw20 : k0_chk20 v703), ∀ a x, ((![v703] : Fin 1 → IVec S16 32) a x).toNat < S32768.size a := fun v703 k0_hw20 => k0_hw20

def k0_chk21 (v708 : IVec S16 32) : Prop :=
  (∀ a x, ((![v708] : Fin 1 → IVec S16 32) a x).toNat < S32768.size a)
theorem k0_idx21_inb : ∀ (v708 : IVec S16 32) (k0_hw21 : k0_chk21 v708), ∀ a x, ((![v708] : Fin 1 → IVec S16 32) a x).toNat < S32768.size a := fun v708 k0_hw21 => k0_hw21

def k0_chk22 (v713 : IVec S16 32) : Prop :=
  (∀ a x, ((![v713] : Fin 1 → IVec S16 32) a x).toNat < S32768.size a)
theorem k0_idx22_inb : ∀ (v713 : IVec S16 32) (k0_hw22 : k0_chk22 v713), ∀ a x, ((![v713] : Fin 1 → IVec S16 32) a x).toNat < S32768.size a := fun v713 k0_hw22 => k0_hw22

def k0_chk23 (v718 : IVec S16 32) : Prop :=
  (∀ a x, ((![v718] : Fin 1 → IVec S16 32) a x).toNat < S32768.size a)
theorem k0_idx23_inb : ∀ (v718 : IVec S16 32) (k0_hw23 : k0_chk23 v718), ∀ a x, ((![v718] : Fin 1 → IVec S16 32) a x).toNat < S32768.size a := fun v718 k0_hw23 => k0_hw23

def k0_chk24 (v723 : IVec S16 32) : Prop :=
  (∀ a x, ((![v723] : Fin 1 → IVec S16 32) a x).toNat < S32768.size a)
theorem k0_idx24_inb : ∀ (v723 : IVec S16 32) (k0_hw24 : k0_chk24 v723), ∀ a x, ((![v723] : Fin 1 → IVec S16 32) a x).toNat < S32768.size a := fun v723 k0_hw24 => k0_hw24
def k0_off2 (k0_t1 : Fin k0_t1_loop.trips) (c0_i32_575 : BitVec 32) : Fin 1 → Nat :=
  let c0_i32_25 : BitVec 32 := 0#32
  let c1_i32 : BitVec 32 := 1#32
  let arg9 : BitVec 32 := Scf.iv c0_i32_25 c1_i32 k0_t1
  let c256_i32_574 : BitVec 32 := 256#32
  let v606 : BitVec 32 := Scalar.muli arg9 c256_i32_574
  let c64_i32 : BitVec 32 := 64#32
  let v744 : BitVec 32 := Scalar.addi v606 c64_i32
  let v745 : BitVec 32 := Scalar.addi v744 c0_i32_575
  let v746 : Index := Scalar.indexCast v745
  ![v746.toNat]
@[reducible] def k0_t2_loop : Scf.Loop 32 :=
  let c0_i32_52 : BitVec 32 := 0#32
  let c128_i32_53 : BitVec 32 := 128#32
  let v102 : BitVec 32 := Scalar.addi c0_i32_52 c128_i32_53
  let c1_i32_54 : BitVec 32 := 1#32
  ⟨c0_i32_52, v102, c1_i32_54⟩

def k0_chk25 (v608 : IVec S16 32) : Prop :=
  (∀ a x, ((![v608] : Fin 1 → IVec S16 32) a x).toNat < S32768.size a)
theorem k0_idx25_inb : ∀ (v608 : IVec S16 32) (k0_hw25 : k0_chk25 v608), ∀ a x, ((![v608] : Fin 1 → IVec S16 32) a x).toNat < S32768.size a := fun v608 k0_hw25 => k0_hw25

def k0_chk26 (v613 : IVec S16 32) : Prop :=
  (∀ a x, ((![v613] : Fin 1 → IVec S16 32) a x).toNat < S32768.size a)
theorem k0_idx26_inb : ∀ (v613 : IVec S16 32) (k0_hw26 : k0_chk26 v613), ∀ a x, ((![v613] : Fin 1 → IVec S16 32) a x).toNat < S32768.size a := fun v613 k0_hw26 => k0_hw26

def k0_chk27 (v618 : IVec S16 32) : Prop :=
  (∀ a x, ((![v618] : Fin 1 → IVec S16 32) a x).toNat < S32768.size a)
theorem k0_idx27_inb : ∀ (v618 : IVec S16 32) (k0_hw27 : k0_chk27 v618), ∀ a x, ((![v618] : Fin 1 → IVec S16 32) a x).toNat < S32768.size a := fun v618 k0_hw27 => k0_hw27

def k0_chk28 (v623 : IVec S16 32) : Prop :=
  (∀ a x, ((![v623] : Fin 1 → IVec S16 32) a x).toNat < S32768.size a)
theorem k0_idx28_inb : ∀ (v623 : IVec S16 32) (k0_hw28 : k0_chk28 v623), ∀ a x, ((![v623] : Fin 1 → IVec S16 32) a x).toNat < S32768.size a := fun v623 k0_hw28 => k0_hw28

def k0_chk29 (v628 : IVec S16 32) : Prop :=
  (∀ a x, ((![v628] : Fin 1 → IVec S16 32) a x).toNat < S32768.size a)
theorem k0_idx29_inb : ∀ (v628 : IVec S16 32) (k0_hw29 : k0_chk29 v628), ∀ a x, ((![v628] : Fin 1 → IVec S16 32) a x).toNat < S32768.size a := fun v628 k0_hw29 => k0_hw29

def k0_chk30 (v633 : IVec S16 32) : Prop :=
  (∀ a x, ((![v633] : Fin 1 → IVec S16 32) a x).toNat < S32768.size a)
theorem k0_idx30_inb : ∀ (v633 : IVec S16 32) (k0_hw30 : k0_chk30 v633), ∀ a x, ((![v633] : Fin 1 → IVec S16 32) a x).toNat < S32768.size a := fun v633 k0_hw30 => k0_hw30

def k0_chk31 (v638 : IVec S16 32) : Prop :=
  (∀ a x, ((![v638] : Fin 1 → IVec S16 32) a x).toNat < S32768.size a)
theorem k0_idx31_inb : ∀ (v638 : IVec S16 32) (k0_hw31 : k0_chk31 v638), ∀ a x, ((![v638] : Fin 1 → IVec S16 32) a x).toNat < S32768.size a := fun v638 k0_hw31 => k0_hw31

def k0_chk32 (v643 : IVec S16 32) : Prop :=
  (∀ a x, ((![v643] : Fin 1 → IVec S16 32) a x).toNat < S32768.size a)
theorem k0_idx32_inb : ∀ (v643 : IVec S16 32) (k0_hw32 : k0_chk32 v643), ∀ a x, ((![v643] : Fin 1 → IVec S16 32) a x).toNat < S32768.size a := fun v643 k0_hw32 => k0_hw32

def k0_chk33 (v648 : IVec S16 32) : Prop :=
  (∀ a x, ((![v648] : Fin 1 → IVec S16 32) a x).toNat < S32768.size a)
theorem k0_idx33_inb : ∀ (v648 : IVec S16 32) (k0_hw33 : k0_chk33 v648), ∀ a x, ((![v648] : Fin 1 → IVec S16 32) a x).toNat < S32768.size a := fun v648 k0_hw33 => k0_hw33

def k0_chk34 (v653 : IVec S16 32) : Prop :=
  (∀ a x, ((![v653] : Fin 1 → IVec S16 32) a x).toNat < S32768.size a)
theorem k0_idx34_inb : ∀ (v653 : IVec S16 32) (k0_hw34 : k0_chk34 v653), ∀ a x, ((![v653] : Fin 1 → IVec S16 32) a x).toNat < S32768.size a := fun v653 k0_hw34 => k0_hw34

def k0_chk35 (v658 : IVec S16 32) : Prop :=
  (∀ a x, ((![v658] : Fin 1 → IVec S16 32) a x).toNat < S32768.size a)
theorem k0_idx35_inb : ∀ (v658 : IVec S16 32) (k0_hw35 : k0_chk35 v658), ∀ a x, ((![v658] : Fin 1 → IVec S16 32) a x).toNat < S32768.size a := fun v658 k0_hw35 => k0_hw35

def k0_chk36 (v663 : IVec S16 32) : Prop :=
  (∀ a x, ((![v663] : Fin 1 → IVec S16 32) a x).toNat < S32768.size a)
theorem k0_idx36_inb : ∀ (v663 : IVec S16 32) (k0_hw36 : k0_chk36 v663), ∀ a x, ((![v663] : Fin 1 → IVec S16 32) a x).toNat < S32768.size a := fun v663 k0_hw36 => k0_hw36

def k0_chk37 (v668 : IVec S16 32) : Prop :=
  (∀ a x, ((![v668] : Fin 1 → IVec S16 32) a x).toNat < S32768.size a)
theorem k0_idx37_inb : ∀ (v668 : IVec S16 32) (k0_hw37 : k0_chk37 v668), ∀ a x, ((![v668] : Fin 1 → IVec S16 32) a x).toNat < S32768.size a := fun v668 k0_hw37 => k0_hw37

def k0_chk38 (v673 : IVec S16 32) : Prop :=
  (∀ a x, ((![v673] : Fin 1 → IVec S16 32) a x).toNat < S32768.size a)
theorem k0_idx38_inb : ∀ (v673 : IVec S16 32) (k0_hw38 : k0_chk38 v673), ∀ a x, ((![v673] : Fin 1 → IVec S16 32) a x).toNat < S32768.size a := fun v673 k0_hw38 => k0_hw38

def k0_chk39 (v678 : IVec S16 32) : Prop :=
  (∀ a x, ((![v678] : Fin 1 → IVec S16 32) a x).toNat < S32768.size a)
theorem k0_idx39_inb : ∀ (v678 : IVec S16 32) (k0_hw39 : k0_chk39 v678), ∀ a x, ((![v678] : Fin 1 → IVec S16 32) a x).toNat < S32768.size a := fun v678 k0_hw39 => k0_hw39

def k0_chk40 (v683 : IVec S16 32) : Prop :=
  (∀ a x, ((![v683] : Fin 1 → IVec S16 32) a x).toNat < S32768.size a)
theorem k0_idx40_inb : ∀ (v683 : IVec S16 32) (k0_hw40 : k0_chk40 v683), ∀ a x, ((![v683] : Fin 1 → IVec S16 32) a x).toNat < S32768.size a := fun v683 k0_hw40 => k0_hw40

def k0_chk41 (v688 : IVec S16 32) : Prop :=
  (∀ a x, ((![v688] : Fin 1 → IVec S16 32) a x).toNat < S32768.size a)
theorem k0_idx41_inb : ∀ (v688 : IVec S16 32) (k0_hw41 : k0_chk41 v688), ∀ a x, ((![v688] : Fin 1 → IVec S16 32) a x).toNat < S32768.size a := fun v688 k0_hw41 => k0_hw41

def k0_chk42 (v693 : IVec S16 32) : Prop :=
  (∀ a x, ((![v693] : Fin 1 → IVec S16 32) a x).toNat < S32768.size a)
theorem k0_idx42_inb : ∀ (v693 : IVec S16 32) (k0_hw42 : k0_chk42 v693), ∀ a x, ((![v693] : Fin 1 → IVec S16 32) a x).toNat < S32768.size a := fun v693 k0_hw42 => k0_hw42

def k0_chk43 (v698 : IVec S16 32) : Prop :=
  (∀ a x, ((![v698] : Fin 1 → IVec S16 32) a x).toNat < S32768.size a)
theorem k0_idx43_inb : ∀ (v698 : IVec S16 32) (k0_hw43 : k0_chk43 v698), ∀ a x, ((![v698] : Fin 1 → IVec S16 32) a x).toNat < S32768.size a := fun v698 k0_hw43 => k0_hw43

def k0_chk44 (v703 : IVec S16 32) : Prop :=
  (∀ a x, ((![v703] : Fin 1 → IVec S16 32) a x).toNat < S32768.size a)
theorem k0_idx44_inb : ∀ (v703 : IVec S16 32) (k0_hw44 : k0_chk44 v703), ∀ a x, ((![v703] : Fin 1 → IVec S16 32) a x).toNat < S32768.size a := fun v703 k0_hw44 => k0_hw44

def k0_chk45 (v708 : IVec S16 32) : Prop :=
  (∀ a x, ((![v708] : Fin 1 → IVec S16 32) a x).toNat < S32768.size a)
theorem k0_idx45_inb : ∀ (v708 : IVec S16 32) (k0_hw45 : k0_chk45 v708), ∀ a x, ((![v708] : Fin 1 → IVec S16 32) a x).toNat < S32768.size a := fun v708 k0_hw45 => k0_hw45

def k0_chk46 (v713 : IVec S16 32) : Prop :=
  (∀ a x, ((![v713] : Fin 1 → IVec S16 32) a x).toNat < S32768.size a)
theorem k0_idx46_inb : ∀ (v713 : IVec S16 32) (k0_hw46 : k0_chk46 v713), ∀ a x, ((![v713] : Fin 1 → IVec S16 32) a x).toNat < S32768.size a := fun v713 k0_hw46 => k0_hw46

def k0_chk47 (v718 : IVec S16 32) : Prop :=
  (∀ a x, ((![v718] : Fin 1 → IVec S16 32) a x).toNat < S32768.size a)
theorem k0_idx47_inb : ∀ (v718 : IVec S16 32) (k0_hw47 : k0_chk47 v718), ∀ a x, ((![v718] : Fin 1 → IVec S16 32) a x).toNat < S32768.size a := fun v718 k0_hw47 => k0_hw47

def k0_chk48 (v723 : IVec S16 32) : Prop :=
  (∀ a x, ((![v723] : Fin 1 → IVec S16 32) a x).toNat < S32768.size a)
theorem k0_idx48_inb : ∀ (v723 : IVec S16 32) (k0_hw48 : k0_chk48 v723), ∀ a x, ((![v723] : Fin 1 → IVec S16 32) a x).toNat < S32768.size a := fun v723 k0_hw48 => k0_hw48
def k0_off3 (k0_t2 : Fin k0_t2_loop.trips) (c0_i32_576 : BitVec 32) : Fin 1 → Nat :=
  let c0_i32_52 : BitVec 32 := 0#32
  let c1_i32_54 : BitVec 32 := 1#32
  let arg9 : BitVec 32 := Scf.iv c0_i32_52 c1_i32_54 k0_t2
  let c256_i32_574 : BitVec 32 := 256#32
  let v606 : BitVec 32 := Scalar.muli arg9 c256_i32_574
  let c128_i32_575 : BitVec 32 := 128#32
  let v744 : BitVec 32 := Scalar.addi v606 c128_i32_575
  let v745 : BitVec 32 := Scalar.addi v744 c0_i32_576
  let v746 : Index := Scalar.indexCast v745
  ![v746.toNat]
@[reducible] def k0_t3_loop : Scf.Loop 32 :=
  let c0_i32_81 : BitVec 32 := 0#32
  let c128_i32_82 : BitVec 32 := 128#32
  let v151 : BitVec 32 := Scalar.addi c0_i32_81 c128_i32_82
  let c1_i32_83 : BitVec 32 := 1#32
  ⟨c0_i32_81, v151, c1_i32_83⟩

def k0_chk49 (v608 : IVec S16 32) : Prop :=
  (∀ a x, ((![v608] : Fin 1 → IVec S16 32) a x).toNat < S32768.size a)
theorem k0_idx49_inb : ∀ (v608 : IVec S16 32) (k0_hw49 : k0_chk49 v608), ∀ a x, ((![v608] : Fin 1 → IVec S16 32) a x).toNat < S32768.size a := fun v608 k0_hw49 => k0_hw49

def k0_chk50 (v613 : IVec S16 32) : Prop :=
  (∀ a x, ((![v613] : Fin 1 → IVec S16 32) a x).toNat < S32768.size a)
theorem k0_idx50_inb : ∀ (v613 : IVec S16 32) (k0_hw50 : k0_chk50 v613), ∀ a x, ((![v613] : Fin 1 → IVec S16 32) a x).toNat < S32768.size a := fun v613 k0_hw50 => k0_hw50

def k0_chk51 (v618 : IVec S16 32) : Prop :=
  (∀ a x, ((![v618] : Fin 1 → IVec S16 32) a x).toNat < S32768.size a)
theorem k0_idx51_inb : ∀ (v618 : IVec S16 32) (k0_hw51 : k0_chk51 v618), ∀ a x, ((![v618] : Fin 1 → IVec S16 32) a x).toNat < S32768.size a := fun v618 k0_hw51 => k0_hw51

def k0_chk52 (v623 : IVec S16 32) : Prop :=
  (∀ a x, ((![v623] : Fin 1 → IVec S16 32) a x).toNat < S32768.size a)
theorem k0_idx52_inb : ∀ (v623 : IVec S16 32) (k0_hw52 : k0_chk52 v623), ∀ a x, ((![v623] : Fin 1 → IVec S16 32) a x).toNat < S32768.size a := fun v623 k0_hw52 => k0_hw52

def k0_chk53 (v628 : IVec S16 32) : Prop :=
  (∀ a x, ((![v628] : Fin 1 → IVec S16 32) a x).toNat < S32768.size a)
theorem k0_idx53_inb : ∀ (v628 : IVec S16 32) (k0_hw53 : k0_chk53 v628), ∀ a x, ((![v628] : Fin 1 → IVec S16 32) a x).toNat < S32768.size a := fun v628 k0_hw53 => k0_hw53

def k0_chk54 (v633 : IVec S16 32) : Prop :=
  (∀ a x, ((![v633] : Fin 1 → IVec S16 32) a x).toNat < S32768.size a)
theorem k0_idx54_inb : ∀ (v633 : IVec S16 32) (k0_hw54 : k0_chk54 v633), ∀ a x, ((![v633] : Fin 1 → IVec S16 32) a x).toNat < S32768.size a := fun v633 k0_hw54 => k0_hw54

def k0_chk55 (v638 : IVec S16 32) : Prop :=
  (∀ a x, ((![v638] : Fin 1 → IVec S16 32) a x).toNat < S32768.size a)
theorem k0_idx55_inb : ∀ (v638 : IVec S16 32) (k0_hw55 : k0_chk55 v638), ∀ a x, ((![v638] : Fin 1 → IVec S16 32) a x).toNat < S32768.size a := fun v638 k0_hw55 => k0_hw55

def k0_chk56 (v643 : IVec S16 32) : Prop :=
  (∀ a x, ((![v643] : Fin 1 → IVec S16 32) a x).toNat < S32768.size a)
theorem k0_idx56_inb : ∀ (v643 : IVec S16 32) (k0_hw56 : k0_chk56 v643), ∀ a x, ((![v643] : Fin 1 → IVec S16 32) a x).toNat < S32768.size a := fun v643 k0_hw56 => k0_hw56

def k0_chk57 (v648 : IVec S16 32) : Prop :=
  (∀ a x, ((![v648] : Fin 1 → IVec S16 32) a x).toNat < S32768.size a)
theorem k0_idx57_inb : ∀ (v648 : IVec S16 32) (k0_hw57 : k0_chk57 v648), ∀ a x, ((![v648] : Fin 1 → IVec S16 32) a x).toNat < S32768.size a := fun v648 k0_hw57 => k0_hw57

def k0_chk58 (v653 : IVec S16 32) : Prop :=
  (∀ a x, ((![v653] : Fin 1 → IVec S16 32) a x).toNat < S32768.size a)
theorem k0_idx58_inb : ∀ (v653 : IVec S16 32) (k0_hw58 : k0_chk58 v653), ∀ a x, ((![v653] : Fin 1 → IVec S16 32) a x).toNat < S32768.size a := fun v653 k0_hw58 => k0_hw58

def k0_chk59 (v658 : IVec S16 32) : Prop :=
  (∀ a x, ((![v658] : Fin 1 → IVec S16 32) a x).toNat < S32768.size a)
theorem k0_idx59_inb : ∀ (v658 : IVec S16 32) (k0_hw59 : k0_chk59 v658), ∀ a x, ((![v658] : Fin 1 → IVec S16 32) a x).toNat < S32768.size a := fun v658 k0_hw59 => k0_hw59

def k0_chk60 (v663 : IVec S16 32) : Prop :=
  (∀ a x, ((![v663] : Fin 1 → IVec S16 32) a x).toNat < S32768.size a)
theorem k0_idx60_inb : ∀ (v663 : IVec S16 32) (k0_hw60 : k0_chk60 v663), ∀ a x, ((![v663] : Fin 1 → IVec S16 32) a x).toNat < S32768.size a := fun v663 k0_hw60 => k0_hw60

def k0_chk61 (v668 : IVec S16 32) : Prop :=
  (∀ a x, ((![v668] : Fin 1 → IVec S16 32) a x).toNat < S32768.size a)
theorem k0_idx61_inb : ∀ (v668 : IVec S16 32) (k0_hw61 : k0_chk61 v668), ∀ a x, ((![v668] : Fin 1 → IVec S16 32) a x).toNat < S32768.size a := fun v668 k0_hw61 => k0_hw61

def k0_chk62 (v673 : IVec S16 32) : Prop :=
  (∀ a x, ((![v673] : Fin 1 → IVec S16 32) a x).toNat < S32768.size a)
theorem k0_idx62_inb : ∀ (v673 : IVec S16 32) (k0_hw62 : k0_chk62 v673), ∀ a x, ((![v673] : Fin 1 → IVec S16 32) a x).toNat < S32768.size a := fun v673 k0_hw62 => k0_hw62

def k0_chk63 (v678 : IVec S16 32) : Prop :=
  (∀ a x, ((![v678] : Fin 1 → IVec S16 32) a x).toNat < S32768.size a)
theorem k0_idx63_inb : ∀ (v678 : IVec S16 32) (k0_hw63 : k0_chk63 v678), ∀ a x, ((![v678] : Fin 1 → IVec S16 32) a x).toNat < S32768.size a := fun v678 k0_hw63 => k0_hw63

def k0_chk64 (v683 : IVec S16 32) : Prop :=
  (∀ a x, ((![v683] : Fin 1 → IVec S16 32) a x).toNat < S32768.size a)
theorem k0_idx64_inb : ∀ (v683 : IVec S16 32) (k0_hw64 : k0_chk64 v683), ∀ a x, ((![v683] : Fin 1 → IVec S16 32) a x).toNat < S32768.size a := fun v683 k0_hw64 => k0_hw64

def k0_chk65 (v688 : IVec S16 32) : Prop :=
  (∀ a x, ((![v688] : Fin 1 → IVec S16 32) a x).toNat < S32768.size a)
theorem k0_idx65_inb : ∀ (v688 : IVec S16 32) (k0_hw65 : k0_chk65 v688), ∀ a x, ((![v688] : Fin 1 → IVec S16 32) a x).toNat < S32768.size a := fun v688 k0_hw65 => k0_hw65

def k0_chk66 (v693 : IVec S16 32) : Prop :=
  (∀ a x, ((![v693] : Fin 1 → IVec S16 32) a x).toNat < S32768.size a)
theorem k0_idx66_inb : ∀ (v693 : IVec S16 32) (k0_hw66 : k0_chk66 v693), ∀ a x, ((![v693] : Fin 1 → IVec S16 32) a x).toNat < S32768.size a := fun v693 k0_hw66 => k0_hw66

def k0_chk67 (v698 : IVec S16 32) : Prop :=
  (∀ a x, ((![v698] : Fin 1 → IVec S16 32) a x).toNat < S32768.size a)
theorem k0_idx67_inb : ∀ (v698 : IVec S16 32) (k0_hw67 : k0_chk67 v698), ∀ a x, ((![v698] : Fin 1 → IVec S16 32) a x).toNat < S32768.size a := fun v698 k0_hw67 => k0_hw67

def k0_chk68 (v703 : IVec S16 32) : Prop :=
  (∀ a x, ((![v703] : Fin 1 → IVec S16 32) a x).toNat < S32768.size a)
theorem k0_idx68_inb : ∀ (v703 : IVec S16 32) (k0_hw68 : k0_chk68 v703), ∀ a x, ((![v703] : Fin 1 → IVec S16 32) a x).toNat < S32768.size a := fun v703 k0_hw68 => k0_hw68

def k0_chk69 (v708 : IVec S16 32) : Prop :=
  (∀ a x, ((![v708] : Fin 1 → IVec S16 32) a x).toNat < S32768.size a)
theorem k0_idx69_inb : ∀ (v708 : IVec S16 32) (k0_hw69 : k0_chk69 v708), ∀ a x, ((![v708] : Fin 1 → IVec S16 32) a x).toNat < S32768.size a := fun v708 k0_hw69 => k0_hw69

def k0_chk70 (v713 : IVec S16 32) : Prop :=
  (∀ a x, ((![v713] : Fin 1 → IVec S16 32) a x).toNat < S32768.size a)
theorem k0_idx70_inb : ∀ (v713 : IVec S16 32) (k0_hw70 : k0_chk70 v713), ∀ a x, ((![v713] : Fin 1 → IVec S16 32) a x).toNat < S32768.size a := fun v713 k0_hw70 => k0_hw70

def k0_chk71 (v718 : IVec S16 32) : Prop :=
  (∀ a x, ((![v718] : Fin 1 → IVec S16 32) a x).toNat < S32768.size a)
theorem k0_idx71_inb : ∀ (v718 : IVec S16 32) (k0_hw71 : k0_chk71 v718), ∀ a x, ((![v718] : Fin 1 → IVec S16 32) a x).toNat < S32768.size a := fun v718 k0_hw71 => k0_hw71

def k0_chk72 (v723 : IVec S16 32) : Prop :=
  (∀ a x, ((![v723] : Fin 1 → IVec S16 32) a x).toNat < S32768.size a)
theorem k0_idx72_inb : ∀ (v723 : IVec S16 32) (k0_hw72 : k0_chk72 v723), ∀ a x, ((![v723] : Fin 1 → IVec S16 32) a x).toNat < S32768.size a := fun v723 k0_hw72 => k0_hw72
def k0_off4 (k0_t3 : Fin k0_t3_loop.trips) (c0_i32_575 : BitVec 32) : Fin 1 → Nat :=
  let c0_i32_81 : BitVec 32 := 0#32
  let c1_i32_83 : BitVec 32 := 1#32
  let arg9 : BitVec 32 := Scf.iv c0_i32_81 c1_i32_83 k0_t3
  let c256_i32_574 : BitVec 32 := 256#32
  let v606 : BitVec 32 := Scalar.muli arg9 c256_i32_574
  let c192_i32 : BitVec 32 := 192#32
  let v744 : BitVec 32 := Scalar.addi v606 c192_i32
  let v745 : BitVec 32 := Scalar.addi v744 c0_i32_575
  let v746 : Index := Scalar.indexCast v745
  ![v746.toNat]
@[reducible] def k0_t4_loop : Scf.Loop 32 :=
  let c0_i32_138 : BitVec 32 := 0#32
  let c128_i32_139 : BitVec 32 := 128#32
  let v204 : BitVec 32 := Scalar.addi c0_i32_138 c128_i32_139
  let c1_i32_140 : BitVec 32 := 1#32
  ⟨c0_i32_138, v204, c1_i32_140⟩

def k0_chk73 (v608 : IVec S16 32) : Prop :=
  (∀ a x, ((![v608] : Fin 1 → IVec S16 32) a x).toNat < S32768.size a)
theorem k0_idx73_inb : ∀ (v608 : IVec S16 32) (k0_hw73 : k0_chk73 v608), ∀ a x, ((![v608] : Fin 1 → IVec S16 32) a x).toNat < S32768.size a := fun v608 k0_hw73 => k0_hw73

def k0_chk74 (v613 : IVec S16 32) : Prop :=
  (∀ a x, ((![v613] : Fin 1 → IVec S16 32) a x).toNat < S32768.size a)
theorem k0_idx74_inb : ∀ (v613 : IVec S16 32) (k0_hw74 : k0_chk74 v613), ∀ a x, ((![v613] : Fin 1 → IVec S16 32) a x).toNat < S32768.size a := fun v613 k0_hw74 => k0_hw74

def k0_chk75 (v618 : IVec S16 32) : Prop :=
  (∀ a x, ((![v618] : Fin 1 → IVec S16 32) a x).toNat < S32768.size a)
theorem k0_idx75_inb : ∀ (v618 : IVec S16 32) (k0_hw75 : k0_chk75 v618), ∀ a x, ((![v618] : Fin 1 → IVec S16 32) a x).toNat < S32768.size a := fun v618 k0_hw75 => k0_hw75

def k0_chk76 (v623 : IVec S16 32) : Prop :=
  (∀ a x, ((![v623] : Fin 1 → IVec S16 32) a x).toNat < S32768.size a)
theorem k0_idx76_inb : ∀ (v623 : IVec S16 32) (k0_hw76 : k0_chk76 v623), ∀ a x, ((![v623] : Fin 1 → IVec S16 32) a x).toNat < S32768.size a := fun v623 k0_hw76 => k0_hw76

def k0_chk77 (v628 : IVec S16 32) : Prop :=
  (∀ a x, ((![v628] : Fin 1 → IVec S16 32) a x).toNat < S32768.size a)
theorem k0_idx77_inb : ∀ (v628 : IVec S16 32) (k0_hw77 : k0_chk77 v628), ∀ a x, ((![v628] : Fin 1 → IVec S16 32) a x).toNat < S32768.size a := fun v628 k0_hw77 => k0_hw77

def k0_chk78 (v633 : IVec S16 32) : Prop :=
  (∀ a x, ((![v633] : Fin 1 → IVec S16 32) a x).toNat < S32768.size a)
theorem k0_idx78_inb : ∀ (v633 : IVec S16 32) (k0_hw78 : k0_chk78 v633), ∀ a x, ((![v633] : Fin 1 → IVec S16 32) a x).toNat < S32768.size a := fun v633 k0_hw78 => k0_hw78

def k0_chk79 (v638 : IVec S16 32) : Prop :=
  (∀ a x, ((![v638] : Fin 1 → IVec S16 32) a x).toNat < S32768.size a)
theorem k0_idx79_inb : ∀ (v638 : IVec S16 32) (k0_hw79 : k0_chk79 v638), ∀ a x, ((![v638] : Fin 1 → IVec S16 32) a x).toNat < S32768.size a := fun v638 k0_hw79 => k0_hw79

def k0_chk80 (v643 : IVec S16 32) : Prop :=
  (∀ a x, ((![v643] : Fin 1 → IVec S16 32) a x).toNat < S32768.size a)
theorem k0_idx80_inb : ∀ (v643 : IVec S16 32) (k0_hw80 : k0_chk80 v643), ∀ a x, ((![v643] : Fin 1 → IVec S16 32) a x).toNat < S32768.size a := fun v643 k0_hw80 => k0_hw80

def k0_chk81 (v648 : IVec S16 32) : Prop :=
  (∀ a x, ((![v648] : Fin 1 → IVec S16 32) a x).toNat < S32768.size a)
theorem k0_idx81_inb : ∀ (v648 : IVec S16 32) (k0_hw81 : k0_chk81 v648), ∀ a x, ((![v648] : Fin 1 → IVec S16 32) a x).toNat < S32768.size a := fun v648 k0_hw81 => k0_hw81

def k0_chk82 (v653 : IVec S16 32) : Prop :=
  (∀ a x, ((![v653] : Fin 1 → IVec S16 32) a x).toNat < S32768.size a)
theorem k0_idx82_inb : ∀ (v653 : IVec S16 32) (k0_hw82 : k0_chk82 v653), ∀ a x, ((![v653] : Fin 1 → IVec S16 32) a x).toNat < S32768.size a := fun v653 k0_hw82 => k0_hw82

def k0_chk83 (v658 : IVec S16 32) : Prop :=
  (∀ a x, ((![v658] : Fin 1 → IVec S16 32) a x).toNat < S32768.size a)
theorem k0_idx83_inb : ∀ (v658 : IVec S16 32) (k0_hw83 : k0_chk83 v658), ∀ a x, ((![v658] : Fin 1 → IVec S16 32) a x).toNat < S32768.size a := fun v658 k0_hw83 => k0_hw83

def k0_chk84 (v663 : IVec S16 32) : Prop :=
  (∀ a x, ((![v663] : Fin 1 → IVec S16 32) a x).toNat < S32768.size a)
theorem k0_idx84_inb : ∀ (v663 : IVec S16 32) (k0_hw84 : k0_chk84 v663), ∀ a x, ((![v663] : Fin 1 → IVec S16 32) a x).toNat < S32768.size a := fun v663 k0_hw84 => k0_hw84

def k0_chk85 (v668 : IVec S16 32) : Prop :=
  (∀ a x, ((![v668] : Fin 1 → IVec S16 32) a x).toNat < S32768.size a)
theorem k0_idx85_inb : ∀ (v668 : IVec S16 32) (k0_hw85 : k0_chk85 v668), ∀ a x, ((![v668] : Fin 1 → IVec S16 32) a x).toNat < S32768.size a := fun v668 k0_hw85 => k0_hw85

def k0_chk86 (v673 : IVec S16 32) : Prop :=
  (∀ a x, ((![v673] : Fin 1 → IVec S16 32) a x).toNat < S32768.size a)
theorem k0_idx86_inb : ∀ (v673 : IVec S16 32) (k0_hw86 : k0_chk86 v673), ∀ a x, ((![v673] : Fin 1 → IVec S16 32) a x).toNat < S32768.size a := fun v673 k0_hw86 => k0_hw86

def k0_chk87 (v678 : IVec S16 32) : Prop :=
  (∀ a x, ((![v678] : Fin 1 → IVec S16 32) a x).toNat < S32768.size a)
theorem k0_idx87_inb : ∀ (v678 : IVec S16 32) (k0_hw87 : k0_chk87 v678), ∀ a x, ((![v678] : Fin 1 → IVec S16 32) a x).toNat < S32768.size a := fun v678 k0_hw87 => k0_hw87

def k0_chk88 (v683 : IVec S16 32) : Prop :=
  (∀ a x, ((![v683] : Fin 1 → IVec S16 32) a x).toNat < S32768.size a)
theorem k0_idx88_inb : ∀ (v683 : IVec S16 32) (k0_hw88 : k0_chk88 v683), ∀ a x, ((![v683] : Fin 1 → IVec S16 32) a x).toNat < S32768.size a := fun v683 k0_hw88 => k0_hw88

def k0_chk89 (v688 : IVec S16 32) : Prop :=
  (∀ a x, ((![v688] : Fin 1 → IVec S16 32) a x).toNat < S32768.size a)
theorem k0_idx89_inb : ∀ (v688 : IVec S16 32) (k0_hw89 : k0_chk89 v688), ∀ a x, ((![v688] : Fin 1 → IVec S16 32) a x).toNat < S32768.size a := fun v688 k0_hw89 => k0_hw89

def k0_chk90 (v693 : IVec S16 32) : Prop :=
  (∀ a x, ((![v693] : Fin 1 → IVec S16 32) a x).toNat < S32768.size a)
theorem k0_idx90_inb : ∀ (v693 : IVec S16 32) (k0_hw90 : k0_chk90 v693), ∀ a x, ((![v693] : Fin 1 → IVec S16 32) a x).toNat < S32768.size a := fun v693 k0_hw90 => k0_hw90

def k0_chk91 (v698 : IVec S16 32) : Prop :=
  (∀ a x, ((![v698] : Fin 1 → IVec S16 32) a x).toNat < S32768.size a)
theorem k0_idx91_inb : ∀ (v698 : IVec S16 32) (k0_hw91 : k0_chk91 v698), ∀ a x, ((![v698] : Fin 1 → IVec S16 32) a x).toNat < S32768.size a := fun v698 k0_hw91 => k0_hw91

def k0_chk92 (v703 : IVec S16 32) : Prop :=
  (∀ a x, ((![v703] : Fin 1 → IVec S16 32) a x).toNat < S32768.size a)
theorem k0_idx92_inb : ∀ (v703 : IVec S16 32) (k0_hw92 : k0_chk92 v703), ∀ a x, ((![v703] : Fin 1 → IVec S16 32) a x).toNat < S32768.size a := fun v703 k0_hw92 => k0_hw92

def k0_chk93 (v708 : IVec S16 32) : Prop :=
  (∀ a x, ((![v708] : Fin 1 → IVec S16 32) a x).toNat < S32768.size a)
theorem k0_idx93_inb : ∀ (v708 : IVec S16 32) (k0_hw93 : k0_chk93 v708), ∀ a x, ((![v708] : Fin 1 → IVec S16 32) a x).toNat < S32768.size a := fun v708 k0_hw93 => k0_hw93

def k0_chk94 (v713 : IVec S16 32) : Prop :=
  (∀ a x, ((![v713] : Fin 1 → IVec S16 32) a x).toNat < S32768.size a)
theorem k0_idx94_inb : ∀ (v713 : IVec S16 32) (k0_hw94 : k0_chk94 v713), ∀ a x, ((![v713] : Fin 1 → IVec S16 32) a x).toNat < S32768.size a := fun v713 k0_hw94 => k0_hw94

def k0_chk95 (v718 : IVec S16 32) : Prop :=
  (∀ a x, ((![v718] : Fin 1 → IVec S16 32) a x).toNat < S32768.size a)
theorem k0_idx95_inb : ∀ (v718 : IVec S16 32) (k0_hw95 : k0_chk95 v718), ∀ a x, ((![v718] : Fin 1 → IVec S16 32) a x).toNat < S32768.size a := fun v718 k0_hw95 => k0_hw95

def k0_chk96 (v723 : IVec S16 32) : Prop :=
  (∀ a x, ((![v723] : Fin 1 → IVec S16 32) a x).toNat < S32768.size a)
theorem k0_idx96_inb : ∀ (v723 : IVec S16 32) (k0_hw96 : k0_chk96 v723), ∀ a x, ((![v723] : Fin 1 → IVec S16 32) a x).toNat < S32768.size a := fun v723 k0_hw96 => k0_hw96
def k0_off5 (k0_t4 : Fin k0_t4_loop.trips) (c0_i32_575 : BitVec 32) : Fin 1 → Nat :=
  let c0_i32_138 : BitVec 32 := 0#32
  let c1_i32_140 : BitVec 32 := 1#32
  let arg9 : BitVec 32 := Scf.iv c0_i32_138 c1_i32_140 k0_t4
  let c256_i32_574 : BitVec 32 := 256#32
  let v606 : BitVec 32 := Scalar.muli arg9 c256_i32_574
  let c64_i32 : BitVec 32 := 64#32
  let v744 : BitVec 32 := Scalar.addi v606 c64_i32
  let v745 : BitVec 32 := Scalar.addi v744 c0_i32_575
  let v746 : Index := Scalar.indexCast v745
  ![v746.toNat]
@[reducible] def k0_t5_loop : Scf.Loop 32 :=
  let c0_i32_191 : BitVec 32 := 0#32
  let c128_i32_192 : BitVec 32 := 128#32
  let v253 : BitVec 32 := Scalar.addi c0_i32_191 c128_i32_192
  let c1_i32_193 : BitVec 32 := 1#32
  ⟨c0_i32_191, v253, c1_i32_193⟩

def k0_chk97 (v608 : IVec S16 32) : Prop :=
  (∀ a x, ((![v608] : Fin 1 → IVec S16 32) a x).toNat < S32768.size a)
theorem k0_idx97_inb : ∀ (v608 : IVec S16 32) (k0_hw97 : k0_chk97 v608), ∀ a x, ((![v608] : Fin 1 → IVec S16 32) a x).toNat < S32768.size a := fun v608 k0_hw97 => k0_hw97

def k0_chk98 (v613 : IVec S16 32) : Prop :=
  (∀ a x, ((![v613] : Fin 1 → IVec S16 32) a x).toNat < S32768.size a)
theorem k0_idx98_inb : ∀ (v613 : IVec S16 32) (k0_hw98 : k0_chk98 v613), ∀ a x, ((![v613] : Fin 1 → IVec S16 32) a x).toNat < S32768.size a := fun v613 k0_hw98 => k0_hw98

def k0_chk99 (v618 : IVec S16 32) : Prop :=
  (∀ a x, ((![v618] : Fin 1 → IVec S16 32) a x).toNat < S32768.size a)
theorem k0_idx99_inb : ∀ (v618 : IVec S16 32) (k0_hw99 : k0_chk99 v618), ∀ a x, ((![v618] : Fin 1 → IVec S16 32) a x).toNat < S32768.size a := fun v618 k0_hw99 => k0_hw99

def k0_chk100 (v623 : IVec S16 32) : Prop :=
  (∀ a x, ((![v623] : Fin 1 → IVec S16 32) a x).toNat < S32768.size a)
theorem k0_idx100_inb : ∀ (v623 : IVec S16 32) (k0_hw100 : k0_chk100 v623), ∀ a x, ((![v623] : Fin 1 → IVec S16 32) a x).toNat < S32768.size a := fun v623 k0_hw100 => k0_hw100

def k0_chk101 (v628 : IVec S16 32) : Prop :=
  (∀ a x, ((![v628] : Fin 1 → IVec S16 32) a x).toNat < S32768.size a)
theorem k0_idx101_inb : ∀ (v628 : IVec S16 32) (k0_hw101 : k0_chk101 v628), ∀ a x, ((![v628] : Fin 1 → IVec S16 32) a x).toNat < S32768.size a := fun v628 k0_hw101 => k0_hw101

def k0_chk102 (v633 : IVec S16 32) : Prop :=
  (∀ a x, ((![v633] : Fin 1 → IVec S16 32) a x).toNat < S32768.size a)
theorem k0_idx102_inb : ∀ (v633 : IVec S16 32) (k0_hw102 : k0_chk102 v633), ∀ a x, ((![v633] : Fin 1 → IVec S16 32) a x).toNat < S32768.size a := fun v633 k0_hw102 => k0_hw102

def k0_chk103 (v638 : IVec S16 32) : Prop :=
  (∀ a x, ((![v638] : Fin 1 → IVec S16 32) a x).toNat < S32768.size a)
theorem k0_idx103_inb : ∀ (v638 : IVec S16 32) (k0_hw103 : k0_chk103 v638), ∀ a x, ((![v638] : Fin 1 → IVec S16 32) a x).toNat < S32768.size a := fun v638 k0_hw103 => k0_hw103

def k0_chk104 (v643 : IVec S16 32) : Prop :=
  (∀ a x, ((![v643] : Fin 1 → IVec S16 32) a x).toNat < S32768.size a)
theorem k0_idx104_inb : ∀ (v643 : IVec S16 32) (k0_hw104 : k0_chk104 v643), ∀ a x, ((![v643] : Fin 1 → IVec S16 32) a x).toNat < S32768.size a := fun v643 k0_hw104 => k0_hw104

def k0_chk105 (v648 : IVec S16 32) : Prop :=
  (∀ a x, ((![v648] : Fin 1 → IVec S16 32) a x).toNat < S32768.size a)
theorem k0_idx105_inb : ∀ (v648 : IVec S16 32) (k0_hw105 : k0_chk105 v648), ∀ a x, ((![v648] : Fin 1 → IVec S16 32) a x).toNat < S32768.size a := fun v648 k0_hw105 => k0_hw105

def k0_chk106 (v653 : IVec S16 32) : Prop :=
  (∀ a x, ((![v653] : Fin 1 → IVec S16 32) a x).toNat < S32768.size a)
theorem k0_idx106_inb : ∀ (v653 : IVec S16 32) (k0_hw106 : k0_chk106 v653), ∀ a x, ((![v653] : Fin 1 → IVec S16 32) a x).toNat < S32768.size a := fun v653 k0_hw106 => k0_hw106

def k0_chk107 (v658 : IVec S16 32) : Prop :=
  (∀ a x, ((![v658] : Fin 1 → IVec S16 32) a x).toNat < S32768.size a)
theorem k0_idx107_inb : ∀ (v658 : IVec S16 32) (k0_hw107 : k0_chk107 v658), ∀ a x, ((![v658] : Fin 1 → IVec S16 32) a x).toNat < S32768.size a := fun v658 k0_hw107 => k0_hw107

def k0_chk108 (v663 : IVec S16 32) : Prop :=
  (∀ a x, ((![v663] : Fin 1 → IVec S16 32) a x).toNat < S32768.size a)
theorem k0_idx108_inb : ∀ (v663 : IVec S16 32) (k0_hw108 : k0_chk108 v663), ∀ a x, ((![v663] : Fin 1 → IVec S16 32) a x).toNat < S32768.size a := fun v663 k0_hw108 => k0_hw108

def k0_chk109 (v668 : IVec S16 32) : Prop :=
  (∀ a x, ((![v668] : Fin 1 → IVec S16 32) a x).toNat < S32768.size a)
theorem k0_idx109_inb : ∀ (v668 : IVec S16 32) (k0_hw109 : k0_chk109 v668), ∀ a x, ((![v668] : Fin 1 → IVec S16 32) a x).toNat < S32768.size a := fun v668 k0_hw109 => k0_hw109

def k0_chk110 (v673 : IVec S16 32) : Prop :=
  (∀ a x, ((![v673] : Fin 1 → IVec S16 32) a x).toNat < S32768.size a)
theorem k0_idx110_inb : ∀ (v673 : IVec S16 32) (k0_hw110 : k0_chk110 v673), ∀ a x, ((![v673] : Fin 1 → IVec S16 32) a x).toNat < S32768.size a := fun v673 k0_hw110 => k0_hw110

def k0_chk111 (v678 : IVec S16 32) : Prop :=
  (∀ a x, ((![v678] : Fin 1 → IVec S16 32) a x).toNat < S32768.size a)
theorem k0_idx111_inb : ∀ (v678 : IVec S16 32) (k0_hw111 : k0_chk111 v678), ∀ a x, ((![v678] : Fin 1 → IVec S16 32) a x).toNat < S32768.size a := fun v678 k0_hw111 => k0_hw111

def k0_chk112 (v683 : IVec S16 32) : Prop :=
  (∀ a x, ((![v683] : Fin 1 → IVec S16 32) a x).toNat < S32768.size a)
theorem k0_idx112_inb : ∀ (v683 : IVec S16 32) (k0_hw112 : k0_chk112 v683), ∀ a x, ((![v683] : Fin 1 → IVec S16 32) a x).toNat < S32768.size a := fun v683 k0_hw112 => k0_hw112

def k0_chk113 (v688 : IVec S16 32) : Prop :=
  (∀ a x, ((![v688] : Fin 1 → IVec S16 32) a x).toNat < S32768.size a)
theorem k0_idx113_inb : ∀ (v688 : IVec S16 32) (k0_hw113 : k0_chk113 v688), ∀ a x, ((![v688] : Fin 1 → IVec S16 32) a x).toNat < S32768.size a := fun v688 k0_hw113 => k0_hw113

def k0_chk114 (v693 : IVec S16 32) : Prop :=
  (∀ a x, ((![v693] : Fin 1 → IVec S16 32) a x).toNat < S32768.size a)
theorem k0_idx114_inb : ∀ (v693 : IVec S16 32) (k0_hw114 : k0_chk114 v693), ∀ a x, ((![v693] : Fin 1 → IVec S16 32) a x).toNat < S32768.size a := fun v693 k0_hw114 => k0_hw114

def k0_chk115 (v698 : IVec S16 32) : Prop :=
  (∀ a x, ((![v698] : Fin 1 → IVec S16 32) a x).toNat < S32768.size a)
theorem k0_idx115_inb : ∀ (v698 : IVec S16 32) (k0_hw115 : k0_chk115 v698), ∀ a x, ((![v698] : Fin 1 → IVec S16 32) a x).toNat < S32768.size a := fun v698 k0_hw115 => k0_hw115

def k0_chk116 (v703 : IVec S16 32) : Prop :=
  (∀ a x, ((![v703] : Fin 1 → IVec S16 32) a x).toNat < S32768.size a)
theorem k0_idx116_inb : ∀ (v703 : IVec S16 32) (k0_hw116 : k0_chk116 v703), ∀ a x, ((![v703] : Fin 1 → IVec S16 32) a x).toNat < S32768.size a := fun v703 k0_hw116 => k0_hw116

def k0_chk117 (v708 : IVec S16 32) : Prop :=
  (∀ a x, ((![v708] : Fin 1 → IVec S16 32) a x).toNat < S32768.size a)
theorem k0_idx117_inb : ∀ (v708 : IVec S16 32) (k0_hw117 : k0_chk117 v708), ∀ a x, ((![v708] : Fin 1 → IVec S16 32) a x).toNat < S32768.size a := fun v708 k0_hw117 => k0_hw117

def k0_chk118 (v713 : IVec S16 32) : Prop :=
  (∀ a x, ((![v713] : Fin 1 → IVec S16 32) a x).toNat < S32768.size a)
theorem k0_idx118_inb : ∀ (v713 : IVec S16 32) (k0_hw118 : k0_chk118 v713), ∀ a x, ((![v713] : Fin 1 → IVec S16 32) a x).toNat < S32768.size a := fun v713 k0_hw118 => k0_hw118

def k0_chk119 (v718 : IVec S16 32) : Prop :=
  (∀ a x, ((![v718] : Fin 1 → IVec S16 32) a x).toNat < S32768.size a)
theorem k0_idx119_inb : ∀ (v718 : IVec S16 32) (k0_hw119 : k0_chk119 v718), ∀ a x, ((![v718] : Fin 1 → IVec S16 32) a x).toNat < S32768.size a := fun v718 k0_hw119 => k0_hw119

def k0_chk120 (v723 : IVec S16 32) : Prop :=
  (∀ a x, ((![v723] : Fin 1 → IVec S16 32) a x).toNat < S32768.size a)
theorem k0_idx120_inb : ∀ (v723 : IVec S16 32) (k0_hw120 : k0_chk120 v723), ∀ a x, ((![v723] : Fin 1 → IVec S16 32) a x).toNat < S32768.size a := fun v723 k0_hw120 => k0_hw120
def k0_off6 (k0_t5 : Fin k0_t5_loop.trips) (c0_i32_576 : BitVec 32) : Fin 1 → Nat :=
  let c0_i32_191 : BitVec 32 := 0#32
  let c1_i32_193 : BitVec 32 := 1#32
  let arg9 : BitVec 32 := Scf.iv c0_i32_191 c1_i32_193 k0_t5
  let c256_i32_574 : BitVec 32 := 256#32
  let v606 : BitVec 32 := Scalar.muli arg9 c256_i32_574
  let c128_i32_575 : BitVec 32 := 128#32
  let v744 : BitVec 32 := Scalar.addi v606 c128_i32_575
  let v745 : BitVec 32 := Scalar.addi v744 c0_i32_576
  let v746 : Index := Scalar.indexCast v745
  ![v746.toNat]
@[reducible] def k0_t6_loop : Scf.Loop 32 :=
  let c0_i32_244 : BitVec 32 := 0#32
  let c128_i32_245 : BitVec 32 := 128#32
  let v302 : BitVec 32 := Scalar.addi c0_i32_244 c128_i32_245
  let c1_i32_246 : BitVec 32 := 1#32
  ⟨c0_i32_244, v302, c1_i32_246⟩

def k0_chk121 (v608 : IVec S16 32) : Prop :=
  (∀ a x, ((![v608] : Fin 1 → IVec S16 32) a x).toNat < S32768.size a)
theorem k0_idx121_inb : ∀ (v608 : IVec S16 32) (k0_hw121 : k0_chk121 v608), ∀ a x, ((![v608] : Fin 1 → IVec S16 32) a x).toNat < S32768.size a := fun v608 k0_hw121 => k0_hw121

def k0_chk122 (v613 : IVec S16 32) : Prop :=
  (∀ a x, ((![v613] : Fin 1 → IVec S16 32) a x).toNat < S32768.size a)
theorem k0_idx122_inb : ∀ (v613 : IVec S16 32) (k0_hw122 : k0_chk122 v613), ∀ a x, ((![v613] : Fin 1 → IVec S16 32) a x).toNat < S32768.size a := fun v613 k0_hw122 => k0_hw122

def k0_chk123 (v618 : IVec S16 32) : Prop :=
  (∀ a x, ((![v618] : Fin 1 → IVec S16 32) a x).toNat < S32768.size a)
theorem k0_idx123_inb : ∀ (v618 : IVec S16 32) (k0_hw123 : k0_chk123 v618), ∀ a x, ((![v618] : Fin 1 → IVec S16 32) a x).toNat < S32768.size a := fun v618 k0_hw123 => k0_hw123

def k0_chk124 (v623 : IVec S16 32) : Prop :=
  (∀ a x, ((![v623] : Fin 1 → IVec S16 32) a x).toNat < S32768.size a)
theorem k0_idx124_inb : ∀ (v623 : IVec S16 32) (k0_hw124 : k0_chk124 v623), ∀ a x, ((![v623] : Fin 1 → IVec S16 32) a x).toNat < S32768.size a := fun v623 k0_hw124 => k0_hw124

def k0_chk125 (v628 : IVec S16 32) : Prop :=
  (∀ a x, ((![v628] : Fin 1 → IVec S16 32) a x).toNat < S32768.size a)
theorem k0_idx125_inb : ∀ (v628 : IVec S16 32) (k0_hw125 : k0_chk125 v628), ∀ a x, ((![v628] : Fin 1 → IVec S16 32) a x).toNat < S32768.size a := fun v628 k0_hw125 => k0_hw125

def k0_chk126 (v633 : IVec S16 32) : Prop :=
  (∀ a x, ((![v633] : Fin 1 → IVec S16 32) a x).toNat < S32768.size a)
theorem k0_idx126_inb : ∀ (v633 : IVec S16 32) (k0_hw126 : k0_chk126 v633), ∀ a x, ((![v633] : Fin 1 → IVec S16 32) a x).toNat < S32768.size a := fun v633 k0_hw126 => k0_hw126

def k0_chk127 (v638 : IVec S16 32) : Prop :=
  (∀ a x, ((![v638] : Fin 1 → IVec S16 32) a x).toNat < S32768.size a)
theorem k0_idx127_inb : ∀ (v638 : IVec S16 32) (k0_hw127 : k0_chk127 v638), ∀ a x, ((![v638] : Fin 1 → IVec S16 32) a x).toNat < S32768.size a := fun v638 k0_hw127 => k0_hw127

def k0_chk128 (v643 : IVec S16 32) : Prop :=
  (∀ a x, ((![v643] : Fin 1 → IVec S16 32) a x).toNat < S32768.size a)
theorem k0_idx128_inb : ∀ (v643 : IVec S16 32) (k0_hw128 : k0_chk128 v643), ∀ a x, ((![v643] : Fin 1 → IVec S16 32) a x).toNat < S32768.size a := fun v643 k0_hw128 => k0_hw128

def k0_chk129 (v648 : IVec S16 32) : Prop :=
  (∀ a x, ((![v648] : Fin 1 → IVec S16 32) a x).toNat < S32768.size a)
theorem k0_idx129_inb : ∀ (v648 : IVec S16 32) (k0_hw129 : k0_chk129 v648), ∀ a x, ((![v648] : Fin 1 → IVec S16 32) a x).toNat < S32768.size a := fun v648 k0_hw129 => k0_hw129

def k0_chk130 (v653 : IVec S16 32) : Prop :=
  (∀ a x, ((![v653] : Fin 1 → IVec S16 32) a x).toNat < S32768.size a)
theorem k0_idx130_inb : ∀ (v653 : IVec S16 32) (k0_hw130 : k0_chk130 v653), ∀ a x, ((![v653] : Fin 1 → IVec S16 32) a x).toNat < S32768.size a := fun v653 k0_hw130 => k0_hw130

def k0_chk131 (v658 : IVec S16 32) : Prop :=
  (∀ a x, ((![v658] : Fin 1 → IVec S16 32) a x).toNat < S32768.size a)
theorem k0_idx131_inb : ∀ (v658 : IVec S16 32) (k0_hw131 : k0_chk131 v658), ∀ a x, ((![v658] : Fin 1 → IVec S16 32) a x).toNat < S32768.size a := fun v658 k0_hw131 => k0_hw131

def k0_chk132 (v663 : IVec S16 32) : Prop :=
  (∀ a x, ((![v663] : Fin 1 → IVec S16 32) a x).toNat < S32768.size a)
theorem k0_idx132_inb : ∀ (v663 : IVec S16 32) (k0_hw132 : k0_chk132 v663), ∀ a x, ((![v663] : Fin 1 → IVec S16 32) a x).toNat < S32768.size a := fun v663 k0_hw132 => k0_hw132

def k0_chk133 (v668 : IVec S16 32) : Prop :=
  (∀ a x, ((![v668] : Fin 1 → IVec S16 32) a x).toNat < S32768.size a)
theorem k0_idx133_inb : ∀ (v668 : IVec S16 32) (k0_hw133 : k0_chk133 v668), ∀ a x, ((![v668] : Fin 1 → IVec S16 32) a x).toNat < S32768.size a := fun v668 k0_hw133 => k0_hw133

def k0_chk134 (v673 : IVec S16 32) : Prop :=
  (∀ a x, ((![v673] : Fin 1 → IVec S16 32) a x).toNat < S32768.size a)
theorem k0_idx134_inb : ∀ (v673 : IVec S16 32) (k0_hw134 : k0_chk134 v673), ∀ a x, ((![v673] : Fin 1 → IVec S16 32) a x).toNat < S32768.size a := fun v673 k0_hw134 => k0_hw134

def k0_chk135 (v678 : IVec S16 32) : Prop :=
  (∀ a x, ((![v678] : Fin 1 → IVec S16 32) a x).toNat < S32768.size a)
theorem k0_idx135_inb : ∀ (v678 : IVec S16 32) (k0_hw135 : k0_chk135 v678), ∀ a x, ((![v678] : Fin 1 → IVec S16 32) a x).toNat < S32768.size a := fun v678 k0_hw135 => k0_hw135

def k0_chk136 (v683 : IVec S16 32) : Prop :=
  (∀ a x, ((![v683] : Fin 1 → IVec S16 32) a x).toNat < S32768.size a)
theorem k0_idx136_inb : ∀ (v683 : IVec S16 32) (k0_hw136 : k0_chk136 v683), ∀ a x, ((![v683] : Fin 1 → IVec S16 32) a x).toNat < S32768.size a := fun v683 k0_hw136 => k0_hw136

def k0_chk137 (v688 : IVec S16 32) : Prop :=
  (∀ a x, ((![v688] : Fin 1 → IVec S16 32) a x).toNat < S32768.size a)
theorem k0_idx137_inb : ∀ (v688 : IVec S16 32) (k0_hw137 : k0_chk137 v688), ∀ a x, ((![v688] : Fin 1 → IVec S16 32) a x).toNat < S32768.size a := fun v688 k0_hw137 => k0_hw137

def k0_chk138 (v693 : IVec S16 32) : Prop :=
  (∀ a x, ((![v693] : Fin 1 → IVec S16 32) a x).toNat < S32768.size a)
theorem k0_idx138_inb : ∀ (v693 : IVec S16 32) (k0_hw138 : k0_chk138 v693), ∀ a x, ((![v693] : Fin 1 → IVec S16 32) a x).toNat < S32768.size a := fun v693 k0_hw138 => k0_hw138

def k0_chk139 (v698 : IVec S16 32) : Prop :=
  (∀ a x, ((![v698] : Fin 1 → IVec S16 32) a x).toNat < S32768.size a)
theorem k0_idx139_inb : ∀ (v698 : IVec S16 32) (k0_hw139 : k0_chk139 v698), ∀ a x, ((![v698] : Fin 1 → IVec S16 32) a x).toNat < S32768.size a := fun v698 k0_hw139 => k0_hw139

def k0_chk140 (v703 : IVec S16 32) : Prop :=
  (∀ a x, ((![v703] : Fin 1 → IVec S16 32) a x).toNat < S32768.size a)
theorem k0_idx140_inb : ∀ (v703 : IVec S16 32) (k0_hw140 : k0_chk140 v703), ∀ a x, ((![v703] : Fin 1 → IVec S16 32) a x).toNat < S32768.size a := fun v703 k0_hw140 => k0_hw140

def k0_chk141 (v708 : IVec S16 32) : Prop :=
  (∀ a x, ((![v708] : Fin 1 → IVec S16 32) a x).toNat < S32768.size a)
theorem k0_idx141_inb : ∀ (v708 : IVec S16 32) (k0_hw141 : k0_chk141 v708), ∀ a x, ((![v708] : Fin 1 → IVec S16 32) a x).toNat < S32768.size a := fun v708 k0_hw141 => k0_hw141

def k0_chk142 (v713 : IVec S16 32) : Prop :=
  (∀ a x, ((![v713] : Fin 1 → IVec S16 32) a x).toNat < S32768.size a)
theorem k0_idx142_inb : ∀ (v713 : IVec S16 32) (k0_hw142 : k0_chk142 v713), ∀ a x, ((![v713] : Fin 1 → IVec S16 32) a x).toNat < S32768.size a := fun v713 k0_hw142 => k0_hw142

def k0_chk143 (v718 : IVec S16 32) : Prop :=
  (∀ a x, ((![v718] : Fin 1 → IVec S16 32) a x).toNat < S32768.size a)
theorem k0_idx143_inb : ∀ (v718 : IVec S16 32) (k0_hw143 : k0_chk143 v718), ∀ a x, ((![v718] : Fin 1 → IVec S16 32) a x).toNat < S32768.size a := fun v718 k0_hw143 => k0_hw143

def k0_chk144 (v723 : IVec S16 32) : Prop :=
  (∀ a x, ((![v723] : Fin 1 → IVec S16 32) a x).toNat < S32768.size a)
theorem k0_idx144_inb : ∀ (v723 : IVec S16 32) (k0_hw144 : k0_chk144 v723), ∀ a x, ((![v723] : Fin 1 → IVec S16 32) a x).toNat < S32768.size a := fun v723 k0_hw144 => k0_hw144
def k0_off7 (k0_t6 : Fin k0_t6_loop.trips) (c0_i32_575 : BitVec 32) : Fin 1 → Nat :=
  let c0_i32_244 : BitVec 32 := 0#32
  let c1_i32_246 : BitVec 32 := 1#32
  let arg9 : BitVec 32 := Scf.iv c0_i32_244 c1_i32_246 k0_t6
  let c256_i32_574 : BitVec 32 := 256#32
  let v606 : BitVec 32 := Scalar.muli arg9 c256_i32_574
  let c192_i32 : BitVec 32 := 192#32
  let v744 : BitVec 32 := Scalar.addi v606 c192_i32
  let v745 : BitVec 32 := Scalar.addi v744 c0_i32_575
  let v746 : Index := Scalar.indexCast v745
  ![v746.toNat]
@[reducible] def k0_t7_loop : Scf.Loop 32 :=
  let c0_i32_301 : BitVec 32 := 0#32
  let c128_i32_302 : BitVec 32 := 128#32
  let v355 : BitVec 32 := Scalar.addi c0_i32_301 c128_i32_302
  let c1_i32_303 : BitVec 32 := 1#32
  ⟨c0_i32_301, v355, c1_i32_303⟩

def k0_chk145 (v608 : IVec S16 32) : Prop :=
  (∀ a x, ((![v608] : Fin 1 → IVec S16 32) a x).toNat < S32768.size a)
theorem k0_idx145_inb : ∀ (v608 : IVec S16 32) (k0_hw145 : k0_chk145 v608), ∀ a x, ((![v608] : Fin 1 → IVec S16 32) a x).toNat < S32768.size a := fun v608 k0_hw145 => k0_hw145

def k0_chk146 (v613 : IVec S16 32) : Prop :=
  (∀ a x, ((![v613] : Fin 1 → IVec S16 32) a x).toNat < S32768.size a)
theorem k0_idx146_inb : ∀ (v613 : IVec S16 32) (k0_hw146 : k0_chk146 v613), ∀ a x, ((![v613] : Fin 1 → IVec S16 32) a x).toNat < S32768.size a := fun v613 k0_hw146 => k0_hw146

def k0_chk147 (v618 : IVec S16 32) : Prop :=
  (∀ a x, ((![v618] : Fin 1 → IVec S16 32) a x).toNat < S32768.size a)
theorem k0_idx147_inb : ∀ (v618 : IVec S16 32) (k0_hw147 : k0_chk147 v618), ∀ a x, ((![v618] : Fin 1 → IVec S16 32) a x).toNat < S32768.size a := fun v618 k0_hw147 => k0_hw147

def k0_chk148 (v623 : IVec S16 32) : Prop :=
  (∀ a x, ((![v623] : Fin 1 → IVec S16 32) a x).toNat < S32768.size a)
theorem k0_idx148_inb : ∀ (v623 : IVec S16 32) (k0_hw148 : k0_chk148 v623), ∀ a x, ((![v623] : Fin 1 → IVec S16 32) a x).toNat < S32768.size a := fun v623 k0_hw148 => k0_hw148

def k0_chk149 (v628 : IVec S16 32) : Prop :=
  (∀ a x, ((![v628] : Fin 1 → IVec S16 32) a x).toNat < S32768.size a)
theorem k0_idx149_inb : ∀ (v628 : IVec S16 32) (k0_hw149 : k0_chk149 v628), ∀ a x, ((![v628] : Fin 1 → IVec S16 32) a x).toNat < S32768.size a := fun v628 k0_hw149 => k0_hw149

def k0_chk150 (v633 : IVec S16 32) : Prop :=
  (∀ a x, ((![v633] : Fin 1 → IVec S16 32) a x).toNat < S32768.size a)
theorem k0_idx150_inb : ∀ (v633 : IVec S16 32) (k0_hw150 : k0_chk150 v633), ∀ a x, ((![v633] : Fin 1 → IVec S16 32) a x).toNat < S32768.size a := fun v633 k0_hw150 => k0_hw150

def k0_chk151 (v638 : IVec S16 32) : Prop :=
  (∀ a x, ((![v638] : Fin 1 → IVec S16 32) a x).toNat < S32768.size a)
theorem k0_idx151_inb : ∀ (v638 : IVec S16 32) (k0_hw151 : k0_chk151 v638), ∀ a x, ((![v638] : Fin 1 → IVec S16 32) a x).toNat < S32768.size a := fun v638 k0_hw151 => k0_hw151

def k0_chk152 (v643 : IVec S16 32) : Prop :=
  (∀ a x, ((![v643] : Fin 1 → IVec S16 32) a x).toNat < S32768.size a)
theorem k0_idx152_inb : ∀ (v643 : IVec S16 32) (k0_hw152 : k0_chk152 v643), ∀ a x, ((![v643] : Fin 1 → IVec S16 32) a x).toNat < S32768.size a := fun v643 k0_hw152 => k0_hw152

def k0_chk153 (v648 : IVec S16 32) : Prop :=
  (∀ a x, ((![v648] : Fin 1 → IVec S16 32) a x).toNat < S32768.size a)
theorem k0_idx153_inb : ∀ (v648 : IVec S16 32) (k0_hw153 : k0_chk153 v648), ∀ a x, ((![v648] : Fin 1 → IVec S16 32) a x).toNat < S32768.size a := fun v648 k0_hw153 => k0_hw153

def k0_chk154 (v653 : IVec S16 32) : Prop :=
  (∀ a x, ((![v653] : Fin 1 → IVec S16 32) a x).toNat < S32768.size a)
theorem k0_idx154_inb : ∀ (v653 : IVec S16 32) (k0_hw154 : k0_chk154 v653), ∀ a x, ((![v653] : Fin 1 → IVec S16 32) a x).toNat < S32768.size a := fun v653 k0_hw154 => k0_hw154

def k0_chk155 (v658 : IVec S16 32) : Prop :=
  (∀ a x, ((![v658] : Fin 1 → IVec S16 32) a x).toNat < S32768.size a)
theorem k0_idx155_inb : ∀ (v658 : IVec S16 32) (k0_hw155 : k0_chk155 v658), ∀ a x, ((![v658] : Fin 1 → IVec S16 32) a x).toNat < S32768.size a := fun v658 k0_hw155 => k0_hw155

def k0_chk156 (v663 : IVec S16 32) : Prop :=
  (∀ a x, ((![v663] : Fin 1 → IVec S16 32) a x).toNat < S32768.size a)
theorem k0_idx156_inb : ∀ (v663 : IVec S16 32) (k0_hw156 : k0_chk156 v663), ∀ a x, ((![v663] : Fin 1 → IVec S16 32) a x).toNat < S32768.size a := fun v663 k0_hw156 => k0_hw156

def k0_chk157 (v668 : IVec S16 32) : Prop :=
  (∀ a x, ((![v668] : Fin 1 → IVec S16 32) a x).toNat < S32768.size a)
theorem k0_idx157_inb : ∀ (v668 : IVec S16 32) (k0_hw157 : k0_chk157 v668), ∀ a x, ((![v668] : Fin 1 → IVec S16 32) a x).toNat < S32768.size a := fun v668 k0_hw157 => k0_hw157

def k0_chk158 (v673 : IVec S16 32) : Prop :=
  (∀ a x, ((![v673] : Fin 1 → IVec S16 32) a x).toNat < S32768.size a)
theorem k0_idx158_inb : ∀ (v673 : IVec S16 32) (k0_hw158 : k0_chk158 v673), ∀ a x, ((![v673] : Fin 1 → IVec S16 32) a x).toNat < S32768.size a := fun v673 k0_hw158 => k0_hw158

def k0_chk159 (v678 : IVec S16 32) : Prop :=
  (∀ a x, ((![v678] : Fin 1 → IVec S16 32) a x).toNat < S32768.size a)
theorem k0_idx159_inb : ∀ (v678 : IVec S16 32) (k0_hw159 : k0_chk159 v678), ∀ a x, ((![v678] : Fin 1 → IVec S16 32) a x).toNat < S32768.size a := fun v678 k0_hw159 => k0_hw159

def k0_chk160 (v683 : IVec S16 32) : Prop :=
  (∀ a x, ((![v683] : Fin 1 → IVec S16 32) a x).toNat < S32768.size a)
theorem k0_idx160_inb : ∀ (v683 : IVec S16 32) (k0_hw160 : k0_chk160 v683), ∀ a x, ((![v683] : Fin 1 → IVec S16 32) a x).toNat < S32768.size a := fun v683 k0_hw160 => k0_hw160

def k0_chk161 (v688 : IVec S16 32) : Prop :=
  (∀ a x, ((![v688] : Fin 1 → IVec S16 32) a x).toNat < S32768.size a)
theorem k0_idx161_inb : ∀ (v688 : IVec S16 32) (k0_hw161 : k0_chk161 v688), ∀ a x, ((![v688] : Fin 1 → IVec S16 32) a x).toNat < S32768.size a := fun v688 k0_hw161 => k0_hw161

def k0_chk162 (v693 : IVec S16 32) : Prop :=
  (∀ a x, ((![v693] : Fin 1 → IVec S16 32) a x).toNat < S32768.size a)
theorem k0_idx162_inb : ∀ (v693 : IVec S16 32) (k0_hw162 : k0_chk162 v693), ∀ a x, ((![v693] : Fin 1 → IVec S16 32) a x).toNat < S32768.size a := fun v693 k0_hw162 => k0_hw162

def k0_chk163 (v698 : IVec S16 32) : Prop :=
  (∀ a x, ((![v698] : Fin 1 → IVec S16 32) a x).toNat < S32768.size a)
theorem k0_idx163_inb : ∀ (v698 : IVec S16 32) (k0_hw163 : k0_chk163 v698), ∀ a x, ((![v698] : Fin 1 → IVec S16 32) a x).toNat < S32768.size a := fun v698 k0_hw163 => k0_hw163

def k0_chk164 (v703 : IVec S16 32) : Prop :=
  (∀ a x, ((![v703] : Fin 1 → IVec S16 32) a x).toNat < S32768.size a)
theorem k0_idx164_inb : ∀ (v703 : IVec S16 32) (k0_hw164 : k0_chk164 v703), ∀ a x, ((![v703] : Fin 1 → IVec S16 32) a x).toNat < S32768.size a := fun v703 k0_hw164 => k0_hw164

def k0_chk165 (v708 : IVec S16 32) : Prop :=
  (∀ a x, ((![v708] : Fin 1 → IVec S16 32) a x).toNat < S32768.size a)
theorem k0_idx165_inb : ∀ (v708 : IVec S16 32) (k0_hw165 : k0_chk165 v708), ∀ a x, ((![v708] : Fin 1 → IVec S16 32) a x).toNat < S32768.size a := fun v708 k0_hw165 => k0_hw165

def k0_chk166 (v713 : IVec S16 32) : Prop :=
  (∀ a x, ((![v713] : Fin 1 → IVec S16 32) a x).toNat < S32768.size a)
theorem k0_idx166_inb : ∀ (v713 : IVec S16 32) (k0_hw166 : k0_chk166 v713), ∀ a x, ((![v713] : Fin 1 → IVec S16 32) a x).toNat < S32768.size a := fun v713 k0_hw166 => k0_hw166

def k0_chk167 (v718 : IVec S16 32) : Prop :=
  (∀ a x, ((![v718] : Fin 1 → IVec S16 32) a x).toNat < S32768.size a)
theorem k0_idx167_inb : ∀ (v718 : IVec S16 32) (k0_hw167 : k0_chk167 v718), ∀ a x, ((![v718] : Fin 1 → IVec S16 32) a x).toNat < S32768.size a := fun v718 k0_hw167 => k0_hw167

def k0_chk168 (v723 : IVec S16 32) : Prop :=
  (∀ a x, ((![v723] : Fin 1 → IVec S16 32) a x).toNat < S32768.size a)
theorem k0_idx168_inb : ∀ (v723 : IVec S16 32) (k0_hw168 : k0_chk168 v723), ∀ a x, ((![v723] : Fin 1 → IVec S16 32) a x).toNat < S32768.size a := fun v723 k0_hw168 => k0_hw168
def k0_off8 (k0_t7 : Fin k0_t7_loop.trips) (c0_i32_575 : BitVec 32) : Fin 1 → Nat :=
  let c0_i32_301 : BitVec 32 := 0#32
  let c1_i32_303 : BitVec 32 := 1#32
  let arg9 : BitVec 32 := Scf.iv c0_i32_301 c1_i32_303 k0_t7
  let c256_i32_574 : BitVec 32 := 256#32
  let v606 : BitVec 32 := Scalar.muli arg9 c256_i32_574
  let c64_i32 : BitVec 32 := 64#32
  let v744 : BitVec 32 := Scalar.addi v606 c64_i32
  let v745 : BitVec 32 := Scalar.addi v744 c0_i32_575
  let v746 : Index := Scalar.indexCast v745
  ![v746.toNat]
@[reducible] def k0_t8_loop : Scf.Loop 32 :=
  let c0_i32_354 : BitVec 32 := 0#32
  let c128_i32_355 : BitVec 32 := 128#32
  let v404 : BitVec 32 := Scalar.addi c0_i32_354 c128_i32_355
  let c1_i32_356 : BitVec 32 := 1#32
  ⟨c0_i32_354, v404, c1_i32_356⟩

def k0_chk169 (v608 : IVec S16 32) : Prop :=
  (∀ a x, ((![v608] : Fin 1 → IVec S16 32) a x).toNat < S32768.size a)
theorem k0_idx169_inb : ∀ (v608 : IVec S16 32) (k0_hw169 : k0_chk169 v608), ∀ a x, ((![v608] : Fin 1 → IVec S16 32) a x).toNat < S32768.size a := fun v608 k0_hw169 => k0_hw169

def k0_chk170 (v613 : IVec S16 32) : Prop :=
  (∀ a x, ((![v613] : Fin 1 → IVec S16 32) a x).toNat < S32768.size a)
theorem k0_idx170_inb : ∀ (v613 : IVec S16 32) (k0_hw170 : k0_chk170 v613), ∀ a x, ((![v613] : Fin 1 → IVec S16 32) a x).toNat < S32768.size a := fun v613 k0_hw170 => k0_hw170

def k0_chk171 (v618 : IVec S16 32) : Prop :=
  (∀ a x, ((![v618] : Fin 1 → IVec S16 32) a x).toNat < S32768.size a)
theorem k0_idx171_inb : ∀ (v618 : IVec S16 32) (k0_hw171 : k0_chk171 v618), ∀ a x, ((![v618] : Fin 1 → IVec S16 32) a x).toNat < S32768.size a := fun v618 k0_hw171 => k0_hw171

def k0_chk172 (v623 : IVec S16 32) : Prop :=
  (∀ a x, ((![v623] : Fin 1 → IVec S16 32) a x).toNat < S32768.size a)
theorem k0_idx172_inb : ∀ (v623 : IVec S16 32) (k0_hw172 : k0_chk172 v623), ∀ a x, ((![v623] : Fin 1 → IVec S16 32) a x).toNat < S32768.size a := fun v623 k0_hw172 => k0_hw172

def k0_chk173 (v628 : IVec S16 32) : Prop :=
  (∀ a x, ((![v628] : Fin 1 → IVec S16 32) a x).toNat < S32768.size a)
theorem k0_idx173_inb : ∀ (v628 : IVec S16 32) (k0_hw173 : k0_chk173 v628), ∀ a x, ((![v628] : Fin 1 → IVec S16 32) a x).toNat < S32768.size a := fun v628 k0_hw173 => k0_hw173

def k0_chk174 (v633 : IVec S16 32) : Prop :=
  (∀ a x, ((![v633] : Fin 1 → IVec S16 32) a x).toNat < S32768.size a)
theorem k0_idx174_inb : ∀ (v633 : IVec S16 32) (k0_hw174 : k0_chk174 v633), ∀ a x, ((![v633] : Fin 1 → IVec S16 32) a x).toNat < S32768.size a := fun v633 k0_hw174 => k0_hw174

def k0_chk175 (v638 : IVec S16 32) : Prop :=
  (∀ a x, ((![v638] : Fin 1 → IVec S16 32) a x).toNat < S32768.size a)
theorem k0_idx175_inb : ∀ (v638 : IVec S16 32) (k0_hw175 : k0_chk175 v638), ∀ a x, ((![v638] : Fin 1 → IVec S16 32) a x).toNat < S32768.size a := fun v638 k0_hw175 => k0_hw175

def k0_chk176 (v643 : IVec S16 32) : Prop :=
  (∀ a x, ((![v643] : Fin 1 → IVec S16 32) a x).toNat < S32768.size a)
theorem k0_idx176_inb : ∀ (v643 : IVec S16 32) (k0_hw176 : k0_chk176 v643), ∀ a x, ((![v643] : Fin 1 → IVec S16 32) a x).toNat < S32768.size a := fun v643 k0_hw176 => k0_hw176

def k0_chk177 (v648 : IVec S16 32) : Prop :=
  (∀ a x, ((![v648] : Fin 1 → IVec S16 32) a x).toNat < S32768.size a)
theorem k0_idx177_inb : ∀ (v648 : IVec S16 32) (k0_hw177 : k0_chk177 v648), ∀ a x, ((![v648] : Fin 1 → IVec S16 32) a x).toNat < S32768.size a := fun v648 k0_hw177 => k0_hw177

def k0_chk178 (v653 : IVec S16 32) : Prop :=
  (∀ a x, ((![v653] : Fin 1 → IVec S16 32) a x).toNat < S32768.size a)
theorem k0_idx178_inb : ∀ (v653 : IVec S16 32) (k0_hw178 : k0_chk178 v653), ∀ a x, ((![v653] : Fin 1 → IVec S16 32) a x).toNat < S32768.size a := fun v653 k0_hw178 => k0_hw178

def k0_chk179 (v658 : IVec S16 32) : Prop :=
  (∀ a x, ((![v658] : Fin 1 → IVec S16 32) a x).toNat < S32768.size a)
theorem k0_idx179_inb : ∀ (v658 : IVec S16 32) (k0_hw179 : k0_chk179 v658), ∀ a x, ((![v658] : Fin 1 → IVec S16 32) a x).toNat < S32768.size a := fun v658 k0_hw179 => k0_hw179

def k0_chk180 (v663 : IVec S16 32) : Prop :=
  (∀ a x, ((![v663] : Fin 1 → IVec S16 32) a x).toNat < S32768.size a)
theorem k0_idx180_inb : ∀ (v663 : IVec S16 32) (k0_hw180 : k0_chk180 v663), ∀ a x, ((![v663] : Fin 1 → IVec S16 32) a x).toNat < S32768.size a := fun v663 k0_hw180 => k0_hw180

def k0_chk181 (v668 : IVec S16 32) : Prop :=
  (∀ a x, ((![v668] : Fin 1 → IVec S16 32) a x).toNat < S32768.size a)
theorem k0_idx181_inb : ∀ (v668 : IVec S16 32) (k0_hw181 : k0_chk181 v668), ∀ a x, ((![v668] : Fin 1 → IVec S16 32) a x).toNat < S32768.size a := fun v668 k0_hw181 => k0_hw181

def k0_chk182 (v673 : IVec S16 32) : Prop :=
  (∀ a x, ((![v673] : Fin 1 → IVec S16 32) a x).toNat < S32768.size a)
theorem k0_idx182_inb : ∀ (v673 : IVec S16 32) (k0_hw182 : k0_chk182 v673), ∀ a x, ((![v673] : Fin 1 → IVec S16 32) a x).toNat < S32768.size a := fun v673 k0_hw182 => k0_hw182

def k0_chk183 (v678 : IVec S16 32) : Prop :=
  (∀ a x, ((![v678] : Fin 1 → IVec S16 32) a x).toNat < S32768.size a)
theorem k0_idx183_inb : ∀ (v678 : IVec S16 32) (k0_hw183 : k0_chk183 v678), ∀ a x, ((![v678] : Fin 1 → IVec S16 32) a x).toNat < S32768.size a := fun v678 k0_hw183 => k0_hw183

def k0_chk184 (v683 : IVec S16 32) : Prop :=
  (∀ a x, ((![v683] : Fin 1 → IVec S16 32) a x).toNat < S32768.size a)
theorem k0_idx184_inb : ∀ (v683 : IVec S16 32) (k0_hw184 : k0_chk184 v683), ∀ a x, ((![v683] : Fin 1 → IVec S16 32) a x).toNat < S32768.size a := fun v683 k0_hw184 => k0_hw184

def k0_chk185 (v688 : IVec S16 32) : Prop :=
  (∀ a x, ((![v688] : Fin 1 → IVec S16 32) a x).toNat < S32768.size a)
theorem k0_idx185_inb : ∀ (v688 : IVec S16 32) (k0_hw185 : k0_chk185 v688), ∀ a x, ((![v688] : Fin 1 → IVec S16 32) a x).toNat < S32768.size a := fun v688 k0_hw185 => k0_hw185

def k0_chk186 (v693 : IVec S16 32) : Prop :=
  (∀ a x, ((![v693] : Fin 1 → IVec S16 32) a x).toNat < S32768.size a)
theorem k0_idx186_inb : ∀ (v693 : IVec S16 32) (k0_hw186 : k0_chk186 v693), ∀ a x, ((![v693] : Fin 1 → IVec S16 32) a x).toNat < S32768.size a := fun v693 k0_hw186 => k0_hw186

def k0_chk187 (v698 : IVec S16 32) : Prop :=
  (∀ a x, ((![v698] : Fin 1 → IVec S16 32) a x).toNat < S32768.size a)
theorem k0_idx187_inb : ∀ (v698 : IVec S16 32) (k0_hw187 : k0_chk187 v698), ∀ a x, ((![v698] : Fin 1 → IVec S16 32) a x).toNat < S32768.size a := fun v698 k0_hw187 => k0_hw187

def k0_chk188 (v703 : IVec S16 32) : Prop :=
  (∀ a x, ((![v703] : Fin 1 → IVec S16 32) a x).toNat < S32768.size a)
theorem k0_idx188_inb : ∀ (v703 : IVec S16 32) (k0_hw188 : k0_chk188 v703), ∀ a x, ((![v703] : Fin 1 → IVec S16 32) a x).toNat < S32768.size a := fun v703 k0_hw188 => k0_hw188

def k0_chk189 (v708 : IVec S16 32) : Prop :=
  (∀ a x, ((![v708] : Fin 1 → IVec S16 32) a x).toNat < S32768.size a)
theorem k0_idx189_inb : ∀ (v708 : IVec S16 32) (k0_hw189 : k0_chk189 v708), ∀ a x, ((![v708] : Fin 1 → IVec S16 32) a x).toNat < S32768.size a := fun v708 k0_hw189 => k0_hw189

def k0_chk190 (v713 : IVec S16 32) : Prop :=
  (∀ a x, ((![v713] : Fin 1 → IVec S16 32) a x).toNat < S32768.size a)
theorem k0_idx190_inb : ∀ (v713 : IVec S16 32) (k0_hw190 : k0_chk190 v713), ∀ a x, ((![v713] : Fin 1 → IVec S16 32) a x).toNat < S32768.size a := fun v713 k0_hw190 => k0_hw190

def k0_chk191 (v718 : IVec S16 32) : Prop :=
  (∀ a x, ((![v718] : Fin 1 → IVec S16 32) a x).toNat < S32768.size a)
theorem k0_idx191_inb : ∀ (v718 : IVec S16 32) (k0_hw191 : k0_chk191 v718), ∀ a x, ((![v718] : Fin 1 → IVec S16 32) a x).toNat < S32768.size a := fun v718 k0_hw191 => k0_hw191

def k0_chk192 (v723 : IVec S16 32) : Prop :=
  (∀ a x, ((![v723] : Fin 1 → IVec S16 32) a x).toNat < S32768.size a)
theorem k0_idx192_inb : ∀ (v723 : IVec S16 32) (k0_hw192 : k0_chk192 v723), ∀ a x, ((![v723] : Fin 1 → IVec S16 32) a x).toNat < S32768.size a := fun v723 k0_hw192 => k0_hw192
def k0_off9 (k0_t8 : Fin k0_t8_loop.trips) (c0_i32_576 : BitVec 32) : Fin 1 → Nat :=
  let c0_i32_354 : BitVec 32 := 0#32
  let c1_i32_356 : BitVec 32 := 1#32
  let arg9 : BitVec 32 := Scf.iv c0_i32_354 c1_i32_356 k0_t8
  let c256_i32_574 : BitVec 32 := 256#32
  let v606 : BitVec 32 := Scalar.muli arg9 c256_i32_574
  let c128_i32_575 : BitVec 32 := 128#32
  let v744 : BitVec 32 := Scalar.addi v606 c128_i32_575
  let v745 : BitVec 32 := Scalar.addi v744 c0_i32_576
  let v746 : Index := Scalar.indexCast v745
  ![v746.toNat]
@[reducible] def k0_t9_loop : Scf.Loop 32 :=
  let c0_i32_407 : BitVec 32 := 0#32
  let c128_i32_408 : BitVec 32 := 128#32
  let v453 : BitVec 32 := Scalar.addi c0_i32_407 c128_i32_408
  let c1_i32_409 : BitVec 32 := 1#32
  ⟨c0_i32_407, v453, c1_i32_409⟩

def k0_chk193 (v608 : IVec S16 32) : Prop :=
  (∀ a x, ((![v608] : Fin 1 → IVec S16 32) a x).toNat < S32768.size a)
theorem k0_idx193_inb : ∀ (v608 : IVec S16 32) (k0_hw193 : k0_chk193 v608), ∀ a x, ((![v608] : Fin 1 → IVec S16 32) a x).toNat < S32768.size a := fun v608 k0_hw193 => k0_hw193

def k0_chk194 (v613 : IVec S16 32) : Prop :=
  (∀ a x, ((![v613] : Fin 1 → IVec S16 32) a x).toNat < S32768.size a)
theorem k0_idx194_inb : ∀ (v613 : IVec S16 32) (k0_hw194 : k0_chk194 v613), ∀ a x, ((![v613] : Fin 1 → IVec S16 32) a x).toNat < S32768.size a := fun v613 k0_hw194 => k0_hw194

def k0_chk195 (v618 : IVec S16 32) : Prop :=
  (∀ a x, ((![v618] : Fin 1 → IVec S16 32) a x).toNat < S32768.size a)
theorem k0_idx195_inb : ∀ (v618 : IVec S16 32) (k0_hw195 : k0_chk195 v618), ∀ a x, ((![v618] : Fin 1 → IVec S16 32) a x).toNat < S32768.size a := fun v618 k0_hw195 => k0_hw195

def k0_chk196 (v623 : IVec S16 32) : Prop :=
  (∀ a x, ((![v623] : Fin 1 → IVec S16 32) a x).toNat < S32768.size a)
theorem k0_idx196_inb : ∀ (v623 : IVec S16 32) (k0_hw196 : k0_chk196 v623), ∀ a x, ((![v623] : Fin 1 → IVec S16 32) a x).toNat < S32768.size a := fun v623 k0_hw196 => k0_hw196

def k0_chk197 (v628 : IVec S16 32) : Prop :=
  (∀ a x, ((![v628] : Fin 1 → IVec S16 32) a x).toNat < S32768.size a)
theorem k0_idx197_inb : ∀ (v628 : IVec S16 32) (k0_hw197 : k0_chk197 v628), ∀ a x, ((![v628] : Fin 1 → IVec S16 32) a x).toNat < S32768.size a := fun v628 k0_hw197 => k0_hw197

def k0_chk198 (v633 : IVec S16 32) : Prop :=
  (∀ a x, ((![v633] : Fin 1 → IVec S16 32) a x).toNat < S32768.size a)
theorem k0_idx198_inb : ∀ (v633 : IVec S16 32) (k0_hw198 : k0_chk198 v633), ∀ a x, ((![v633] : Fin 1 → IVec S16 32) a x).toNat < S32768.size a := fun v633 k0_hw198 => k0_hw198

def k0_chk199 (v638 : IVec S16 32) : Prop :=
  (∀ a x, ((![v638] : Fin 1 → IVec S16 32) a x).toNat < S32768.size a)
theorem k0_idx199_inb : ∀ (v638 : IVec S16 32) (k0_hw199 : k0_chk199 v638), ∀ a x, ((![v638] : Fin 1 → IVec S16 32) a x).toNat < S32768.size a := fun v638 k0_hw199 => k0_hw199

def k0_chk200 (v643 : IVec S16 32) : Prop :=
  (∀ a x, ((![v643] : Fin 1 → IVec S16 32) a x).toNat < S32768.size a)
theorem k0_idx200_inb : ∀ (v643 : IVec S16 32) (k0_hw200 : k0_chk200 v643), ∀ a x, ((![v643] : Fin 1 → IVec S16 32) a x).toNat < S32768.size a := fun v643 k0_hw200 => k0_hw200

def k0_chk201 (v648 : IVec S16 32) : Prop :=
  (∀ a x, ((![v648] : Fin 1 → IVec S16 32) a x).toNat < S32768.size a)
theorem k0_idx201_inb : ∀ (v648 : IVec S16 32) (k0_hw201 : k0_chk201 v648), ∀ a x, ((![v648] : Fin 1 → IVec S16 32) a x).toNat < S32768.size a := fun v648 k0_hw201 => k0_hw201

def k0_chk202 (v653 : IVec S16 32) : Prop :=
  (∀ a x, ((![v653] : Fin 1 → IVec S16 32) a x).toNat < S32768.size a)
theorem k0_idx202_inb : ∀ (v653 : IVec S16 32) (k0_hw202 : k0_chk202 v653), ∀ a x, ((![v653] : Fin 1 → IVec S16 32) a x).toNat < S32768.size a := fun v653 k0_hw202 => k0_hw202

def k0_chk203 (v658 : IVec S16 32) : Prop :=
  (∀ a x, ((![v658] : Fin 1 → IVec S16 32) a x).toNat < S32768.size a)
theorem k0_idx203_inb : ∀ (v658 : IVec S16 32) (k0_hw203 : k0_chk203 v658), ∀ a x, ((![v658] : Fin 1 → IVec S16 32) a x).toNat < S32768.size a := fun v658 k0_hw203 => k0_hw203

def k0_chk204 (v663 : IVec S16 32) : Prop :=
  (∀ a x, ((![v663] : Fin 1 → IVec S16 32) a x).toNat < S32768.size a)
theorem k0_idx204_inb : ∀ (v663 : IVec S16 32) (k0_hw204 : k0_chk204 v663), ∀ a x, ((![v663] : Fin 1 → IVec S16 32) a x).toNat < S32768.size a := fun v663 k0_hw204 => k0_hw204

def k0_chk205 (v668 : IVec S16 32) : Prop :=
  (∀ a x, ((![v668] : Fin 1 → IVec S16 32) a x).toNat < S32768.size a)
theorem k0_idx205_inb : ∀ (v668 : IVec S16 32) (k0_hw205 : k0_chk205 v668), ∀ a x, ((![v668] : Fin 1 → IVec S16 32) a x).toNat < S32768.size a := fun v668 k0_hw205 => k0_hw205

def k0_chk206 (v673 : IVec S16 32) : Prop :=
  (∀ a x, ((![v673] : Fin 1 → IVec S16 32) a x).toNat < S32768.size a)
theorem k0_idx206_inb : ∀ (v673 : IVec S16 32) (k0_hw206 : k0_chk206 v673), ∀ a x, ((![v673] : Fin 1 → IVec S16 32) a x).toNat < S32768.size a := fun v673 k0_hw206 => k0_hw206

def k0_chk207 (v678 : IVec S16 32) : Prop :=
  (∀ a x, ((![v678] : Fin 1 → IVec S16 32) a x).toNat < S32768.size a)
theorem k0_idx207_inb : ∀ (v678 : IVec S16 32) (k0_hw207 : k0_chk207 v678), ∀ a x, ((![v678] : Fin 1 → IVec S16 32) a x).toNat < S32768.size a := fun v678 k0_hw207 => k0_hw207

def k0_chk208 (v683 : IVec S16 32) : Prop :=
  (∀ a x, ((![v683] : Fin 1 → IVec S16 32) a x).toNat < S32768.size a)
theorem k0_idx208_inb : ∀ (v683 : IVec S16 32) (k0_hw208 : k0_chk208 v683), ∀ a x, ((![v683] : Fin 1 → IVec S16 32) a x).toNat < S32768.size a := fun v683 k0_hw208 => k0_hw208

def k0_chk209 (v688 : IVec S16 32) : Prop :=
  (∀ a x, ((![v688] : Fin 1 → IVec S16 32) a x).toNat < S32768.size a)
theorem k0_idx209_inb : ∀ (v688 : IVec S16 32) (k0_hw209 : k0_chk209 v688), ∀ a x, ((![v688] : Fin 1 → IVec S16 32) a x).toNat < S32768.size a := fun v688 k0_hw209 => k0_hw209

def k0_chk210 (v693 : IVec S16 32) : Prop :=
  (∀ a x, ((![v693] : Fin 1 → IVec S16 32) a x).toNat < S32768.size a)
theorem k0_idx210_inb : ∀ (v693 : IVec S16 32) (k0_hw210 : k0_chk210 v693), ∀ a x, ((![v693] : Fin 1 → IVec S16 32) a x).toNat < S32768.size a := fun v693 k0_hw210 => k0_hw210

def k0_chk211 (v698 : IVec S16 32) : Prop :=
  (∀ a x, ((![v698] : Fin 1 → IVec S16 32) a x).toNat < S32768.size a)
theorem k0_idx211_inb : ∀ (v698 : IVec S16 32) (k0_hw211 : k0_chk211 v698), ∀ a x, ((![v698] : Fin 1 → IVec S16 32) a x).toNat < S32768.size a := fun v698 k0_hw211 => k0_hw211

def k0_chk212 (v703 : IVec S16 32) : Prop :=
  (∀ a x, ((![v703] : Fin 1 → IVec S16 32) a x).toNat < S32768.size a)
theorem k0_idx212_inb : ∀ (v703 : IVec S16 32) (k0_hw212 : k0_chk212 v703), ∀ a x, ((![v703] : Fin 1 → IVec S16 32) a x).toNat < S32768.size a := fun v703 k0_hw212 => k0_hw212

def k0_chk213 (v708 : IVec S16 32) : Prop :=
  (∀ a x, ((![v708] : Fin 1 → IVec S16 32) a x).toNat < S32768.size a)
theorem k0_idx213_inb : ∀ (v708 : IVec S16 32) (k0_hw213 : k0_chk213 v708), ∀ a x, ((![v708] : Fin 1 → IVec S16 32) a x).toNat < S32768.size a := fun v708 k0_hw213 => k0_hw213

def k0_chk214 (v713 : IVec S16 32) : Prop :=
  (∀ a x, ((![v713] : Fin 1 → IVec S16 32) a x).toNat < S32768.size a)
theorem k0_idx214_inb : ∀ (v713 : IVec S16 32) (k0_hw214 : k0_chk214 v713), ∀ a x, ((![v713] : Fin 1 → IVec S16 32) a x).toNat < S32768.size a := fun v713 k0_hw214 => k0_hw214

def k0_chk215 (v718 : IVec S16 32) : Prop :=
  (∀ a x, ((![v718] : Fin 1 → IVec S16 32) a x).toNat < S32768.size a)
theorem k0_idx215_inb : ∀ (v718 : IVec S16 32) (k0_hw215 : k0_chk215 v718), ∀ a x, ((![v718] : Fin 1 → IVec S16 32) a x).toNat < S32768.size a := fun v718 k0_hw215 => k0_hw215

def k0_chk216 (v723 : IVec S16 32) : Prop :=
  (∀ a x, ((![v723] : Fin 1 → IVec S16 32) a x).toNat < S32768.size a)
theorem k0_idx216_inb : ∀ (v723 : IVec S16 32) (k0_hw216 : k0_chk216 v723), ∀ a x, ((![v723] : Fin 1 → IVec S16 32) a x).toNat < S32768.size a := fun v723 k0_hw216 => k0_hw216
def k0_off10 (k0_t9 : Fin k0_t9_loop.trips) (c0_i32_575 : BitVec 32) : Fin 1 → Nat :=
  let c0_i32_407 : BitVec 32 := 0#32
  let c1_i32_409 : BitVec 32 := 1#32
  let arg9 : BitVec 32 := Scf.iv c0_i32_407 c1_i32_409 k0_t9
  let c256_i32_574 : BitVec 32 := 256#32
  let v606 : BitVec 32 := Scalar.muli arg9 c256_i32_574
  let c192_i32 : BitVec 32 := 192#32
  let v744 : BitVec 32 := Scalar.addi v606 c192_i32
  let v745 : BitVec 32 := Scalar.addi v744 c0_i32_575
  let v746 : Index := Scalar.indexCast v745
  ![v746.toNat]
@[reducible] def k0_t10_loop : Scf.Loop 32 :=
  let c0_i32_463 : BitVec 32 := 0#32
  let c128_i32_464 : BitVec 32 := 128#32
  let v506 : BitVec 32 := Scalar.addi c0_i32_463 c128_i32_464
  let c1_i32_465 : BitVec 32 := 1#32
  ⟨c0_i32_463, v506, c1_i32_465⟩

def k0_chk217 (v608 : IVec S16 32) : Prop :=
  (∀ a x, ((![v608] : Fin 1 → IVec S16 32) a x).toNat < S32768.size a)
theorem k0_idx217_inb : ∀ (v608 : IVec S16 32) (k0_hw217 : k0_chk217 v608), ∀ a x, ((![v608] : Fin 1 → IVec S16 32) a x).toNat < S32768.size a := fun v608 k0_hw217 => k0_hw217

def k0_chk218 (v613 : IVec S16 32) : Prop :=
  (∀ a x, ((![v613] : Fin 1 → IVec S16 32) a x).toNat < S32768.size a)
theorem k0_idx218_inb : ∀ (v613 : IVec S16 32) (k0_hw218 : k0_chk218 v613), ∀ a x, ((![v613] : Fin 1 → IVec S16 32) a x).toNat < S32768.size a := fun v613 k0_hw218 => k0_hw218

def k0_chk219 (v618 : IVec S16 32) : Prop :=
  (∀ a x, ((![v618] : Fin 1 → IVec S16 32) a x).toNat < S32768.size a)
theorem k0_idx219_inb : ∀ (v618 : IVec S16 32) (k0_hw219 : k0_chk219 v618), ∀ a x, ((![v618] : Fin 1 → IVec S16 32) a x).toNat < S32768.size a := fun v618 k0_hw219 => k0_hw219

def k0_chk220 (v623 : IVec S16 32) : Prop :=
  (∀ a x, ((![v623] : Fin 1 → IVec S16 32) a x).toNat < S32768.size a)
theorem k0_idx220_inb : ∀ (v623 : IVec S16 32) (k0_hw220 : k0_chk220 v623), ∀ a x, ((![v623] : Fin 1 → IVec S16 32) a x).toNat < S32768.size a := fun v623 k0_hw220 => k0_hw220

def k0_chk221 (v628 : IVec S16 32) : Prop :=
  (∀ a x, ((![v628] : Fin 1 → IVec S16 32) a x).toNat < S32768.size a)
theorem k0_idx221_inb : ∀ (v628 : IVec S16 32) (k0_hw221 : k0_chk221 v628), ∀ a x, ((![v628] : Fin 1 → IVec S16 32) a x).toNat < S32768.size a := fun v628 k0_hw221 => k0_hw221

def k0_chk222 (v633 : IVec S16 32) : Prop :=
  (∀ a x, ((![v633] : Fin 1 → IVec S16 32) a x).toNat < S32768.size a)
theorem k0_idx222_inb : ∀ (v633 : IVec S16 32) (k0_hw222 : k0_chk222 v633), ∀ a x, ((![v633] : Fin 1 → IVec S16 32) a x).toNat < S32768.size a := fun v633 k0_hw222 => k0_hw222

def k0_chk223 (v638 : IVec S16 32) : Prop :=
  (∀ a x, ((![v638] : Fin 1 → IVec S16 32) a x).toNat < S32768.size a)
theorem k0_idx223_inb : ∀ (v638 : IVec S16 32) (k0_hw223 : k0_chk223 v638), ∀ a x, ((![v638] : Fin 1 → IVec S16 32) a x).toNat < S32768.size a := fun v638 k0_hw223 => k0_hw223

def k0_chk224 (v643 : IVec S16 32) : Prop :=
  (∀ a x, ((![v643] : Fin 1 → IVec S16 32) a x).toNat < S32768.size a)
theorem k0_idx224_inb : ∀ (v643 : IVec S16 32) (k0_hw224 : k0_chk224 v643), ∀ a x, ((![v643] : Fin 1 → IVec S16 32) a x).toNat < S32768.size a := fun v643 k0_hw224 => k0_hw224

def k0_chk225 (v648 : IVec S16 32) : Prop :=
  (∀ a x, ((![v648] : Fin 1 → IVec S16 32) a x).toNat < S32768.size a)
theorem k0_idx225_inb : ∀ (v648 : IVec S16 32) (k0_hw225 : k0_chk225 v648), ∀ a x, ((![v648] : Fin 1 → IVec S16 32) a x).toNat < S32768.size a := fun v648 k0_hw225 => k0_hw225

def k0_chk226 (v653 : IVec S16 32) : Prop :=
  (∀ a x, ((![v653] : Fin 1 → IVec S16 32) a x).toNat < S32768.size a)
theorem k0_idx226_inb : ∀ (v653 : IVec S16 32) (k0_hw226 : k0_chk226 v653), ∀ a x, ((![v653] : Fin 1 → IVec S16 32) a x).toNat < S32768.size a := fun v653 k0_hw226 => k0_hw226

def k0_chk227 (v658 : IVec S16 32) : Prop :=
  (∀ a x, ((![v658] : Fin 1 → IVec S16 32) a x).toNat < S32768.size a)
theorem k0_idx227_inb : ∀ (v658 : IVec S16 32) (k0_hw227 : k0_chk227 v658), ∀ a x, ((![v658] : Fin 1 → IVec S16 32) a x).toNat < S32768.size a := fun v658 k0_hw227 => k0_hw227

def k0_chk228 (v663 : IVec S16 32) : Prop :=
  (∀ a x, ((![v663] : Fin 1 → IVec S16 32) a x).toNat < S32768.size a)
theorem k0_idx228_inb : ∀ (v663 : IVec S16 32) (k0_hw228 : k0_chk228 v663), ∀ a x, ((![v663] : Fin 1 → IVec S16 32) a x).toNat < S32768.size a := fun v663 k0_hw228 => k0_hw228

def k0_chk229 (v668 : IVec S16 32) : Prop :=
  (∀ a x, ((![v668] : Fin 1 → IVec S16 32) a x).toNat < S32768.size a)
theorem k0_idx229_inb : ∀ (v668 : IVec S16 32) (k0_hw229 : k0_chk229 v668), ∀ a x, ((![v668] : Fin 1 → IVec S16 32) a x).toNat < S32768.size a := fun v668 k0_hw229 => k0_hw229

def k0_chk230 (v673 : IVec S16 32) : Prop :=
  (∀ a x, ((![v673] : Fin 1 → IVec S16 32) a x).toNat < S32768.size a)
theorem k0_idx230_inb : ∀ (v673 : IVec S16 32) (k0_hw230 : k0_chk230 v673), ∀ a x, ((![v673] : Fin 1 → IVec S16 32) a x).toNat < S32768.size a := fun v673 k0_hw230 => k0_hw230

def k0_chk231 (v678 : IVec S16 32) : Prop :=
  (∀ a x, ((![v678] : Fin 1 → IVec S16 32) a x).toNat < S32768.size a)
theorem k0_idx231_inb : ∀ (v678 : IVec S16 32) (k0_hw231 : k0_chk231 v678), ∀ a x, ((![v678] : Fin 1 → IVec S16 32) a x).toNat < S32768.size a := fun v678 k0_hw231 => k0_hw231

def k0_chk232 (v683 : IVec S16 32) : Prop :=
  (∀ a x, ((![v683] : Fin 1 → IVec S16 32) a x).toNat < S32768.size a)
theorem k0_idx232_inb : ∀ (v683 : IVec S16 32) (k0_hw232 : k0_chk232 v683), ∀ a x, ((![v683] : Fin 1 → IVec S16 32) a x).toNat < S32768.size a := fun v683 k0_hw232 => k0_hw232

def k0_chk233 (v688 : IVec S16 32) : Prop :=
  (∀ a x, ((![v688] : Fin 1 → IVec S16 32) a x).toNat < S32768.size a)
theorem k0_idx233_inb : ∀ (v688 : IVec S16 32) (k0_hw233 : k0_chk233 v688), ∀ a x, ((![v688] : Fin 1 → IVec S16 32) a x).toNat < S32768.size a := fun v688 k0_hw233 => k0_hw233

def k0_chk234 (v693 : IVec S16 32) : Prop :=
  (∀ a x, ((![v693] : Fin 1 → IVec S16 32) a x).toNat < S32768.size a)
theorem k0_idx234_inb : ∀ (v693 : IVec S16 32) (k0_hw234 : k0_chk234 v693), ∀ a x, ((![v693] : Fin 1 → IVec S16 32) a x).toNat < S32768.size a := fun v693 k0_hw234 => k0_hw234

def k0_chk235 (v698 : IVec S16 32) : Prop :=
  (∀ a x, ((![v698] : Fin 1 → IVec S16 32) a x).toNat < S32768.size a)
theorem k0_idx235_inb : ∀ (v698 : IVec S16 32) (k0_hw235 : k0_chk235 v698), ∀ a x, ((![v698] : Fin 1 → IVec S16 32) a x).toNat < S32768.size a := fun v698 k0_hw235 => k0_hw235

def k0_chk236 (v703 : IVec S16 32) : Prop :=
  (∀ a x, ((![v703] : Fin 1 → IVec S16 32) a x).toNat < S32768.size a)
theorem k0_idx236_inb : ∀ (v703 : IVec S16 32) (k0_hw236 : k0_chk236 v703), ∀ a x, ((![v703] : Fin 1 → IVec S16 32) a x).toNat < S32768.size a := fun v703 k0_hw236 => k0_hw236

def k0_chk237 (v708 : IVec S16 32) : Prop :=
  (∀ a x, ((![v708] : Fin 1 → IVec S16 32) a x).toNat < S32768.size a)
theorem k0_idx237_inb : ∀ (v708 : IVec S16 32) (k0_hw237 : k0_chk237 v708), ∀ a x, ((![v708] : Fin 1 → IVec S16 32) a x).toNat < S32768.size a := fun v708 k0_hw237 => k0_hw237

def k0_chk238 (v713 : IVec S16 32) : Prop :=
  (∀ a x, ((![v713] : Fin 1 → IVec S16 32) a x).toNat < S32768.size a)
theorem k0_idx238_inb : ∀ (v713 : IVec S16 32) (k0_hw238 : k0_chk238 v713), ∀ a x, ((![v713] : Fin 1 → IVec S16 32) a x).toNat < S32768.size a := fun v713 k0_hw238 => k0_hw238

def k0_chk239 (v718 : IVec S16 32) : Prop :=
  (∀ a x, ((![v718] : Fin 1 → IVec S16 32) a x).toNat < S32768.size a)
theorem k0_idx239_inb : ∀ (v718 : IVec S16 32) (k0_hw239 : k0_chk239 v718), ∀ a x, ((![v718] : Fin 1 → IVec S16 32) a x).toNat < S32768.size a := fun v718 k0_hw239 => k0_hw239

def k0_chk240 (v723 : IVec S16 32) : Prop :=
  (∀ a x, ((![v723] : Fin 1 → IVec S16 32) a x).toNat < S32768.size a)
theorem k0_idx240_inb : ∀ (v723 : IVec S16 32) (k0_hw240 : k0_chk240 v723), ∀ a x, ((![v723] : Fin 1 → IVec S16 32) a x).toNat < S32768.size a := fun v723 k0_hw240 => k0_hw240
def k0_off11 (k0_t10 : Fin k0_t10_loop.trips) (c0_i32_575 : BitVec 32) : Fin 1 → Nat :=
  let c0_i32_463 : BitVec 32 := 0#32
  let c1_i32_465 : BitVec 32 := 1#32
  let arg9 : BitVec 32 := Scf.iv c0_i32_463 c1_i32_465 k0_t10
  let c256_i32_574 : BitVec 32 := 256#32
  let v606 : BitVec 32 := Scalar.muli arg9 c256_i32_574
  let c64_i32 : BitVec 32 := 64#32
  let v744 : BitVec 32 := Scalar.addi v606 c64_i32
  let v745 : BitVec 32 := Scalar.addi v744 c0_i32_575
  let v746 : Index := Scalar.indexCast v745
  ![v746.toNat]
@[reducible] def k0_t11_loop : Scf.Loop 32 :=
  let c0_i32_516 : BitVec 32 := 0#32
  let c128_i32_517 : BitVec 32 := 128#32
  let v555 : BitVec 32 := Scalar.addi c0_i32_516 c128_i32_517
  let c1_i32_518 : BitVec 32 := 1#32
  ⟨c0_i32_516, v555, c1_i32_518⟩

def k0_chk241 (v608 : IVec S16 32) : Prop :=
  (∀ a x, ((![v608] : Fin 1 → IVec S16 32) a x).toNat < S32768.size a)
theorem k0_idx241_inb : ∀ (v608 : IVec S16 32) (k0_hw241 : k0_chk241 v608), ∀ a x, ((![v608] : Fin 1 → IVec S16 32) a x).toNat < S32768.size a := fun v608 k0_hw241 => k0_hw241

def k0_chk242 (v613 : IVec S16 32) : Prop :=
  (∀ a x, ((![v613] : Fin 1 → IVec S16 32) a x).toNat < S32768.size a)
theorem k0_idx242_inb : ∀ (v613 : IVec S16 32) (k0_hw242 : k0_chk242 v613), ∀ a x, ((![v613] : Fin 1 → IVec S16 32) a x).toNat < S32768.size a := fun v613 k0_hw242 => k0_hw242

def k0_chk243 (v618 : IVec S16 32) : Prop :=
  (∀ a x, ((![v618] : Fin 1 → IVec S16 32) a x).toNat < S32768.size a)
theorem k0_idx243_inb : ∀ (v618 : IVec S16 32) (k0_hw243 : k0_chk243 v618), ∀ a x, ((![v618] : Fin 1 → IVec S16 32) a x).toNat < S32768.size a := fun v618 k0_hw243 => k0_hw243

def k0_chk244 (v623 : IVec S16 32) : Prop :=
  (∀ a x, ((![v623] : Fin 1 → IVec S16 32) a x).toNat < S32768.size a)
theorem k0_idx244_inb : ∀ (v623 : IVec S16 32) (k0_hw244 : k0_chk244 v623), ∀ a x, ((![v623] : Fin 1 → IVec S16 32) a x).toNat < S32768.size a := fun v623 k0_hw244 => k0_hw244

def k0_chk245 (v628 : IVec S16 32) : Prop :=
  (∀ a x, ((![v628] : Fin 1 → IVec S16 32) a x).toNat < S32768.size a)
theorem k0_idx245_inb : ∀ (v628 : IVec S16 32) (k0_hw245 : k0_chk245 v628), ∀ a x, ((![v628] : Fin 1 → IVec S16 32) a x).toNat < S32768.size a := fun v628 k0_hw245 => k0_hw245

def k0_chk246 (v633 : IVec S16 32) : Prop :=
  (∀ a x, ((![v633] : Fin 1 → IVec S16 32) a x).toNat < S32768.size a)
theorem k0_idx246_inb : ∀ (v633 : IVec S16 32) (k0_hw246 : k0_chk246 v633), ∀ a x, ((![v633] : Fin 1 → IVec S16 32) a x).toNat < S32768.size a := fun v633 k0_hw246 => k0_hw246

def k0_chk247 (v638 : IVec S16 32) : Prop :=
  (∀ a x, ((![v638] : Fin 1 → IVec S16 32) a x).toNat < S32768.size a)
theorem k0_idx247_inb : ∀ (v638 : IVec S16 32) (k0_hw247 : k0_chk247 v638), ∀ a x, ((![v638] : Fin 1 → IVec S16 32) a x).toNat < S32768.size a := fun v638 k0_hw247 => k0_hw247

def k0_chk248 (v643 : IVec S16 32) : Prop :=
  (∀ a x, ((![v643] : Fin 1 → IVec S16 32) a x).toNat < S32768.size a)
theorem k0_idx248_inb : ∀ (v643 : IVec S16 32) (k0_hw248 : k0_chk248 v643), ∀ a x, ((![v643] : Fin 1 → IVec S16 32) a x).toNat < S32768.size a := fun v643 k0_hw248 => k0_hw248

def k0_chk249 (v648 : IVec S16 32) : Prop :=
  (∀ a x, ((![v648] : Fin 1 → IVec S16 32) a x).toNat < S32768.size a)
theorem k0_idx249_inb : ∀ (v648 : IVec S16 32) (k0_hw249 : k0_chk249 v648), ∀ a x, ((![v648] : Fin 1 → IVec S16 32) a x).toNat < S32768.size a := fun v648 k0_hw249 => k0_hw249

def k0_chk250 (v653 : IVec S16 32) : Prop :=
  (∀ a x, ((![v653] : Fin 1 → IVec S16 32) a x).toNat < S32768.size a)
theorem k0_idx250_inb : ∀ (v653 : IVec S16 32) (k0_hw250 : k0_chk250 v653), ∀ a x, ((![v653] : Fin 1 → IVec S16 32) a x).toNat < S32768.size a := fun v653 k0_hw250 => k0_hw250

def k0_chk251 (v658 : IVec S16 32) : Prop :=
  (∀ a x, ((![v658] : Fin 1 → IVec S16 32) a x).toNat < S32768.size a)
theorem k0_idx251_inb : ∀ (v658 : IVec S16 32) (k0_hw251 : k0_chk251 v658), ∀ a x, ((![v658] : Fin 1 → IVec S16 32) a x).toNat < S32768.size a := fun v658 k0_hw251 => k0_hw251

def k0_chk252 (v663 : IVec S16 32) : Prop :=
  (∀ a x, ((![v663] : Fin 1 → IVec S16 32) a x).toNat < S32768.size a)
theorem k0_idx252_inb : ∀ (v663 : IVec S16 32) (k0_hw252 : k0_chk252 v663), ∀ a x, ((![v663] : Fin 1 → IVec S16 32) a x).toNat < S32768.size a := fun v663 k0_hw252 => k0_hw252

def k0_chk253 (v668 : IVec S16 32) : Prop :=
  (∀ a x, ((![v668] : Fin 1 → IVec S16 32) a x).toNat < S32768.size a)
theorem k0_idx253_inb : ∀ (v668 : IVec S16 32) (k0_hw253 : k0_chk253 v668), ∀ a x, ((![v668] : Fin 1 → IVec S16 32) a x).toNat < S32768.size a := fun v668 k0_hw253 => k0_hw253

def k0_chk254 (v673 : IVec S16 32) : Prop :=
  (∀ a x, ((![v673] : Fin 1 → IVec S16 32) a x).toNat < S32768.size a)
theorem k0_idx254_inb : ∀ (v673 : IVec S16 32) (k0_hw254 : k0_chk254 v673), ∀ a x, ((![v673] : Fin 1 → IVec S16 32) a x).toNat < S32768.size a := fun v673 k0_hw254 => k0_hw254

def k0_chk255 (v678 : IVec S16 32) : Prop :=
  (∀ a x, ((![v678] : Fin 1 → IVec S16 32) a x).toNat < S32768.size a)
theorem k0_idx255_inb : ∀ (v678 : IVec S16 32) (k0_hw255 : k0_chk255 v678), ∀ a x, ((![v678] : Fin 1 → IVec S16 32) a x).toNat < S32768.size a := fun v678 k0_hw255 => k0_hw255

def k0_chk256 (v683 : IVec S16 32) : Prop :=
  (∀ a x, ((![v683] : Fin 1 → IVec S16 32) a x).toNat < S32768.size a)
theorem k0_idx256_inb : ∀ (v683 : IVec S16 32) (k0_hw256 : k0_chk256 v683), ∀ a x, ((![v683] : Fin 1 → IVec S16 32) a x).toNat < S32768.size a := fun v683 k0_hw256 => k0_hw256

def k0_chk257 (v688 : IVec S16 32) : Prop :=
  (∀ a x, ((![v688] : Fin 1 → IVec S16 32) a x).toNat < S32768.size a)
theorem k0_idx257_inb : ∀ (v688 : IVec S16 32) (k0_hw257 : k0_chk257 v688), ∀ a x, ((![v688] : Fin 1 → IVec S16 32) a x).toNat < S32768.size a := fun v688 k0_hw257 => k0_hw257

def k0_chk258 (v693 : IVec S16 32) : Prop :=
  (∀ a x, ((![v693] : Fin 1 → IVec S16 32) a x).toNat < S32768.size a)
theorem k0_idx258_inb : ∀ (v693 : IVec S16 32) (k0_hw258 : k0_chk258 v693), ∀ a x, ((![v693] : Fin 1 → IVec S16 32) a x).toNat < S32768.size a := fun v693 k0_hw258 => k0_hw258

def k0_chk259 (v698 : IVec S16 32) : Prop :=
  (∀ a x, ((![v698] : Fin 1 → IVec S16 32) a x).toNat < S32768.size a)
theorem k0_idx259_inb : ∀ (v698 : IVec S16 32) (k0_hw259 : k0_chk259 v698), ∀ a x, ((![v698] : Fin 1 → IVec S16 32) a x).toNat < S32768.size a := fun v698 k0_hw259 => k0_hw259

def k0_chk260 (v703 : IVec S16 32) : Prop :=
  (∀ a x, ((![v703] : Fin 1 → IVec S16 32) a x).toNat < S32768.size a)
theorem k0_idx260_inb : ∀ (v703 : IVec S16 32) (k0_hw260 : k0_chk260 v703), ∀ a x, ((![v703] : Fin 1 → IVec S16 32) a x).toNat < S32768.size a := fun v703 k0_hw260 => k0_hw260

def k0_chk261 (v708 : IVec S16 32) : Prop :=
  (∀ a x, ((![v708] : Fin 1 → IVec S16 32) a x).toNat < S32768.size a)
theorem k0_idx261_inb : ∀ (v708 : IVec S16 32) (k0_hw261 : k0_chk261 v708), ∀ a x, ((![v708] : Fin 1 → IVec S16 32) a x).toNat < S32768.size a := fun v708 k0_hw261 => k0_hw261

def k0_chk262 (v713 : IVec S16 32) : Prop :=
  (∀ a x, ((![v713] : Fin 1 → IVec S16 32) a x).toNat < S32768.size a)
theorem k0_idx262_inb : ∀ (v713 : IVec S16 32) (k0_hw262 : k0_chk262 v713), ∀ a x, ((![v713] : Fin 1 → IVec S16 32) a x).toNat < S32768.size a := fun v713 k0_hw262 => k0_hw262

def k0_chk263 (v718 : IVec S16 32) : Prop :=
  (∀ a x, ((![v718] : Fin 1 → IVec S16 32) a x).toNat < S32768.size a)
theorem k0_idx263_inb : ∀ (v718 : IVec S16 32) (k0_hw263 : k0_chk263 v718), ∀ a x, ((![v718] : Fin 1 → IVec S16 32) a x).toNat < S32768.size a := fun v718 k0_hw263 => k0_hw263

def k0_chk264 (v723 : IVec S16 32) : Prop :=
  (∀ a x, ((![v723] : Fin 1 → IVec S16 32) a x).toNat < S32768.size a)
theorem k0_idx264_inb : ∀ (v723 : IVec S16 32) (k0_hw264 : k0_chk264 v723), ∀ a x, ((![v723] : Fin 1 → IVec S16 32) a x).toNat < S32768.size a := fun v723 k0_hw264 => k0_hw264
def k0_off12 (k0_t11 : Fin k0_t11_loop.trips) (c0_i32_576 : BitVec 32) : Fin 1 → Nat :=
  let c0_i32_516 : BitVec 32 := 0#32
  let c1_i32_518 : BitVec 32 := 1#32
  let arg9 : BitVec 32 := Scf.iv c0_i32_516 c1_i32_518 k0_t11
  let c256_i32_574 : BitVec 32 := 256#32
  let v606 : BitVec 32 := Scalar.muli arg9 c256_i32_574
  let c128_i32_575 : BitVec 32 := 128#32
  let v744 : BitVec 32 := Scalar.addi v606 c128_i32_575
  let v745 : BitVec 32 := Scalar.addi v744 c0_i32_576
  let v746 : Index := Scalar.indexCast v745
  ![v746.toNat]
@[reducible] def k0_t12_loop : Scf.Loop 32 :=
  let c0_i32_569 : BitVec 32 := 0#32
  let c128_i32_570 : BitVec 32 := 128#32
  let v604 : BitVec 32 := Scalar.addi c0_i32_569 c128_i32_570
  let c1_i32_571 : BitVec 32 := 1#32
  ⟨c0_i32_569, v604, c1_i32_571⟩

def k0_chk265 (v608 : IVec S16 32) : Prop :=
  (∀ a x, ((![v608] : Fin 1 → IVec S16 32) a x).toNat < S32768.size a)
theorem k0_idx265_inb : ∀ (v608 : IVec S16 32) (k0_hw265 : k0_chk265 v608), ∀ a x, ((![v608] : Fin 1 → IVec S16 32) a x).toNat < S32768.size a := fun v608 k0_hw265 => k0_hw265

def k0_chk266 (v613 : IVec S16 32) : Prop :=
  (∀ a x, ((![v613] : Fin 1 → IVec S16 32) a x).toNat < S32768.size a)
theorem k0_idx266_inb : ∀ (v613 : IVec S16 32) (k0_hw266 : k0_chk266 v613), ∀ a x, ((![v613] : Fin 1 → IVec S16 32) a x).toNat < S32768.size a := fun v613 k0_hw266 => k0_hw266

def k0_chk267 (v618 : IVec S16 32) : Prop :=
  (∀ a x, ((![v618] : Fin 1 → IVec S16 32) a x).toNat < S32768.size a)
theorem k0_idx267_inb : ∀ (v618 : IVec S16 32) (k0_hw267 : k0_chk267 v618), ∀ a x, ((![v618] : Fin 1 → IVec S16 32) a x).toNat < S32768.size a := fun v618 k0_hw267 => k0_hw267

def k0_chk268 (v623 : IVec S16 32) : Prop :=
  (∀ a x, ((![v623] : Fin 1 → IVec S16 32) a x).toNat < S32768.size a)
theorem k0_idx268_inb : ∀ (v623 : IVec S16 32) (k0_hw268 : k0_chk268 v623), ∀ a x, ((![v623] : Fin 1 → IVec S16 32) a x).toNat < S32768.size a := fun v623 k0_hw268 => k0_hw268

def k0_chk269 (v628 : IVec S16 32) : Prop :=
  (∀ a x, ((![v628] : Fin 1 → IVec S16 32) a x).toNat < S32768.size a)
theorem k0_idx269_inb : ∀ (v628 : IVec S16 32) (k0_hw269 : k0_chk269 v628), ∀ a x, ((![v628] : Fin 1 → IVec S16 32) a x).toNat < S32768.size a := fun v628 k0_hw269 => k0_hw269

def k0_chk270 (v633 : IVec S16 32) : Prop :=
  (∀ a x, ((![v633] : Fin 1 → IVec S16 32) a x).toNat < S32768.size a)
theorem k0_idx270_inb : ∀ (v633 : IVec S16 32) (k0_hw270 : k0_chk270 v633), ∀ a x, ((![v633] : Fin 1 → IVec S16 32) a x).toNat < S32768.size a := fun v633 k0_hw270 => k0_hw270

def k0_chk271 (v638 : IVec S16 32) : Prop :=
  (∀ a x, ((![v638] : Fin 1 → IVec S16 32) a x).toNat < S32768.size a)
theorem k0_idx271_inb : ∀ (v638 : IVec S16 32) (k0_hw271 : k0_chk271 v638), ∀ a x, ((![v638] : Fin 1 → IVec S16 32) a x).toNat < S32768.size a := fun v638 k0_hw271 => k0_hw271

def k0_chk272 (v643 : IVec S16 32) : Prop :=
  (∀ a x, ((![v643] : Fin 1 → IVec S16 32) a x).toNat < S32768.size a)
theorem k0_idx272_inb : ∀ (v643 : IVec S16 32) (k0_hw272 : k0_chk272 v643), ∀ a x, ((![v643] : Fin 1 → IVec S16 32) a x).toNat < S32768.size a := fun v643 k0_hw272 => k0_hw272

def k0_chk273 (v648 : IVec S16 32) : Prop :=
  (∀ a x, ((![v648] : Fin 1 → IVec S16 32) a x).toNat < S32768.size a)
theorem k0_idx273_inb : ∀ (v648 : IVec S16 32) (k0_hw273 : k0_chk273 v648), ∀ a x, ((![v648] : Fin 1 → IVec S16 32) a x).toNat < S32768.size a := fun v648 k0_hw273 => k0_hw273

def k0_chk274 (v653 : IVec S16 32) : Prop :=
  (∀ a x, ((![v653] : Fin 1 → IVec S16 32) a x).toNat < S32768.size a)
theorem k0_idx274_inb : ∀ (v653 : IVec S16 32) (k0_hw274 : k0_chk274 v653), ∀ a x, ((![v653] : Fin 1 → IVec S16 32) a x).toNat < S32768.size a := fun v653 k0_hw274 => k0_hw274

def k0_chk275 (v658 : IVec S16 32) : Prop :=
  (∀ a x, ((![v658] : Fin 1 → IVec S16 32) a x).toNat < S32768.size a)
theorem k0_idx275_inb : ∀ (v658 : IVec S16 32) (k0_hw275 : k0_chk275 v658), ∀ a x, ((![v658] : Fin 1 → IVec S16 32) a x).toNat < S32768.size a := fun v658 k0_hw275 => k0_hw275

def k0_chk276 (v663 : IVec S16 32) : Prop :=
  (∀ a x, ((![v663] : Fin 1 → IVec S16 32) a x).toNat < S32768.size a)
theorem k0_idx276_inb : ∀ (v663 : IVec S16 32) (k0_hw276 : k0_chk276 v663), ∀ a x, ((![v663] : Fin 1 → IVec S16 32) a x).toNat < S32768.size a := fun v663 k0_hw276 => k0_hw276

def k0_chk277 (v668 : IVec S16 32) : Prop :=
  (∀ a x, ((![v668] : Fin 1 → IVec S16 32) a x).toNat < S32768.size a)
theorem k0_idx277_inb : ∀ (v668 : IVec S16 32) (k0_hw277 : k0_chk277 v668), ∀ a x, ((![v668] : Fin 1 → IVec S16 32) a x).toNat < S32768.size a := fun v668 k0_hw277 => k0_hw277

def k0_chk278 (v673 : IVec S16 32) : Prop :=
  (∀ a x, ((![v673] : Fin 1 → IVec S16 32) a x).toNat < S32768.size a)
theorem k0_idx278_inb : ∀ (v673 : IVec S16 32) (k0_hw278 : k0_chk278 v673), ∀ a x, ((![v673] : Fin 1 → IVec S16 32) a x).toNat < S32768.size a := fun v673 k0_hw278 => k0_hw278

def k0_chk279 (v678 : IVec S16 32) : Prop :=
  (∀ a x, ((![v678] : Fin 1 → IVec S16 32) a x).toNat < S32768.size a)
theorem k0_idx279_inb : ∀ (v678 : IVec S16 32) (k0_hw279 : k0_chk279 v678), ∀ a x, ((![v678] : Fin 1 → IVec S16 32) a x).toNat < S32768.size a := fun v678 k0_hw279 => k0_hw279

def k0_chk280 (v683 : IVec S16 32) : Prop :=
  (∀ a x, ((![v683] : Fin 1 → IVec S16 32) a x).toNat < S32768.size a)
theorem k0_idx280_inb : ∀ (v683 : IVec S16 32) (k0_hw280 : k0_chk280 v683), ∀ a x, ((![v683] : Fin 1 → IVec S16 32) a x).toNat < S32768.size a := fun v683 k0_hw280 => k0_hw280

def k0_chk281 (v688 : IVec S16 32) : Prop :=
  (∀ a x, ((![v688] : Fin 1 → IVec S16 32) a x).toNat < S32768.size a)
theorem k0_idx281_inb : ∀ (v688 : IVec S16 32) (k0_hw281 : k0_chk281 v688), ∀ a x, ((![v688] : Fin 1 → IVec S16 32) a x).toNat < S32768.size a := fun v688 k0_hw281 => k0_hw281

def k0_chk282 (v693 : IVec S16 32) : Prop :=
  (∀ a x, ((![v693] : Fin 1 → IVec S16 32) a x).toNat < S32768.size a)
theorem k0_idx282_inb : ∀ (v693 : IVec S16 32) (k0_hw282 : k0_chk282 v693), ∀ a x, ((![v693] : Fin 1 → IVec S16 32) a x).toNat < S32768.size a := fun v693 k0_hw282 => k0_hw282

def k0_chk283 (v698 : IVec S16 32) : Prop :=
  (∀ a x, ((![v698] : Fin 1 → IVec S16 32) a x).toNat < S32768.size a)
theorem k0_idx283_inb : ∀ (v698 : IVec S16 32) (k0_hw283 : k0_chk283 v698), ∀ a x, ((![v698] : Fin 1 → IVec S16 32) a x).toNat < S32768.size a := fun v698 k0_hw283 => k0_hw283

def k0_chk284 (v703 : IVec S16 32) : Prop :=
  (∀ a x, ((![v703] : Fin 1 → IVec S16 32) a x).toNat < S32768.size a)
theorem k0_idx284_inb : ∀ (v703 : IVec S16 32) (k0_hw284 : k0_chk284 v703), ∀ a x, ((![v703] : Fin 1 → IVec S16 32) a x).toNat < S32768.size a := fun v703 k0_hw284 => k0_hw284

def k0_chk285 (v708 : IVec S16 32) : Prop :=
  (∀ a x, ((![v708] : Fin 1 → IVec S16 32) a x).toNat < S32768.size a)
theorem k0_idx285_inb : ∀ (v708 : IVec S16 32) (k0_hw285 : k0_chk285 v708), ∀ a x, ((![v708] : Fin 1 → IVec S16 32) a x).toNat < S32768.size a := fun v708 k0_hw285 => k0_hw285

def k0_chk286 (v713 : IVec S16 32) : Prop :=
  (∀ a x, ((![v713] : Fin 1 → IVec S16 32) a x).toNat < S32768.size a)
theorem k0_idx286_inb : ∀ (v713 : IVec S16 32) (k0_hw286 : k0_chk286 v713), ∀ a x, ((![v713] : Fin 1 → IVec S16 32) a x).toNat < S32768.size a := fun v713 k0_hw286 => k0_hw286

def k0_chk287 (v718 : IVec S16 32) : Prop :=
  (∀ a x, ((![v718] : Fin 1 → IVec S16 32) a x).toNat < S32768.size a)
theorem k0_idx287_inb : ∀ (v718 : IVec S16 32) (k0_hw287 : k0_chk287 v718), ∀ a x, ((![v718] : Fin 1 → IVec S16 32) a x).toNat < S32768.size a := fun v718 k0_hw287 => k0_hw287

def k0_chk288 (v723 : IVec S16 32) : Prop :=
  (∀ a x, ((![v723] : Fin 1 → IVec S16 32) a x).toNat < S32768.size a)
theorem k0_idx288_inb : ∀ (v723 : IVec S16 32) (k0_hw288 : k0_chk288 v723), ∀ a x, ((![v723] : Fin 1 → IVec S16 32) a x).toNat < S32768.size a := fun v723 k0_hw288 => k0_hw288
def k0_off13 (k0_t12 : Fin k0_t12_loop.trips) (c0_i32_575 : BitVec 32) : Fin 1 → Nat :=
  let c0_i32_569 : BitVec 32 := 0#32
  let c1_i32_571 : BitVec 32 := 1#32
  let arg9 : BitVec 32 := Scf.iv c0_i32_569 c1_i32_571 k0_t12
  let c256_i32_574 : BitVec 32 := 256#32
  let v606 : BitVec 32 := Scalar.muli arg9 c256_i32_574
  let c192_i32 : BitVec 32 := 192#32
  let v744 : BitVec 32 := Scalar.addi v606 c192_i32
  let v745 : BitVec 32 := Scalar.addi v744 c0_i32_575
  let v746 : Index := Scalar.indexCast v745
  ![v746.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x256 : Shape := ⟨2, ![16384, 256]⟩
abbrev S256 : Shape := ⟨1, ![256]⟩
abbrev S128 : Shape := ⟨1, ![128]⟩
abbrev S128x3 : Shape := ⟨2, ![128, 3]⟩
abbrev S_ : Shape := ⟨0, ![]⟩
abbrev S256x1 : Shape := ⟨2, ![256, 1]⟩
abbrev S1 : Shape := ⟨1, ![1]⟩
abbrev S1x1 : Shape := ⟨2, ![1, 1]⟩
abbrev S128x3x1 : Shape := ⟨3, ![128, 3, 1]⟩
abbrev S1x1x1 : Shape := ⟨3, ![1, 1, 1]⟩
abbrev S16384x128x3 : Shape := ⟨3, ![16384, 128, 3]⟩
abbrev S1x128x3 : Shape := ⟨3, ![1, 128, 3]⟩
abbrev S16384x128 : Shape := ⟨2, ![16384, 128]⟩
abbrev S128x1 : Shape := ⟨2, ![128, 1]⟩
abbrev S1x256 : Shape := ⟨2, ![1, 256]⟩
abbrev S128x256 : Shape := ⟨2, ![128, 256]⟩
abbrev S1x128x256 : Shape := ⟨3, ![1, 128, 256]⟩
abbrev S16384x128x1 : Shape := ⟨3, ![16384, 128, 1]⟩
abbrev S16384x128x256 : Shape := ⟨3, ![16384, 128, 256]⟩

abbrev nBuf : Space → Nat
  | .hbm => 208
  | .vmem => 0
  | .smem => 0
  | _ => 0

abbrev hbmTy0_0 (i : Nat) : BufTy := match i % 128 with
  | 0 => ⟨S16384x256, .f32⟩
  | 1 => ⟨S256, .i32⟩
  | 2 => ⟨S128, .i32⟩
  | 3 => ⟨S128x3, .i32⟩
  | 4 => ⟨S128x3, .i32⟩
  | 5 => ⟨S128, .i32⟩
  | 6 => ⟨S128x3, .i32⟩
  | 7 => ⟨S128x3, .i32⟩
  | 8 => ⟨S128, .i32⟩
  | 9 => ⟨S128x3, .i32⟩
  | 10 => ⟨S128x3, .i32⟩
  | 11 => ⟨S_, .i32⟩
  | 12 => ⟨S256, .i32⟩
  | 13 => ⟨S256, .i1⟩
  | 14 => ⟨S_, .i32⟩
  | 15 => ⟨S256, .i32⟩
  | 16 => ⟨S256, .i32⟩
  | 17 => ⟨S256, .i32⟩
  | 18 => ⟨S256x1, .i32⟩
  | 19 => ⟨S1, .i32⟩
  | 20 => ⟨S_, .i32⟩
  | 21 => ⟨S256x1, .i32⟩
  | 22 => ⟨S256x1, .i1⟩
  | 23 => ⟨S1x1, .i32⟩
  | 24 => ⟨S256x1, .i32⟩
  | 25 => ⟨S256x1, .i1⟩
  | 26 => ⟨S256x1, .i1⟩
  | 27 => ⟨S_, .i1⟩
  | 28 => ⟨S256, .i1⟩
  | 29 => ⟨S16384x256, .f32⟩
  | 30 => ⟨S16384x256, .i1⟩
  | 31 => ⟨S_, .f32⟩
  | 32 => ⟨S16384x256, .f32⟩
  | 33 => ⟨S16384x256, .f32⟩
  | 34 => ⟨S_, .i32⟩
  | 35 => ⟨S128x3, .i32⟩
  | 36 => ⟨S128x3, .i1⟩
  | 37 => ⟨S_, .i32⟩
  | 38 => ⟨S128x3, .i32⟩
  | 39 => ⟨S128x3, .i32⟩
  | 40 => ⟨S128x3, .i32⟩
  | 41 => ⟨S128x3x1, .i32⟩
  | 42 => ⟨S1, .i32⟩
  | 43 => ⟨S_, .i32⟩
  | 44 => ⟨S128x3x1, .i32⟩
  | 45 => ⟨S128x3x1, .i1⟩
  | 46 => ⟨S1x1x1, .i32⟩
  | 47 => ⟨S128x3x1, .i32⟩
  | 48 => ⟨S128x3x1, .i1⟩
  | 49 => ⟨S128x3x1, .i1⟩
  | 50 => ⟨S_, .i1⟩
  | 51 => ⟨S128x3, .i1⟩
  | 52 => ⟨S16384x128x3, .f32⟩
  | 53 => ⟨S16384x128x3, .i1⟩
  | 54 => ⟨S_, .f32⟩
  | 55 => ⟨S16384x128x3, .f32⟩
  | 56 => ⟨S16384x128x3, .f32⟩
  | 57 => ⟨S128x3, .f32⟩
  | 58 => ⟨S1x128x3, .f32⟩
  | 59 => ⟨S16384x128x3, .f32⟩
  | 60 => ⟨S16384x128x3, .f32⟩
  | 61 => ⟨S_, .f32⟩
  | 62 => ⟨S1x128x3, .f32⟩
  | 63 => ⟨S1x128x3, .f32⟩
  | 64 => ⟨S_, .f32⟩
  | 65 => ⟨S16384x128x3, .f32⟩
  | 66 => ⟨S16384x128x3, .f32⟩
  | 67 => ⟨S16384x128x3, .f32⟩
  | 68 => ⟨S16384x128x3, .f32⟩
  | 69 => ⟨S16384x128x3, .f32⟩
  | 70 => ⟨S_, .f32⟩
  | 71 => ⟨S16384x128, .f32⟩
  | 72 => ⟨S128x1, .i32⟩
  | 73 => ⟨S256, .i32⟩
  | 74 => ⟨S1x256, .i32⟩
  | 75 => ⟨S128x256, .i32⟩
  | 76 => ⟨S128x256, .i32⟩
  | 77 => ⟨S128x256, .i1⟩
  | 78 => ⟨S1x128x256, .i1⟩
  | 79 => ⟨S16384x128x1, .f32⟩
  | 80 => ⟨S_, .f32⟩
  | 81 => ⟨S_, .f32⟩
  | 82 => ⟨S16384x128x256, .i1⟩
  | 83 => ⟨S16384x128x256, .f32⟩
  | 84 => ⟨S16384x128x256, .f32⟩
  | 85 => ⟨S16384x128x256, .f32⟩
  | 86 => ⟨S_, .f32⟩
  | 87 => ⟨S16384x256, .f32⟩
  | 88 => ⟨S16384x256, .f32⟩
  | 89 => ⟨S_, .i32⟩
  | 90 => ⟨S128x3, .i32⟩
  | 91 => ⟨S128x3, .i1⟩
  | 92 => ⟨S_, .i32⟩
  | 93 => ⟨S128x3, .i32⟩
  | 94 => ⟨S128x3, .i32⟩
  | 95 => ⟨S128x3, .i32⟩
  | 96 => ⟨S128x3x1, .i32⟩
  | 97 => ⟨S1, .i32⟩
  | 98 => ⟨S_, .i32⟩
  | 99 => ⟨S128x3x1, .i32⟩
  | 100 => ⟨S128x3x1, .i1⟩
  | 101 => ⟨S1x1x1, .i32⟩
  | 102 => ⟨S128x3x1, .i32⟩
  | 103 => ⟨S128x3x1, .i1⟩
  | 104 => ⟨S128x3x1, .i1⟩
  | 105 => ⟨S_, .i1⟩
  | 106 => ⟨S128x3, .i1⟩
  | 107 => ⟨S16384x128x3, .f32⟩
  | 108 => ⟨S16384x128x3, .i1⟩
  | 109 => ⟨S_, .f32⟩
  | 110 => ⟨S16384x128x3, .f32⟩
  | 111 => ⟨S16384x128x3, .f32⟩
  | 112 => ⟨S128x3, .f32⟩
  | 113 => ⟨S1x128x3, .f32⟩
  | 114 => ⟨S16384x128x3, .f32⟩
  | 115 => ⟨S16384x128x3, .f32⟩
  | 116 => ⟨S_, .f32⟩
  | 117 => ⟨S1x128x3, .f32⟩
  | 118 => ⟨S1x128x3, .f32⟩
  | 119 => ⟨S_, .f32⟩
  | 120 => ⟨S16384x128x3, .f32⟩
  | 121 => ⟨S16384x128x3, .f32⟩
  | 122 => ⟨S16384x128x3, .f32⟩
  | 123 => ⟨S16384x128x3, .f32⟩
  | 124 => ⟨S16384x128x3, .f32⟩
  | 125 => ⟨S_, .f32⟩
  | 126 => ⟨S16384x128, .f32⟩
  | 127 => ⟨S128x1, .i32⟩
  | _ => ⟨S16384x256, .f32⟩

abbrev hbmTy0_1 (i : Nat) : BufTy := match i % 128 with
  | 0 => ⟨S256, .i32⟩
  | 1 => ⟨S1x256, .i32⟩
  | 2 => ⟨S128x256, .i32⟩
  | 3 => ⟨S128x256, .i32⟩
  | 4 => ⟨S128x256, .i1⟩
  | 5 => ⟨S1x128x256, .i1⟩
  | 6 => ⟨S16384x128x1, .f32⟩
  | 7 => ⟨S_, .f32⟩
  | 8 => ⟨S_, .f32⟩
  | 9 => ⟨S16384x128x256, .i1⟩
  | 10 => ⟨S16384x128x256, .f32⟩
  | 11 => ⟨S16384x128x256, .f32⟩
  | 12 => ⟨S16384x128x256, .f32⟩
  | 13 => ⟨S_, .f32⟩
  | 14 => ⟨S16384x256, .f32⟩
  | 15 => ⟨S16384x256, .f32⟩
  | 16 => ⟨S_, .i32⟩
  | 17 => ⟨S128x3, .i32⟩
  | 18 => ⟨S128x3, .i1⟩
  | 19 => ⟨S_, .i32⟩
  | 20 => ⟨S128x3, .i32⟩
  | 21 => ⟨S128x3, .i32⟩
  | 22 => ⟨S128x3, .i32⟩
  | 23 => ⟨S128x3x1, .i32⟩
  | 24 => ⟨S1, .i32⟩
  | 25 => ⟨S_, .i32⟩
  | 26 => ⟨S128x3x1, .i32⟩
  | 27 => ⟨S128x3x1, .i1⟩
  | 28 => ⟨S1x1x1, .i32⟩
  | 29 => ⟨S128x3x1, .i32⟩
  | 30 => ⟨S128x3x1, .i1⟩
  | 31 => ⟨S128x3x1, .i1⟩
  | 32 => ⟨S_, .i1⟩
  | 33 => ⟨S128x3, .i1⟩
  | 34 => ⟨S16384x128x3, .f32⟩
  | 35 => ⟨S16384x128x3, .i1⟩
  | 36 => ⟨S_, .f32⟩
  | 37 => ⟨S16384x128x3, .f32⟩
  | 38 => ⟨S16384x128x3, .f32⟩
  | 39 => ⟨S128x3, .f32⟩
  | 40 => ⟨S1x128x3, .f32⟩
  | 41 => ⟨S16384x128x3, .f32⟩
  | 42 => ⟨S16384x128x3, .f32⟩
  | 43 => ⟨S_, .f32⟩
  | 44 => ⟨S1x128x3, .f32⟩
  | 45 => ⟨S1x128x3, .f32⟩
  | 46 => ⟨S_, .f32⟩
  | 47 => ⟨S16384x128x3, .f32⟩
  | 48 => ⟨S16384x128x3, .f32⟩
  | 49 => ⟨S16384x128x3, .f32⟩
  | 50 => ⟨S16384x128x3, .f32⟩
  | 51 => ⟨S16384x128x3, .f32⟩
  | 52 => ⟨S_, .f32⟩
  | 53 => ⟨S16384x128, .f32⟩
  | 54 => ⟨S128x1, .i32⟩
  | 55 => ⟨S256, .i32⟩
  | 56 => ⟨S1x256, .i32⟩
  | 57 => ⟨S128x256, .i32⟩
  | 58 => ⟨S128x256, .i32⟩
  | 59 => ⟨S128x256, .i1⟩
  | 60 => ⟨S1x128x256, .i1⟩
  | 61 => ⟨S16384x128x1, .f32⟩
  | 62 => ⟨S_, .f32⟩
  | 63 => ⟨S_, .f32⟩
  | 64 => ⟨S16384x128x256, .i1⟩
  | 65 => ⟨S16384x128x256, .f32⟩
  | 66 => ⟨S16384x128x256, .f32⟩
  | 67 => ⟨S16384x128x256, .f32⟩
  | 68 => ⟨S_, .f32⟩
  | 69 => ⟨S16384x256, .f32⟩
  | 70 => ⟨S16384x256, .f32⟩
  | 71 => ⟨S_, .i32⟩
  | 72 => ⟨S256, .i32⟩
  | 73 => ⟨S256, .i1⟩
  | 74 => ⟨S_, .i32⟩
  | 75 => ⟨S256, .i32⟩
  | 76 => ⟨S256, .i32⟩
  | 77 => ⟨S256, .i32⟩
  | 78 => ⟨S256x1, .i32⟩
  | 79 => ⟨S16384x256, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_c_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_v54 : Ref sig .tc := ⟨.hbm, 85, rfl⟩
abbrev main_cst_14 : Ref sig .tc := ⟨.hbm, 86, rfl⟩
abbrev main_v55 : Ref sig .tc := ⟨.hbm, 87, rfl⟩
abbrev main_v56 : Ref sig .tc := ⟨.hbm, 88, rfl⟩
abbrev main_c_15 : Ref sig .tc := ⟨.hbm, 89, rfl⟩
abbrev main_v57 : Ref sig .tc := ⟨.hbm, 90, rfl⟩
abbrev main_v58 : Ref sig .tc := ⟨.hbm, 91, rfl⟩
abbrev main_c_16 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_17 : Ref sig .tc := ⟨.hbm, 97, rfl⟩
abbrev main_c_18 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_19 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_20 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_21 : Ref sig .tc := ⟨.hbm, 116, rfl⟩
abbrev main_v78 : Ref sig .tc := ⟨.hbm, 117, rfl⟩
abbrev main_v79 : Ref sig .tc := ⟨.hbm, 118, rfl⟩
abbrev main_cst_22 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_23 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_24 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_v94 : Ref sig .tc := ⟨.hbm, 140, rfl⟩
abbrev main_cst_25 : Ref sig .tc := ⟨.hbm, 141, rfl⟩
abbrev main_v95 : Ref sig .tc := ⟨.hbm, 142, rfl⟩
abbrev main_v96 : Ref sig .tc := ⟨.hbm, 143, rfl⟩
abbrev main_c_26 : Ref sig .tc := ⟨.hbm, 144, rfl⟩
abbrev main_v97 : Ref sig .tc := ⟨.hbm, 145, rfl⟩
abbrev main_v98 : Ref sig .tc := ⟨.hbm, 146, rfl⟩
abbrev main_c_27 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_c_28 : Ref sig .tc := ⟨.hbm, 152, rfl⟩
abbrev main_c_29 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_30 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_31 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_32 : Ref sig .tc := ⟨.hbm, 171, rfl⟩
abbrev main_v118 : Ref sig .tc := ⟨.hbm, 172, rfl⟩
abbrev main_v119 : Ref sig .tc := ⟨.hbm, 173, rfl⟩
abbrev main_cst_33 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_34 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_35 : Ref sig .tc := ⟨.hbm, 190, rfl⟩
abbrev main_call2_v0 : Ref sig .tc := ⟨.hbm, 191, rfl⟩
abbrev main_call2_v1 : Ref sig .tc := ⟨.hbm, 192, rfl⟩
abbrev main_call2_v2 : Ref sig .tc := ⟨.hbm, 193, rfl⟩
abbrev main_call2_v3 : Ref sig .tc := ⟨.hbm, 194, rfl⟩
abbrev main_v134 : Ref sig .tc := ⟨.hbm, 195, rfl⟩
abbrev main_cst_36 : Ref sig .tc := ⟨.hbm, 196, rfl⟩
abbrev main_v135 : Ref sig .tc := ⟨.hbm, 197, rfl⟩
abbrev main_v136 : Ref sig .tc := ⟨.hbm, 198, rfl⟩
abbrev main_c_37 : Ref sig .tc := ⟨.hbm, 199, rfl⟩
abbrev main_v137 : Ref sig .tc := ⟨.hbm, 200, rfl⟩
abbrev main_v138 : Ref sig .tc := ⟨.hbm, 201, rfl⟩
abbrev main_c_38 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩

abbrev nD : Nat := 1
abbrev τ : Topo := Topo.v7x

variable {F : FTy → Type} [FloatOps F]
-- ==== Proof.Vals.lean ====
/-
  What the kernel leaves in a buffered chunk, word by word: the three passes over the 128 rows of a chunk of 32768 words,
  each raising the 64 words of a row that the pass owns to the clause values gathered from that row.
-/
module

public import Idealize.ShloMosaic.PureOps
public import Idealize.ShloMosaic.Lib.ValueIdx

@[expose] public section
noncomputable section
namespace Cert.Proof.Vals
open Idealize.ShloMosaic

variable {F : FTy → Type}

abbrev Lanes : Shape := ⟨1, ![16]⟩
abbrev Chunk : Shape := ⟨1, ![32768]⟩
abbrev Table : Shape := ⟨1, ![1152]⟩
abbrev Flat : Shape := ⟨1, ![4194304]⟩

/-- The index of position `n` (wrapped into range) of a chunk, of a vector, of a table, of the whole array. -/
def wordC (n : ℕ) : Chunk.Idx := fun a => ⟨n % 32768, by fin_cases a; exact Nat.mod_lt _ (by decide)⟩
def wordL (n : ℕ) : Lanes.Idx := fun a => ⟨n % 16, by fin_cases a; exact Nat.mod_lt _ (by decide)⟩
def wordT (n : ℕ) : Table.Idx := fun a => ⟨n % 1152, by fin_cases a; exact Nat.mod_lt _ (by decide)⟩
def wordF (n : ℕ) : Flat.Idx := fun a => ⟨n % 4194304, by fin_cases a; exact Nat.mod_lt _ (by decide)⟩

@[simp] theorem wordC_val (n : ℕ) : (wordC n 0).val = n % 32768 := rfl
@[simp] theorem wordL_val (n : ℕ) : (wordL n 0).val = n % 16 := rfl
@[simp] theorem wordT_val (n : ℕ) : (wordT n 0).val = n % 1152 := rfl
@[simp] theorem wordF_val (n : ℕ) : (wordF n 0).val = n % 4194304 := rfl

theorem wordC_self (y : Chunk.Idx) : wordC (y 0).val = y := by
  funext a; fin_cases a; exact Fin.ext (Nat.mod_eq_of_lt (y 0).isLt)
theorem wordL_self (y : Lanes.Idx) : wordL (y 0).val = y := by
  funext a; fin_cases a; exact Fin.ext (Nat.mod_eq_of_lt (y 0).isLt)
theorem wordF_self (y : Flat.Idx) : wordF (y 0).val = y := by
  funext a; fin_cases a; exact Fin.ext (Nat.mod_eq_of_lt (y 0).isLt)

/-- The 16 words of a table from word `n`. -/
def ldT {α : Type} (T : Table.Idx → α) (n : ℕ) : Lanes.Idx → α := fun x => T (wordT (n + (x 0).val))

/-- The gather from row `t` of a chunk at the columns `v`. -/
def gat {α : Type} (X : Chunk.Idx → α) (t : ℕ) (v : IVec Lanes 32) : Lanes.Idx → α := fun x => X (wordC ((v x).toNat + 256 * t))

variable [FloatOps F]

def lit (Bs gs : List (FVec F Lanes .f32)) (z : FVec F Lanes .f32) (j : ℕ) : FVec F Lanes .f32 := absf (subf (gs.getD j z) (Bs.getD j z))
def clause (Bs gs : List (FVec F Lanes .f32)) (z : FVec F Lanes .f32) (m : ℕ) : FVec F Lanes .f32 :=
  minimumf (minimumf (lit Bs gs z m) (lit Bs gs z (8 + m))) (lit Bs gs z (16 + m))
def head (Bs gs : List (FVec F Lanes .f32)) (z : FVec F Lanes .f32) (g : ℕ) : FVec F Lanes .f32 :=
  maximumf (clause Bs gs z g) (clause Bs gs z (4 + g))

/-- Row `t`'s words `lo … lo + 16 n` raised to the vectors `H 0 … H (n-1)`. -/
def raised (lo t n : ℕ) (H : ℕ → FVec F Lanes .f32) (X : Chunk.Idx → F .f32) : Chunk.Idx → F .f32 := fun y =>
  if (y 0).val / 256 = t ∧ lo ≤ (y 0).val % 256 ∧ (y 0).val % 256 < lo + 16 * n then
    FloatOps.maximumf (X y) (H (((y 0).val % 256 - lo) / 16) (wordL (((y 0).val % 256 - lo) % 16)))
  else X y

/-- The first `n` rows passed over. -/
def upto (lo n : ℕ) (Is : List (IVec Lanes 32)) (Bs : List (FVec F Lanes .f32)) (z : FVec F Lanes .f32) (X : Chunk.Idx → F .f32) :
    Chunk.Idx → F .f32 := fun y =>
  if (y 0).val / 256 < n ∧ lo ≤ (y 0).val % 256 ∧ (y 0).val % 256 < lo + 64 then
    FloatOps.maximumf (X y) (head Bs (Is.map (gat X ((y 0).val / 256))) z (((y 0).val % 256 - lo) / 16) (wordL (((y 0).val % 256 - lo) % 16)))
  else X y

theorem raised_zero (lo t : ℕ) (H : ℕ → FVec F Lanes .f32) (X : Chunk.Idx → F .f32) : raised lo t 0 H X = X := by
  funext y; unfold raised; rw [if_neg (by omega)]

theorem upto_zero (lo : ℕ) (Is : List (IVec Lanes 32)) (Bs : List (FVec F Lanes .f32)) (z : FVec F Lanes .f32) (X : Chunk.Idx → F .f32) :
    upto lo 0 Is Bs z X = X := by
  funext y; unfold upto; rw [if_neg (by omega)]

theorem gat_upto (lo t : ℕ) (ht : t < 128) (Is : List (IVec Lanes 32)) (Bs : List (FVec F Lanes .f32)) (z : FVec F Lanes .f32)
    (X : Chunk.Idx → F .f32) (v : IVec Lanes 32) (hv : ∀ x, (v x).toNat < 256) : gat (upto lo t Is Bs z X) t v = gat X t v := by
  funext x
  have := hv x
  unfold gat upto
  rw [if_neg (by rw [wordC_val]; omega)]

/-- One more row: gathering from and raising row `t` after the first `t` rows. -/
theorem raised_upto (lo t : ℕ) (ht : t < 128) (Is : List (IVec Lanes 32)) (Bs : List (FVec F Lanes .f32)) (z : FVec F Lanes .f32)
    (X : Chunk.Idx → F .f32) (hI : ∀ v ∈ Is, ∀ x, (v x).toNat < 256) :
    raised lo t 4 (head Bs (Is.map (gat (upto lo t Is Bs z X) t)) z) (upto lo t Is Bs z X) = upto lo (t + 1) Is Bs z X := by
  rw [List.map_congr_left fun v hv => gat_upto lo t ht Is Bs z X v (hI v hv)]
  funext y
  by_cases h : (y 0).val / 256 = t
  · subst h
    unfold raised upto
    by_cases hc : lo ≤ (y 0).val % 256 ∧ (y 0).val % 256 < lo + 64
    · rw [if_pos ⟨rfl, hc⟩, if_neg (by omega), if_pos ⟨by omega, hc⟩]
    · rw [if_neg (by tauto), if_neg (by tauto), if_neg (by tauto)]
  · unfold raised
    rw [if_neg (by tauto)]
    unfold upto
    by_cases hc : (y 0).val / 256 < t ∧ lo ≤ (y 0).val % 256 ∧ (y 0).val % 256 < lo + 64
    · rw [if_pos hc, if_pos (by omega)]
    · rw [if_neg hc, if_neg (by omega)]

/-- The 24 vectors of pass `s` out of a table. -/
def vecs {α : Type} (T : Table.Idx → α) (s : ℕ) : List (Lanes.Idx → α) := (List.range 24).map fun j => ldT T (384 * s + 16 * j)

/-- Pass `s` over a whole chunk. -/
def pass (s : ℕ) (I : Table.Idx → BitVec 32) (B : Table.Idx → F .f32) (X : Chunk.Idx → F .f32) : Chunk.Idx → F .f32 :=
  upto (64 + 64 * s) 128 (vecs I s) (vecs B s) (ldT B (384 * s)) X

/-- The three passes. -/
def passes (I : Table.Idx → BitVec 32) (B : Table.Idx → F .f32) (X : Chunk.Idx → F .f32) : Chunk.Idx → F .f32 :=
  pass 2 I B (pass 1 I B (pass 0 I B X))

/-- Chunk `q` of the whole array. -/
def chunkOf {α : Type} (P : Flat.Idx → α) (q : ℕ) : Chunk.Idx → α := fun y => P (wordF (32768 * q + (y 0).val))

/-- The whole result: every chunk passed over. -/
def outF (I : Table.Idx → BitVec 32) (B : Table.Idx → F .f32) (P : Flat.Idx → F .f32) : Flat.Idx → F .f32 := fun y =>
  passes I B (chunkOf P ((y 0).val / 32768)) (wordC ((y 0).val % 32768))

theorem ldT_lt (I : Table.Idx → BitVec 32) (hI : ∀ y, (I y).toNat < 256) (s : ℕ) : ∀ v ∈ vecs I s, ∀ x, (v x).toNat < 256 := by
  intro v hv x
  obtain ⟨j, -, rfl⟩ := List.mem_map.1 hv
  exact hI _

end Cert.Proof.Vals
end
-- ==== Proof.Trip.lean ====
/-
  One trip of the kernel's row loop: 24 gathers from the row, their clauses, and the four groups of the row raised.
-/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.WritesUnit
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton
public import proofs.«01_k».proof.Proof.Vals

@[expose] public section
noncomputable section
namespace Cert.Proof.Kernel
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Vals (wordC wordL wordT wordF gat ldT lit clause head raised upto vecs pass passes chunkOf outF)

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The SparseCore and the tile that coordinates `i` name. -/
abbrev cV (i : grid0.Coords) : Fin τ.nSC := (i 0).castLE hcore0
abbrev jV (i : grid0.Coords) : Fin τ.nSub := (i 1).castLE hsub0
abbrev tile (d : Dev nD) (i : grid0.Coords) : Thread nD τ := V d (cV i) (jV i)

/-- A tile's chunk buffer, its copy of the columns and its copy of the offsets. -/
abbrev xB : Memref sig .scVector .vmem S32768 .f32 := Memref.whole cc0_scratch0
abbrev iB : Memref sig .scVector .vmem S1152 .i32 := Memref.whole cc0_scratch1
abbrev bB : Memref sig .scVector .vmem S1152 .f32 := Memref.whole cc0_scratch2

variable [FloatOps F]

abbrev rows : Scf.Loop 32 := ⟨0#32, Scalar.addi 0#32 128#32, 1#32⟩
theorem rows_ok : rows.OK := by decide
theorem rows_trips : rows.trips = 128 := by decide

/-- The first word of row `t` of the buffered chunk. -/
abbrev rowWord (t : Fin rows.trips) : BitVec 32 := Scalar.muli (Scf.iv 0#32 1#32 t) 256#32

theorem rowWord_toNat : ∀ t : Fin rows.trips, (rowWord t).toNat = 256 * t.val := by decide +kernel

/-- Where a row's group of 16 raised words begins: row `t`, column `lo + c`. -/
abbrev groupOff (lo : BitVec 32) (t : Fin rows.trips) (c : BitVec 32) : Fin 1 → Nat :=
  ![(Scalar.indexCast (Scalar.addi (Scalar.addi (rowWord t) lo) c)).toNat]

abbrev tileProg (i : grid0.Coords) (α : Type) := Prog (TpuEff nD τ sig (Elt F) Λ₀ (.scVector ((i 0).castLE hcore0) ((i 1).castLE hsub0))) α

/-- One gather after another at the vectors `vs` of columns, each shifted to the row that begins at word `w`. -/
def gathers (i : grid0.Coords) (arg6 : Memref sig .scVector .vmem S32768 .f32) (w : BitVec 32) {α : Type} :
    List (IVec S16 32) → (List (Vec F S16 .f32) → tileProg (F := F) i α) → tileProg (F := F) i α
  | [], k => k []
  | v :: vs, k => do
    have hw : k0_chk1 (addi v (broadcast S16 w)) := (← Prog.lift (TpuEff.assume (k0_chk1 (addi v (broadcast S16 w))) (k0_chk1.dec (addi v (broadcast S16 w))))).down
    let x : Vec F S16 .f32 ← SparseCore.vectorLoadIdx arg6 ![addi v (broadcast S16 w)] (k0_idx1_inb _ hw) (View.loads_vmem h_S32768)
    gathers i arg6 w vs fun xs => k (x :: xs)

/-- Raise one group of 16 words to the vector `h`: two loads (the second unused) and a store of the greater. -/
def raise (i : grid0.Coords) (arg6 : Memref sig .scVector .vmem S32768 .f32) (off : Fin 1 → Nat) (inb : ∀ a, off a + S16.size a ≤ S32768.size a)
    (h : FVec F S16 .f32) : tileProg (F := F) i PUnit := do
  let v : Vec F S16 .f32 ← Prog.lift (.load arg6 (Rect.unit (s := S32768) off S16.size inb).toLoadRect (View.loadsAt_vmem h_S16))
  let _ : Vec F S16 .f32 ← Prog.lift (.load arg6 (Rect.unit (s := S32768) off S16.size inb).toLoadRect (View.loadsAt_vmem h_S16))
  Prog.lift (.store arg6 (Rect.unit (s := S32768) off S16.size inb) (maximumf v h) Finset.univ (View.stores_vmem_bits_univ h_S16 rfl) (.inl rfl))

def trip (i : grid0.Coords) (arg6 : Memref sig .scVector .vmem S32768 .f32) (lo : BitVec 32)
    (Is : List (IVec S16 32)) (Bs : List (FVec F S16 .f32)) (z : FVec F S16 .f32)
    (inb : ∀ t (r : Fin 4), ∀ a, groupOff lo t (BitVec.ofNat 32 (16 * r.val)) a + S16.size a ≤ S32768.size a)
    (t : Fin rows.trips) (_ : Unit) : tileProg (F := F) i PUnit :=
  gathers i arg6 (rowWord t) Is fun gs => do
    raise i arg6 (groupOff lo t 0#32) (inb t 0) (head Bs gs z 0)
    raise i arg6 (groupOff lo t 16#32) (inb t 1) (head Bs gs z 1)
    raise i arg6 (groupOff lo t 32#32) (inb t 2) (head Bs gs z 2)
    raise i arg6 (groupOff lo t 48#32) (inb t 3) (head Bs gs z 3)
    pure ⟨⟩

/-- The tile's chunk buffer holds `X`. -/
abbrev xPts (d : Dev nD) (i : grid0.Coords) (X : Cert.Proof.Vals.Chunk.Idx → F .f32) : sProp 𝕄 :=
  (tile d i).loc cc0_scratch0 ↦{fullShare} (X : Buf (Elt F) ((tile d i).loc cc0_scratch0))

abbrev W (d : Dev nD) (i : grid0.Coords) {α : Type} (e : tileProg (F := F) i α) (Q : α → sProp 𝕄) : sProp 𝕄 :=
  wp frame (wpE (defs₀ (F := F)) 𝒱₀ (tile d i) none) Set.univ e Q

theorem shifted_toNat (v : IVec S16 32) (t : Fin rows.trips) (x : S16.Idx) (hv : (v x).toNat < 256) :
    (addi v (broadcast S16 (rowWord t)) x).toNat = (v x).toNat + 256 * t.val := by
  have ht : t.val < 128 := lt_of_lt_of_eq t.isLt rows_trips
  show ((v x) + rowWord t).toNat = _
  rw [BitVec.toNat_add, rowWord_toNat, Nat.mod_eq_of_lt (by omega)]

theorem chk_shifted (v : IVec S16 32) (t : Fin rows.trips) (hv : ∀ x, (v x).toNat < 256) : k0_chk1 (addi v (broadcast S16 (rowWord t))) := by
  have ht : t.val < 128 := lt_of_lt_of_eq t.isLt rows_trips
  intro a x
  have := hv x
  fin_cases a
  show (addi v (broadcast S16 (rowWord t)) x).toNat < 32768
  rw [shifted_toNat v t x (hv x)]; omega

theorem loadIdx_shifted (X : Cert.Proof.Vals.Chunk.Idx → F .f32) (v : IVec S16 32) (t : Fin rows.trips) (hv : ∀ x, (v x).toNat < 256)
    (h : ∀ a x, ((![addi v (broadcast S16 (rowWord t))] : Fin S32768.rank → IVec S16 32) a x).toNat < S32768.size a) :
    loadIdx (F := F) (s := S32768) (e := .f32) X ![addi v (broadcast S16 (rowWord t))] h = gat X t.val v := by
  have ht : t.val < 128 := lt_of_lt_of_eq t.isLt rows_trips
  funext x
  have := hv x
  refine congrArg X (funext fun a => Fin.ext ?_)
  fin_cases a
  show (addi v (broadcast S16 (rowWord t)) x).toNat = ((v x).toNat + 256 * t.val) % 32768
  rw [shifted_toNat v t x (hv x), Nat.mod_eq_of_lt (by omega)]

omit [FloatOps F] in
theorem step {P R A B : sProp 𝕄} (h : P ⊢ iprop((R -∗ A) -∗ B)) (hR : R ⊢ A) : P ⊢ B := by
  iintro HP
  iapply h $$ HP
  iintro HR
  iapply hR; iexact HR

theorem wp_gathers (d : Dev nD) (i : grid0.Coords) (t : Fin rows.trips) (X : Cert.Proof.Vals.Chunk.Idx → F .f32) {α : Type} (Q : α → sProp 𝕄) :
    ∀ (vs : List (IVec S16 32)) (_ : ∀ v ∈ vs, ∀ x, (v x).toNat < 256) (k : List (Vec F S16 .f32) → tileProg (F := F) i α)
      (_ : xPts d i X ⊢ W d i (k (vs.map (gat X t.val))) Q),
      xPts d i X ⊢ W d i (gathers i xB (rowWord t) vs k) Q
  | [], _, k, hk => hk
  | v :: vs, hvs, k, hk => by
    have hv := hvs v List.mem_cons_self
    have ih := wp_gathers d i t X Q vs (fun u hu => hvs u (List.mem_cons_of_mem _ hu)) (fun xs => k (gat X t.val v :: xs)) hk
    unfold gathers
    refine BIBase.Entails.trans ?_ (Entails.of_eq (wp_assume_of (c := tile d i) 𝒱₀ none Set.univ (chk_shifted v t hv)).symm)
    refine step (SparseCore.wp_vectorLoadIdx (c := tile d i) 𝒱₀ none Set.univ (base := xB) (hl := View.loads_vmem h_S32768) (S := Finset.univ) (q := fullShare) (f := X) (Finset.subset_univ _)) ?_
    rw [show View.read (Elt F) (xB.access (Rect.whole S32768)) X = X from Memref.read_access_whole (Elt F) cc0_scratch0 X, loadIdx_shifted X v t hv]
    exact ih

/-- A group's 16 words raised on the contents. -/
theorem raise_val (lo n : ℕ) (hn : n < 4) (hlo : lo + 64 ≤ 256) (t : Fin rows.trips) (off : Fin 1 → Nat) (hoff : off = ![256 * t.val + 16 * n + lo])
    (inb : ∀ a, off a + S16.size a ≤ S32768.size a) (H : ℕ → FVec F S16 .f32) (X : Cert.Proof.Vals.Chunk.Idx → F .f32) :
    (xB.access (Rect.unit (s := S32768) off S16.size inb)).write (Elt F) (raised lo t.val n H X)
        (maximumf (xB.view.readAt (Elt F) (Rect.unit (s := S32768) off S16.size inb).toLoadRect (raised lo t.val n H X)) (H n)) Finset.univ
      = raised lo t.val (n + 1) H X := by
  have ht : t.val < 128 := lt_of_lt_of_eq t.isLt rows_trips
  funext y
  refine (View.read_writes_cons_unit (Val := Elt F) xB.view (raised lo t.val n H X) inb _ [] y hoff).trans ?_
  have hy : (y 0).val < 32768 := (y 0).isLt
  by_cases h : ∀ a, (![256 * t.val + 16 * n + lo] : Fin 1 → ℕ) a ≤ (y a).val ∧ (y a).val < (![256 * t.val + 16 * n + lo] : Fin 1 → ℕ) a + S16.size a
  · rw [dif_pos h]
    have h0 : 256 * t.val + 16 * n + lo ≤ (y 0).val ∧ (y 0).val < 256 * t.val + 16 * n + lo + 16 := h 0
    have e1 : (y 0).val / 256 = t.val := by omega
    have e2 : ((y 0).val % 256 - lo) / 16 = n := by omega
    have e3 : ((y 0).val % 256 - lo) % 16 = (y 0).val - (256 * t.val + 16 * n + lo) := by omega
    subst hoff
    have hz : (Rect.unit (s := S32768) ![256 * t.val + 16 * n + lo] S16.size inb).emb (Rect.unitLocal (s := S32768) (off := ![256 * t.val + 16 * n + lo]) (size := S16.size) y h) = y := by
      funext a; fin_cases a; exact Fin.ext (by
        show 256 * t.val + 16 * n + lo + 1 * ((y 0).val - (256 * t.val + 16 * n + lo)) = (y 0).val; omega)
    have hl : (Rect.unitLocal (s := S32768) (off := ![256 * t.val + 16 * n + lo]) (size := S16.size) y h : S16.Idx) = wordL (((y 0).val % 256 - lo) % 16) := by
      funext a; fin_cases a; exact Fin.ext (by
        show (y 0).val - (256 * t.val + 16 * n + lo) = (((y 0).val % 256 - lo) % 16) % 16; omega)
    show FloatOps.maximumf (raised lo t.val n H X ((Rect.unit (s := S32768) ![256 * t.val + 16 * n + lo] S16.size inb).emb (Rect.unitLocal (s := S32768) (off := ![256 * t.val + 16 * n + lo]) (size := S16.size) y h)))
      (H n (Rect.unitLocal (s := S32768) (off := ![256 * t.val + 16 * n + lo]) (size := S16.size) y h)) = _
    rw [hz, hl]
    unfold raised
    rw [if_neg (by omega), if_pos (by omega), e2]
  · rw [dif_neg h]
    show raised lo t.val n H X y = _
    have h0 : ¬ (256 * t.val + 16 * n + lo ≤ (y 0).val ∧ (y 0).val < 256 * t.val + 16 * n + lo + 16) := fun h0 => h fun a => by fin_cases a; exact h0
    unfold raised
    by_cases hc : (y 0).val / 256 = t.val ∧ lo ≤ (y 0).val % 256 ∧ (y 0).val % 256 < lo + 16 * n
    · rw [if_pos hc, if_pos (by omega)]
    · rw [if_neg hc, if_neg (by omega)]

omit [FloatOps F] in
theorem seq {d : Dev nD} {i : grid0.Coords} [FloatOps F] {α β : Type} {e : tileProg (F := F) i α} {k : α → tileProg (F := F) i β} {P : sProp 𝕄} {R : α → sProp 𝕄}
    {Q : β → sProp 𝕄} (h : P ⊢ W d i e R) (hk : ∀ a, R a ⊢ W d i (k a) Q) : P ⊢ W d i (e >>= k) Q := by
  refine BIBase.Entails.trans h ?_
  show _ ⊢ wp frame (wpE (defs₀ (F := F)) 𝒱₀ (tile d i) none) Set.univ (e >>= k) Q
  rw [wp_bind]
  exact wp_mono frame _ _ hk

theorem ldX (d : Dev nD) (i : grid0.Coords) (off : Fin 1 → Nat) (inb : ∀ a, off a + S16.size a ≤ S32768.size a)
    (Y : Cert.Proof.Vals.Chunk.Idx → F .f32) {α : Type} (k : Vec F S16 .f32 → tileProg (F := F) i α) (Q : α → sProp 𝕄)
    (hk : xPts d i Y ⊢ W d i (k (xB.view.readAt (Elt F) (Rect.unit (s := S32768) off S16.size inb).toLoadRect Y)) Q) :
    xPts d i Y ⊢ W d i (.op (.load xB (Rect.unit (s := S32768) off S16.size inb).toLoadRect (View.loadsAt_vmem h_S16)) k) Q :=
  step (wp_load (defs := defs₀ (F := F)) (U := UU) (Γ := .empty) (c := tile d i) (Q := Q) 𝒱₀ none Set.univ (m := xB) (r := (Rect.unit (s := S32768) off S16.size inb).toLoadRect) (hl := View.loadsAt_vmem h_S16) (S := Finset.univ) (q := fullShare) (f := Y) (Finset.subset_univ _) (k := k)) hk

theorem stX (d : Dev nD) (i : grid0.Coords) (off : Fin 1 → Nat) (inb : ∀ a, off a + S16.size a ≤ S32768.size a)
    (w : FVec F S16 .f32) (Y : Cert.Proof.Vals.Chunk.Idx → F .f32) {α : Type} (k : PUnit → tileProg (F := F) i α) (Q : α → sProp 𝕄)
    (hk : xPts d i ((xB.access (Rect.unit (s := S32768) off S16.size inb)).write (Elt F) Y w Finset.univ) ⊢ W d i (k ⟨⟩) Q) :
    xPts d i Y ⊢ W d i (.op (.store xB (Rect.unit (s := S32768) off S16.size inb) w Finset.univ (View.stores_vmem_bits_univ h_S16 rfl) (.inl rfl)) k) Q :=
  step (wp_store (defs := defs₀ (F := F)) (U := UU) (Γ := .empty) (c := tile d i) (Q := Q) 𝒱₀ none Set.univ (m := xB) (r := Rect.unit (s := S32768) off S16.size inb) (w := w) (Mk := Finset.univ) (hx := View.stores_vmem_bits_univ h_S16 rfl) (hm := .inl rfl) (S := Finset.univ) (f := Y) (Finset.subset_univ _) (k := k)) hk

theorem wp_raise (d : Dev nD) (i : grid0.Coords) (lo n : ℕ) (hn : n < 4) (hlo : lo + 64 ≤ 256) (t : Fin rows.trips) (off : Fin 1 → Nat)
    (hoff : off = ![256 * t.val + 16 * n + lo]) (inb : ∀ a, off a + S16.size a ≤ S32768.size a) (H : ℕ → FVec F S16 .f32)
    (X : Cert.Proof.Vals.Chunk.Idx → F .f32) :
    xPts d i (raised lo t.val n H X) ⊢ W d i (raise i xB off inb (H n)) fun _ => xPts d i (raised lo t.val (n + 1) H X) := by
  unfold raise
  refine ldX d i _ _ _ _ _ ?_
  refine ldX d i _ _ _ _ _ ?_
  refine stX (F := F) d i off inb _ _ _ _ ?_
  refine BIBase.Entails.trans (Entails.of_eq (congrArg (xPts d i) (raise_val lo n hn hlo t off hoff inb H X))) ?_
  refine BIBase.Entails.trans ?_ (Entails.of_eq (wp_ret ..).symm)
  iintro H; imodintro; iexact H

theorem groupOff_eq (lo : BitVec 32) (hlo : lo.toNat + 64 ≤ 256) (t : Fin rows.trips) (n : ℕ) (hn : n < 4) (c : BitVec 32) (hc : c.toNat = 16 * n) :
    groupOff lo t c = ![256 * t.val + 16 * n + lo.toNat] := by
  have ht : t.val < 128 := lt_of_lt_of_eq t.isLt rows_trips
  refine congrArg (fun z => (![z] : Fin 1 → ℕ)) ?_
  show ((rowWord t + lo + c)).toNat = _
  rw [BitVec.toNat_add, BitVec.toNat_add, rowWord_toNat, hc, Nat.mod_eq_of_lt (by rw [Nat.mod_eq_of_lt] <;> omega), Nat.mod_eq_of_lt (by omega)]
  omega

/-- A trip takes the first `t` rows passed over to the first `t + 1`. -/
theorem wp_trip (d : Dev nD) (i : grid0.Coords) (lo : BitVec 32) (hlo : lo.toNat + 64 ≤ 256)
    (Is : List (IVec S16 32)) (hI : ∀ v ∈ Is, ∀ x, (v x).toNat < 256) (Bs : List (FVec F S16 .f32)) (z : FVec F S16 .f32)
    (inb : ∀ t (r : Fin 4), ∀ a, groupOff lo t (BitVec.ofNat 32 (16 * r.val)) a + S16.size a ≤ S32768.size a)
    (X : Cert.Proof.Vals.Chunk.Idx → F .f32) (t : Fin rows.trips) (u : Unit) :
    xPts d i (upto lo.toNat t.val Is Bs z X) ⊢ W d i (trip i xB lo Is Bs z inb t u) fun _ => xPts d i (upto lo.toNat (t.val + 1) Is Bs z X) := by
  have ht : t.val < 128 := lt_of_lt_of_eq t.isLt rows_trips
  unfold trip
  refine wp_gathers d i t _ _ Is hI _ ?_
  rw [← Cert.Proof.Vals.raised_upto lo.toNat t.val ht Is Bs z X hI]
  generalize upto lo.toNat t.val Is Bs z X = Y
  generalize head Bs (Is.map (gat Y t.val)) z = H
  refine BIBase.Entails.trans (Entails.of_eq (congrArg (xPts d i) (Cert.Proof.Vals.raised_zero lo.toNat t.val H Y).symm)) ?_
  refine seq (wp_raise d i lo.toNat 0 (by decide) hlo t _ (groupOff_eq lo hlo t 0 (by decide) _ rfl) (inb t 0) H Y) fun _ => ?_
  refine seq (wp_raise d i lo.toNat 1 (by decide) hlo t _ (groupOff_eq lo hlo t 1 (by decide) _ rfl) (inb t 1) H Y) fun _ => ?_
  refine seq (wp_raise d i lo.toNat 2 (by decide) hlo t _ (groupOff_eq lo hlo t 2 (by decide) _ rfl) (inb t 2) H Y) fun _ => ?_
  refine seq (wp_raise d i lo.toNat 3 (by decide) hlo t _ (groupOff_eq lo hlo t 3 (by decide) _ rfl) (inb t 3) H Y) fun _ => ?_
  refine BIBase.Entails.trans ?_ (Entails.of_eq (wp_ret ..).symm)
  iintro H; imodintro; iexact H

end Cert.Proof.Kernel
end
-- ==== Proof.Body.lean ====
/-
  The kernel's body on one tile: its two tables fetched, then chunk after chunk fetched, passed over three times and
  written back.
-/
module

public import proofs.«01_k».proof.Proof.Trip

@[expose] public section
noncomputable section
namespace Cert.Proof.Kernel
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Vals (wordC wordL wordT wordF gat ldT lit clause head raised upto vecs pass passes chunkOf outF)

variable {F : FTy → Type} [FloatOps F]

local notation "𝕄" => MT nD τ sig (HIx 1) (Elt F) ℕ UU ℕ

/-- The arrays a tile addresses: the flat predicates, the columns, the offsets, the flat result. -/
abbrev pA : Memref sig .scVector .hbm S4194304 .f32 := Memref.whole main_v34_scv
abbrev iA : Memref sig .scVector .hbm S1152 .i32 := Memref.whole main_v31_scv
abbrev bA : Memref sig .scVector .hbm S1152 .f32 := Memref.whole main_v33_scv
abbrev oA : Memref sig .scVector .hbm S4194304 .f32 := Memref.whole main_v35_scv

/-- A tile's number among the 32: its 512 rows are rows `512 * wid …`. -/
def wid (i : grid0.Coords) : ℕ := (i 1).val * 2 + (i 0).val

/-- The words of the result that tile number `w` writes. -/
def block (w : ℕ) : Finset S4194304.Idx := Finset.univ.filter fun y => (y 0).val / 131072 = w

/-- Chunk `q` of `G` replaced by `Y`. -/
def put (q : ℕ) (Y : Cert.Proof.Vals.Chunk.Idx → F .f32) (G : Cert.Proof.Vals.Flat.Idx → F .f32) : Cert.Proof.Vals.Flat.Idx → F .f32 :=
  fun y => if (y 0).val / 32768 = q then Y (wordC ((y 0).val % 32768)) else G y

section Body
variable (d : Dev nD) (i : grid0.Coords) (O : CellTallies nD τ sig (HIx 1)) (W₀ : Waits sig (HIx 1))

/-- What every transfer needs and gives back: the tile's semaphores at zero and its record of waits. -/
def Rs : sProp 𝕄 :=
  iprop(Transfers.MayWaits (tile d i) (none : HIx 1) O ∗ ownSems0 (tile d i)
    ∗ ∃ W', ⌜∀ p ∈ W', p ∈ W₀ ∨ p.2 = none⌝ ∗ owes (tile d i) O W')

theorem wp_copy {sp sp' sp'' : Space} {s s₃ : Shape} {e e₃ : EltTy} (src : Memref sig .scVector sp s e) (dst : Memref sig .scVector sp' s e)
    (sm : DmaSem sig) (hsm : (SemLoc.dma sm : SemLoc sig).isScoped .scVector = true) (hs : 0 < s.numel)
    {src' : Memref sig .scVector sp'' s₃ e₃}
    {h1 : src.view.WordExact} {h2 : dst.view.WordExact} {h3 : DmaTarget.Typed (nD := nD) (τ := τ) (p := (tile d i).2) sp (.dma sm) (.here dst)}
    {h4 : src'.view.WordExact} {h5 : dst.view.WordExact}
    {q : PosShare TreeShare} (fs : Buf (Elt F) (src.view.loc (tile d i))) (Sd : Finset (Idx (dst.view.loc (tile d i)))) (hSd : dst.view.set ⊆ Sd)
    (fd : Buf (Elt F) (dst.view.loc (tile d i))) {α : Type} (k : PUnit → tileProg (F := F) i α) (Q : α → sProp 𝕄) :
    iprop((src.view.loc (tile d i) ↦[src.view.set]{q} fs) ∗ (dst.view.loc (tile d i) ↦[Sd]{fullShare} fd) ∗ Rs d i O W₀)
      ⊢ iprop((iprop((src.view.loc (tile d i) ↦[src.view.set]{q} fs)
        ∗ (dst.view.loc (tile d i) ↦[Sd]{fullShare} dst.view.write (Elt F) fd (src.view.read (Elt F) fs) Finset.univ) ∗ Rs d i O W₀)
      -∗ W d i (k ⟨⟩) Q) -∗ W d i (.op (.enqueueDmaAs src (.here dst) .same (.dma sm) h1 h2 h3) fun _ => .op (.waitDma2 sm src' dst h4 h5) k) Q) := by
  have hmem : ((tile d i, SemLoc.dma sm) : GSem nD τ sig) ∈ ownCells (tile d i) := mem_ownCells.mpr ⟨rfl, hsm⟩
  unfold Rs
  rw [show (ownSems0 (tile d i) : sProp 𝕄) = iprop(semVal (tile d i, SemLoc.dma sm) 0 ∗ bigSep ((ownCells (tile d i)).erase (tile d i, SemLoc.dma sm)) fun g => semVal g 0)
    from SparseCore.bigSep_erase' hmem]
  iintro ⟨Hs, Hd, #Hmw, ⟨Hv, Hrest⟩, %W', %hW', HO⟩ Hk
  iapply (Transfers.wp_dmaLocal countersEmb 𝒱₀ (tile d i) none (none : HIx 1) (dst.view.amount (SemLoc.dma sm)) rfl (dst.view.amount_pos _ hs) hSd) $$ [Hs Hd Hv]
  · isplitl [Hs]; · iexact Hs
    isplitl [Hd] <;> iassumption
  iintro HF
  iapply (Transfers.wp_waitLocalO countersEmb 𝒱₀ (tile d i) none (none : HIx 1) rfl) $$ [HF HO]
  · isplitl [HF]; · iexact HF
    isplitl [HO]; · iexact HO
    iapply (Transfers.MayWaits.elim (SemLoc.dma sm)); iexact Hmw
  iintro ⟨⟨Hd, Hs⟩, Hv, HO⟩
  iapply Hk
  isplitl [Hs]; · iexact Hs
  isplitl [Hd]; · iexact Hd
  isplitr; · iexact Hmw
  isplitl [Hv Hrest]
  · isplitl [Hv] <;> iassumption
  iexists (insert (SemLoc.dma sm, (none : HIx 1)) W'); isplitr
  · ipureintro; intro p hp
    rcases Finset.mem_insert.mp hp with hp | hp
    · exact .inr (hp ▸ rfl)
    · exact hW' p hp
  · iexact HO

variable (qP qI qB : PosShare TreeShare) (P : Cert.Proof.Vals.Flat.Idx → F .f32) (hI : Cert.Proof.Vals.Table.Idx → BitVec 32) (hB : Cert.Proof.Vals.Table.Idx → F .f32)

/-- The tile between two steps: its tables at `I` and `B`, its chunk at `X`, its block of the result at `G`. -/
def St (I : Cert.Proof.Vals.Table.Idx → BitVec 32) (B : Cert.Proof.Vals.Table.Idx → F .f32) (X : Cert.Proof.Vals.Chunk.Idx → F .f32)
    (G : Cert.Proof.Vals.Flat.Idx → F .f32) : sProp 𝕄 :=
  iprop(((tile d i).loc main_v34_scv ↦{qP} (P : Buf (Elt F) ((tile d i).loc main_v34_scv)))
    ∗ ((tile d i).loc main_v31_scv ↦{qI} (hI : Buf (Elt F) ((tile d i).loc main_v31_scv)))
    ∗ ((tile d i).loc main_v33_scv ↦{qB} (hB : Buf (Elt F) ((tile d i).loc main_v33_scv)))
    ∗ ((tile d i).loc main_v35_scv ↦[block (wid i)]{fullShare} (G : Buf (Elt F) ((tile d i).loc main_v35_scv)))
    ∗ xPts d i X
    ∗ ((tile d i).loc cc0_scratch1 ↦{fullShare} (I : Buf (Elt F) ((tile d i).loc cc0_scratch1)))
    ∗ ((tile d i).loc cc0_scratch2 ↦{fullShare} (B : Buf (Elt F) ((tile d i).loc cc0_scratch2)))
    ∗ Rs d i O W₀)

variable {I : Cert.Proof.Vals.Table.Idx → BitVec 32} {B : Cert.Proof.Vals.Table.Idx → F .f32} {X : Cert.Proof.Vals.Chunk.Idx → F .f32}
  {G : Cert.Proof.Vals.Flat.Idx → F .f32}

theorem readAt_I (n : ℕ) (inb : ∀ a, (![n] : Fin 1 → ℕ) a + S16.size a ≤ S1152.size a) :
    iB.view.readAt (Elt F) (Rect.unit (s := S1152) ![n] S16.size inb).toLoadRect I = ldT I n := by
  funext x
  have h0 : n + 16 ≤ 1152 := inb 0
  have hx : (x 0).val < 16 := (x 0).isLt
  refine congrArg I (funext fun a => Fin.ext ?_)
  fin_cases a
  show n + 1 * (x 0).val = (n + (x 0).val) % 1152
  rw [Nat.mod_eq_of_lt (by omega)]; omega

theorem readAt_B (n : ℕ) (inb : ∀ a, (![n] : Fin 1 → ℕ) a + S16.size a ≤ S1152.size a) :
    bB.view.readAt (Elt F) (Rect.unit (s := S1152) ![n] S16.size inb).toLoadRect B = ldT B n := by
  funext x
  have h0 : n + 16 ≤ 1152 := inb 0
  have hx : (x 0).val < 16 := (x 0).isLt
  refine congrArg B (funext fun a => Fin.ext ?_)
  fin_cases a
  show n + 1 * (x 0).val = (n + (x 0).val) % 1152
  rw [Nat.mod_eq_of_lt (by omega)]; omega

theorem stepI {α : Type} {Q : α → sProp 𝕄} {n : ℕ} {inb : ∀ a, (![n] : Fin 1 → ℕ) a + S16.size a ≤ S1152.size a}
    {hl : iB.view.LoadsAt (Rect.unit (s := S1152) ![n] S16.size inb).toLoadRect} {k : Vec F S16 .i32 → tileProg (F := F) i α}
    (hk : St d i O W₀ qP qI qB P hI hB I B X G ⊢ W d i (k (ldT I n)) Q) :
    St d i O W₀ qP qI qB P hI hB I B X G ⊢ W d i (.op (.load iB (Rect.unit (s := S1152) ![n] S16.size inb).toLoadRect hl) k) Q := by
  have hld := wp_load (defs := defs₀ (F := F)) (U := UU) (Γ := .empty) (c := tile d i) (Q := Q) 𝒱₀ none Set.univ (m := iB) (r := (Rect.unit (s := S1152) ![n] S16.size inb).toLoadRect) (hl := hl) (S := Finset.univ) (q := fullShare) (f := I) (Finset.subset_univ _) (k := k)
  rw [readAt_I] at hld
  unfold St at hk ⊢
  iintro ⟨H1, H2, H3, H4, H5, H6, H7, H8⟩
  iapply hld $$ H6
  iintro H6
  iapply hk
  isplitl [H1]; · iexact H1
  isplitl [H2]; · iexact H2
  isplitl [H3]; · iexact H3
  isplitl [H4]; · iexact H4
  isplitl [H5]; · iexact H5
  isplitl [H6]; · iexact H6
  isplitl [H7] <;> iassumption

theorem stepB {α : Type} {Q : α → sProp 𝕄} {n : ℕ} {inb : ∀ a, (![n] : Fin 1 → ℕ) a + S16.size a ≤ S1152.size a}
    {hl : bB.view.LoadsAt (Rect.unit (s := S1152) ![n] S16.size inb).toLoadRect} {k : Vec F S16 .f32 → tileProg (F := F) i α}
    (hk : St d i O W₀ qP qI qB P hI hB I B X G ⊢ W d i (k (ldT B n)) Q) :
    St d i O W₀ qP qI qB P hI hB I B X G ⊢ W d i (.op (.load bB (Rect.unit (s := S1152) ![n] S16.size inb).toLoadRect hl) k) Q := by
  have hld := wp_load (defs := defs₀ (F := F)) (U := UU) (Γ := .empty) (c := tile d i) (Q := Q) 𝒱₀ none Set.univ (m := bB) (r := (Rect.unit (s := S1152) ![n] S16.size inb).toLoadRect) (hl := hl) (S := Finset.univ) (q := fullShare) (f := B) (Finset.subset_univ _) (k := k)
  rw [readAt_B] at hld
  unfold St at hk ⊢
  iintro ⟨H1, H2, H3, H4, H5, H6, H7, H8⟩
  iapply hld $$ H7
  iintro H7
  iapply hk
  isplitl [H1]; · iexact H1
  isplitl [H2]; · iexact H2
  isplitl [H3]; · iexact H3
  isplitl [H4]; · iexact H4
  isplitl [H5]; · iexact H5
  isplitl [H6]; · iexact H6
  isplitl [H7] <;> iassumption

theorem group_inb (lo : BitVec 32) (hlo : lo.toNat + 64 ≤ 256) :
    ∀ t (r : Fin 4), ∀ a, groupOff lo t (BitVec.ofNat 32 (16 * r.val)) a + S16.size a ≤ S32768.size a := by
  intro t r a
  have ht : t.val < 128 := lt_of_lt_of_eq t.isLt rows_trips
  have hr := r.isLt
  rw [groupOff_eq lo hlo t r.val hr _ (by rw [BitVec.toNat_ofNat]; omega)]
  fin_cases a
  show 256 * t.val + 16 * r.val + lo.toNat + 16 ≤ 32768
  omega

/-- A row loop is pass `s` over the chunk. -/
theorem stepLoop {α : Type} {Q : α → sProp 𝕄} (s : ℕ) (hs : s < 3) (hcols : ∀ y, (I y).toNat < 256) (lo : BitVec 32) (hlo : lo.toNat = 64 + 64 * s)
    (body : Fin rows.trips → Unit → tileProg (F := F) i Unit)
    (hb : ∀ t u, body t u = trip i xB lo (vecs I s) (vecs B s) (ldT B (384 * s)) (group_inb lo (by omega)) t u)
    {k : Unit → tileProg (F := F) i α}
    (hk : St d i O W₀ qP qI qB P hI hB I B (pass s I B X) G ⊢ W d i (k ⟨⟩) Q) :
    St d i O W₀ qP qI qB P hI hB I B X G ⊢ W d i (Scf.Loop.for rows rows_ok ⟨⟩ body >>= k) Q := by
  have hl := Scf.wp_for_bind (E := TpuEff nD τ sig (Elt F) Λ₀ (tile d i).2) frame (wpE (defs₀ (F := F)) 𝒱₀ (tile d i) none) Set.univ rows.lb rows.ub rows.st rows_ok (⟨⟩ : Unit) body
    (fun n _ => xPts d i (upto lo.toNat n (vecs I s) (vecs B s) (ldT B (384 * s)) X))
    (fun t u => by rw [hb]; exact wp_trip d i lo (by omega) _ (Cert.Proof.Vals.ldT_lt I hcols s) _ _ _ X t u) (kk := k) (Q := Q)
  rw [Cert.Proof.Vals.upto_zero] at hl
  have he : upto lo.toNat (Scf.trips rows.lb rows.ub rows.st) (vecs I s) (vecs B s) (ldT B (384 * s)) X = pass s I B X := by
    rw [hlo]; rfl
  rw [he] at hl
  unfold St at hk ⊢
  iintro ⟨H1, H2, H3, H4, H5, H6, H7, H8⟩
  iapply hl $$ H5
  iintro %_ H5
  iapply hk
  isplitl [H1]; · iexact H1
  isplitl [H2]; · iexact H2
  isplitl [H3]; · iexact H3
  isplitl [H4]; · iexact H4
  isplitl [H5]; · iexact H5
  isplitl [H6]; · iexact H6
  isplitl [H7] <;> iassumption

/-- The whole of a tile's columns, of its offsets: fetched. -/
theorem stepFetchI {α : Type} {Q : α → sProp 𝕄} {sm : DmaSem sig} (hsm : (SemLoc.dma sm : SemLoc sig).isScoped .scVector = true)
    {h1 : iA.view.WordExact} {h2 : iB.view.WordExact} {h3 : DmaTarget.Typed (nD := nD) (τ := τ) (p := (tile d i).2) .hbm (.dma sm) (.here iB)}
    {h4 : iA.view.WordExact} {h5 : iB.view.WordExact} {k : PUnit → tileProg (F := F) i α}
    (hk : St d i O W₀ qP qI qB P hI hB hI B X G ⊢ W d i (k ⟨⟩) Q) :
    St d i O W₀ qP qI qB P hI hB I B X G
      ⊢ W d i (.op (.enqueueDmaAs iA (.here iB) .same (.dma sm) h1 h2 h3) fun _ => .op (.waitDma2 sm iA iB h4 h5) k) Q := by
  have hc := wp_copy d i O W₀ iA iB sm hsm (by decide) (src' := iA) (h1 := h1) (h2 := h2) (h3 := h3) (h4 := h4) (h5 := h5) (q := qI) hI Finset.univ (Finset.subset_univ _) I k Q
  rw [show iB.view.write (Elt F) I (iA.view.read (Elt F) hI) Finset.univ = hI from View.write_whole_univ _ _ _] at hc
  simp only [Memref.view_whole, View.set_whole] at hc
  unfold St at hk ⊢
  iintro ⟨H1, H2, H3, H4, H5, H6, H7, H8⟩
  iapply hc $$ [H2 H6 H8]
  · isplitl [H2]; · iexact H2
    isplitl [H6] <;> iassumption
  iintro ⟨H2, H6, H8⟩
  iapply hk
  isplitl [H1]; · iexact H1
  isplitl [H2]; · iexact H2
  isplitl [H3]; · iexact H3
  isplitl [H4]; · iexact H4
  isplitl [H5]; · iexact H5
  isplitl [H6]; · iexact H6
  isplitl [H7] <;> iassumption

theorem stepFetchB {α : Type} {Q : α → sProp 𝕄} {sm : DmaSem sig} (hsm : (SemLoc.dma sm : SemLoc sig).isScoped .scVector = true)
    {h1 : bA.view.WordExact} {h2 : bB.view.WordExact} {h3 : DmaTarget.Typed (nD := nD) (τ := τ) (p := (tile d i).2) .hbm (.dma sm) (.here bB)}
    {h4 : bA.view.WordExact} {h5 : bB.view.WordExact} {k : PUnit → tileProg (F := F) i α}
    (hk : St d i O W₀ qP qI qB P hI hB I hB X G ⊢ W d i (k ⟨⟩) Q) :
    St d i O W₀ qP qI qB P hI hB I B X G
      ⊢ W d i (.op (.enqueueDmaAs bA (.here bB) .same (.dma sm) h1 h2 h3) fun _ => .op (.waitDma2 sm bA bB h4 h5) k) Q := by
  have hc := wp_copy d i O W₀ bA bB sm hsm (by decide) (src' := bA) (h1 := h1) (h2 := h2) (h3 := h3) (h4 := h4) (h5 := h5) (q := qB) hB Finset.univ (Finset.subset_univ _) B k Q
  rw [show bB.view.write (Elt F) B (bA.view.read (Elt F) hB) Finset.univ = hB from View.write_whole_univ _ _ _] at hc
  simp only [Memref.view_whole, View.set_whole] at hc
  unfold St at hk ⊢
  iintro ⟨H1, H2, H3, H4, H5, H6, H7, H8⟩
  iapply hc $$ [H3 H7 H8]
  · isplitl [H3]; · iexact H3
    isplitl [H7] <;> iassumption
  iintro ⟨H3, H7, H8⟩
  iapply hk
  isplitl [H1]; · iexact H1
  isplitl [H2]; · iexact H2
  isplitl [H3]; · iexact H3
  isplitl [H4]; · iexact H4
  isplitl [H5]; · iexact H5
  isplitl [H6]; · iexact H6
  isplitl [H7] <;> iassumption

omit [FloatOps F] in
/-- Word `n` of chunk `q` of the whole arrays. -/
theorem slice_emb (q : ℕ) (hq : q < 128) (off : Fin 1 → ℕ) (hoff : off = ![32768 * q]) (inb : ∀ a, off a + S32768.size a ≤ S4194304.size a) (y : S32768.Idx) :
    (Rect.unit (s := S4194304) off S32768.size inb).emb y = wordF (32768 * q + (y 0).val) := by
  subst hoff
  have hy : (y 0).val < 32768 := (y 0).isLt
  funext a; fin_cases a; refine Fin.ext ?_
  show 32768 * q + 1 * (y 0).val = (32768 * q + (y 0).val) % 4194304
  rw [Nat.mod_eq_of_lt (by omega)]; omega

/-- Chunk `q` of the predicates, fetched. -/
theorem stepIn {α : Type} {Q : α → sProp 𝕄} (q : ℕ) (hq : q < 128) {off : Fin 1 → ℕ} (hoff : off = ![32768 * q]) {inb : ∀ a, off a + S32768.size a ≤ S4194304.size a}
    {sm : DmaSem sig} (hsm : (SemLoc.dma sm : SemLoc sig).isScoped .scVector = true)
    {h1 : (pA.slice (Rect.unit (s := S4194304) off S32768.size inb) (fun _ => rfl)).view.WordExact} {h2 : xB.view.WordExact}
    {h3 : DmaTarget.Typed (nD := nD) (τ := τ) (p := (tile d i).2) .hbm (.dma sm) (.here xB)}
    {h4 : (pA.slice (Rect.unit (s := S4194304) off S32768.size inb) (fun _ => rfl)).view.WordExact} {h5 : xB.view.WordExact} {k : PUnit → tileProg (F := F) i α}
    (hk : St d i O W₀ qP qI qB P hI hB I B (chunkOf P q) G ⊢ W d i (k ⟨⟩) Q) :
    St d i O W₀ qP qI qB P hI hB I B X G
      ⊢ W d i (.op (.enqueueDmaAs (pA.slice (Rect.unit (s := S4194304) off S32768.size inb) (fun _ => rfl)) (.here xB) .same (.dma sm) h1 h2 h3)
          fun _ => .op (.waitDma2 sm (pA.slice (Rect.unit (s := S4194304) off S32768.size inb) (fun _ => rfl)) xB h4 h5) k) Q := by
  have hc := wp_copy d i O W₀ (pA.slice (Rect.unit (s := S4194304) off S32768.size inb) (fun _ => rfl)) xB sm hsm (show 0 < S32768.numel by decide)
    (src' := pA.slice (Rect.unit (s := S4194304) off S32768.size inb) (fun _ => rfl)) (h1 := h1) (h2 := h2) (h3 := h3) (h4 := h4) (h5 := h5) (q := qP) P Finset.univ (Finset.subset_univ _) X k Q
  rw [show xB.view.write (Elt F) X ((pA.slice (Rect.unit (s := S4194304) off S32768.size inb) (fun _ => rfl)).view.read (Elt F) P) Finset.univ = chunkOf P q from
    (View.write_whole_univ _ _ _).trans (funext fun y => congrArg P (slice_emb q hq off hoff inb y))] at hc
  simp only [View.set_whole] at hc
  unfold St at hk ⊢
  have hsp := pointsTo_split_subset (Val := Elt F) (ℓ := (tile d i).loc main_v34_scv) (I := (pA.slice (Rect.unit (s := S4194304) off S32768.size inb) (fun _ => rfl)).view.set) (S := Finset.univ) (q := qP) (f := (P : Buf (Elt F) ((tile d i).loc main_v34_scv))) (U := UU) (Ix := HIx 1) (Name := ℕ) (Lvl := ℕ)
    (Finset.subset_univ _)
  iintro ⟨H1, H2, H3, H4, H5, H6, H7, H8⟩
  ihave H1s := hsp.1 $$ H1
  icases H1s with ⟨H1, H1'⟩
  iapply hc $$ [H1 H5 H8]
  · isplitl [H1]; · iexact H1
    isplitl [H5] <;> iassumption
  iintro ⟨H1, H5, H8⟩
  iapply hk
  isplitl [H1 H1']
  · iapply hsp.2
    isplitl [H1] <;> iassumption
  isplitl [H2]; · iexact H2
  isplitl [H3]; · iexact H3
  isplitl [H4]; · iexact H4
  isplitl [H5]; · iexact H5
  isplitl [H6]; · iexact H6
  isplitl [H7] <;> iassumption

theorem put_val (q : ℕ) (hq : q < 128) {off : Fin 1 → ℕ} (hoff : off = ![32768 * q]) {inb : ∀ a, off a + S32768.size a ≤ S4194304.size a} :
    (oA.slice (Rect.unit (s := S4194304) off S32768.size inb) (fun _ => rfl)).view.write (Elt F) G (xB.view.read (Elt F) X) Finset.univ = put q X G := by
  funext y
  have hw := View.read_writes_cons_unit (Val := Elt F) oA.view G inb X [] y hoff
  rw [View.writes_cons, View.writes_nil] at hw
  refine (congrFun (View.read_whole main_v35_scv ((oA.view.slice (Rect.unit (s := S4194304) off S32768.size inb)).write (Elt F) G X Finset.univ)).symm y).trans (hw.trans ?_)
  have hy : (y 0).val < 4194304 := (y 0).isLt
  unfold put
  by_cases h : ∀ a, (![32768 * q] : Fin 1 → ℕ) a ≤ (y a).val ∧ (y a).val < (![32768 * q] : Fin 1 → ℕ) a + S32768.size a
  · have h0 : 32768 * q ≤ (y 0).val ∧ (y 0).val < 32768 * q + 32768 := h 0
    rw [dif_pos h, if_pos (by omega)]
    refine congrArg X (funext fun a => Fin.ext ?_)
    fin_cases a
    show (y 0).val - 32768 * q = ((y 0).val % 32768) % 32768
    omega
  · have h0 : ¬ (32768 * q ≤ (y 0).val ∧ (y 0).val < 32768 * q + 32768) := fun h0 => h fun a => by fin_cases a; exact h0
    rw [dif_neg h, if_neg (by omega)]
    rfl

/-- The chunk, written back to chunk `q` of the result. -/
theorem stepOut {α : Type} {Q : α → sProp 𝕄} (q : ℕ) (hq : q / 4 = wid i) (hq' : q < 128) {off : Fin 1 → ℕ} (hoff : off = ![32768 * q]) {inb : ∀ a, off a + S32768.size a ≤ S4194304.size a}
    {sm : DmaSem sig} (hsm : (SemLoc.dma sm : SemLoc sig).isScoped .scVector = true)
    {h1 : xB.view.WordExact} {h2 : (oA.slice (Rect.unit (s := S4194304) off S32768.size inb) (fun _ => rfl)).view.WordExact}
    {h3 : DmaTarget.Typed (nD := nD) (τ := τ) (p := (tile d i).2) .vmem (.dma sm) (.here (oA.slice (Rect.unit (s := S4194304) off S32768.size inb) (fun _ => rfl)))}
    {h4 : xB.view.WordExact} {h5 : (oA.slice (Rect.unit (s := S4194304) off S32768.size inb) (fun _ => rfl)).view.WordExact} {k : PUnit → tileProg (F := F) i α}
    (hk : St d i O W₀ qP qI qB P hI hB I B X (put q X G) ⊢ W d i (k ⟨⟩) Q) :
    St d i O W₀ qP qI qB P hI hB I B X G
      ⊢ W d i (.op (.enqueueDmaAs xB (.here (oA.slice (Rect.unit (s := S4194304) off S32768.size inb) (fun _ => rfl))) .same (.dma sm) h1 h2 h3)
          fun _ => .op (.waitDma2 sm xB (oA.slice (Rect.unit (s := S4194304) off S32768.size inb) (fun _ => rfl)) h4 h5) k) Q := by
  have hSd : (oA.slice (Rect.unit (s := S4194304) off S32768.size inb) (fun _ => rfl)).view.set ⊆ block (wid i) := by
    intro y hy
    have hy' : y ∈ (Rect.unit (s := S4194304) off S32768.size inb).set := (Finset.ext_iff.mp (View.set_slice_whole main_v35_scv (Rect.unit (s := S4194304) off S32768.size inb)) y).mp hy
    rw [Rect.mem_set_unit] at hy'
    subst hoff
    have h0 : 32768 * q ≤ (y 0).val ∧ (y 0).val < 32768 * q + 32768 := hy' 0
    refine Finset.mem_filter.mpr ⟨Finset.mem_univ _, ?_⟩
    omega
  have hc := wp_copy d i O W₀ xB (oA.slice (Rect.unit (s := S4194304) off S32768.size inb) (fun _ => rfl)) sm hsm (by decide)
    (src' := xB) (h1 := h1) (h2 := h2) (h3 := h3) (h4 := h4) (h5 := h5) (q := fullShare) X (block (wid i)) hSd G k Q
  rw [put_val q hq' hoff] at hc
  simp only [View.set_whole] at hc
  unfold St at hk ⊢
  iintro ⟨H1, H2, H3, H4, H5, H6, H7, H8⟩
  iapply hc $$ [H4 H5 H8]
  · isplitl [H5]; · iexact H5
    isplitl [H4] <;> iassumption
  iintro ⟨H5, H4, H8⟩
  iapply hk
  isplitl [H1]; · iexact H1
  isplitl [H2]; · iexact H2
  isplitl [H3]; · iexact H3
  isplitl [H4]; · iexact H4
  isplitl [H5]; · iexact H5
  isplitl [H6]; · iexact H6
  isplitl [H7] <;> iassumption

theorem off1_eq (r : Fin 4) : k0_off1 i (BitVec.ofNat 32 (128 * r.val)) = ![32768 * (4 * wid i + r.val)] := by
  rw [k0_off1_eq]; unfold wid; congr 1; ring

theorem wid_lt : wid i < 32 := by
  have h0 : (i 0).val < 2 := (i 0).isLt
  have h1 : (i 1).val < 16 := (i 1).isLt
  unfold wid; omega

end Body
end Cert.Proof.Kernel
end
-- ==== Proof.Run.lean ====
module

public import proofs.«01_k».proof.Proof.Body

@[expose] public section
noncomputable section
namespace Cert.Proof.Kernel
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Proof.Vals (wordC wordL wordT wordF gat ldT lit clause head raised upto vecs pass passes chunkOf outF)

variable {F : FTy → Type} [FloatOps F]

local notation "𝕄" => MT nD τ sig (HIx 1) (Elt F) ℕ UU ℕ

section Run
variable (d : Dev nD) (i : grid0.Coords) (O : CellTallies nD τ sig (HIx 1)) (W₀ : Waits sig (HIx 1))
variable (qP qI qB : PosShare TreeShare) (P : Cert.Proof.Vals.Flat.Idx → F .f32) (hI : Cert.Proof.Vals.Table.Idx → BitVec 32) (hB : Cert.Proof.Vals.Table.Idx → F .f32)

/-- Four chunks in place: the block holds the result. -/
theorem put_all (G : Cert.Proof.Vals.Flat.Idx → F .f32) (w : ℕ) : ∀ y ∈ block w,
    put (4 * w + 3) (passes hI hB (chunkOf P (4 * w + 3))) (put (4 * w + 2) (passes hI hB (chunkOf P (4 * w + 2)))
      (put (4 * w + 1) (passes hI hB (chunkOf P (4 * w + 1))) (put (4 * w + 0) (passes hI hB (chunkOf P (4 * w + 0))) G))) y = outF hI hB P y := by
  intro y hy
  have hy' : (y 0).val / 131072 = w := (Finset.mem_filter.mp hy).2
  have hq : (y 0).val / 32768 = 4 * w + 3 ∨ (y 0).val / 32768 = 4 * w + 2 ∨ (y 0).val / 32768 = 4 * w + 1 ∨ (y 0).val / 32768 = 4 * w + 0 := by omega
  unfold put outF
  rcases hq with h | h | h | h <;> simp [h]

/-- A part of the body that ends hands its value on. -/
theorem ret {α : Type} {Q : α → sProp 𝕄} {A : sProp 𝕄} {a : α} (hk : A ⊢ Q a) : A ⊢ W d i (.ret a) Q :=
  BIBase.Entails.trans (hk.trans fupd_intro) (Entails.of_eq (wp_ret ..).symm)

/-- A part of the body, and what follows it. -/
theorem part {α β : Type} {Q : β → sProp 𝕄} {A : sProp 𝕄} {p : tileProg (F := F) i α} {k : α → tileProg (F := F) i β}
    (hk : A ⊢ W d i p fun a => W d i (k a) Q) : A ⊢ W d i (p >>= k) Q :=
  BIBase.Entails.trans hk (Entails.of_eq (wp_bind ..).symm)

set_option maxRecDepth 65536 in
set_option maxHeartbeats 4000000 in
theorem wp_body (hcols : ∀ y, (hI y).toNat < 256) (I₀ : Cert.Proof.Vals.Table.Idx → BitVec 32) (B₀ : Cert.Proof.Vals.Table.Idx → F .f32)
    (X₀ : Cert.Proof.Vals.Chunk.Idx → F .f32) (G₀ : Cert.Proof.Vals.Flat.Idx → F .f32) :
    St d i O W₀ qP qI qB P hI hB I₀ B₀ X₀ G₀ ⊢ W d i
      (cc0__sc_body i pA (Memref.isWhole_whole _) iA (Memref.isWhole_whole _) bA (Memref.isWhole_whole _) oA (Memref.isWhole_whole _)
        xB (Memref.isWhole_whole _) iB (Memref.isWhole_whole _) bB (Memref.isWhole_whole _)
        cc0_scoped0 cc0_scoped1 cc0_scoped2 cc0_scoped3 cc0_scoped4 cc0_scoped5 cc0_scoped6 cc0_scoped7 cc0_scoped8 cc0_scoped9)
      fun _ => iprop(∃ X G, ⌜∀ y ∈ block (wid i), G y = outF hI hB P y⌝ ∗ St d i O W₀ qP qI qB P hI hB hI hB X G) := by
  have hw := wid_lt i
  rw [cc0__sc_body_eq_skeleton]
  unfold cc0__sc_body_skel
  simp only [k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton]
  refine part d i ?_
  unfold k0_part37_skel
  refine stepFetchI d i O W₀ qP qI qB P hI hB (by decide) ?_
  refine stepFetchB d i O W₀ qP qI qB P hI hB (by decide) ?_
  refine stepIn d i O W₀ qP qI qB P hI hB (4 * wid i + 0) (by omega) (off1_eq i 0) (by decide) ?_
  iterate 19 refine stepI d i O W₀ qP qI qB P hI hB ?_
  refine ret d i ?_
  refine part d i ?_
  unfold k0_part38_skel
  iterate 5 refine stepI d i O W₀ qP qI qB P hI hB ?_
  iterate 24 refine stepB d i O W₀ qP qI qB P hI hB ?_
  refine ret d i ?_
  refine part d i ?_
  unfold k0_part39_skel
  refine stepLoop d i O W₀ qP qI qB P hI hB 0 (by decide) hcols 64#32 rfl _ (fun _ _ => rfl) ?_
  iterate 24 refine stepI d i O W₀ qP qI qB P hI hB ?_
  iterate 4 refine stepB d i O W₀ qP qI qB P hI hB ?_
  refine ret d i ?_
  refine part d i ?_
  unfold k0_part40_skel
  iterate 20 refine stepB d i O W₀ qP qI qB P hI hB ?_
  refine stepLoop d i O W₀ qP qI qB P hI hB 1 (by decide) hcols 128#32 rfl _ (fun _ _ => rfl) ?_
  iterate 6 refine stepI d i O W₀ qP qI qB P hI hB ?_
  refine ret d i ?_
  refine part d i ?_
  unfold k0_part41_skel
  iterate 18 refine stepI d i O W₀ qP qI qB P hI hB ?_
  iterate 12 refine stepB d i O W₀ qP qI qB P hI hB ?_
  refine ret d i ?_
  refine part d i ?_
  unfold k0_part42_skel
  iterate 12 refine stepB d i O W₀ qP qI qB P hI hB ?_
  refine stepLoop d i O W₀ qP qI qB P hI hB 2 (by decide) hcols 192#32 rfl _ (fun _ _ => rfl) ?_
  refine stepOut d i O W₀ qP qI qB P hI hB (4 * wid i + 0) (by omega) (by omega) (off1_eq i 0) (by decide) ?_
  refine stepIn d i O W₀ qP qI qB P hI hB (4 * wid i + 1) (by omega) (off1_eq i 1) (by decide) ?_
  iterate 5 refine stepI d i O W₀ qP qI qB P hI hB ?_
  refine ret d i ?_
  refine part d i ?_
  unfold k0_part43_skel
  iterate 19 refine stepI d i O W₀ qP qI qB P hI hB ?_
  iterate 11 refine stepB d i O W₀ qP qI qB P hI hB ?_
  refine ret d i ?_
  refine part d i ?_
  unfold k0_part44_skel
  iterate 13 refine stepB d i O W₀ qP qI qB P hI hB ?_
  refine stepLoop d i O W₀ qP qI qB P hI hB 0 (by decide) hcols 64#32 rfl _ (fun _ _ => rfl) ?_
  iterate 13 refine stepI d i O W₀ qP qI qB P hI hB ?_
  refine ret d i ?_
  refine part d i ?_
  unfold k0_part45_skel
  iterate 11 refine stepI d i O W₀ qP qI qB P hI hB ?_
  iterate 19 refine stepB d i O W₀ qP qI qB P hI hB ?_
  refine ret d i ?_
  refine part d i ?_
  unfold k0_part46_skel
  iterate 5 refine stepB d i O W₀ qP qI qB P hI hB ?_
  refine stepLoop d i O W₀ qP qI qB P hI hB 1 (by decide) hcols 128#32 rfl _ (fun _ _ => rfl) ?_
  iterate 22 refine stepI d i O W₀ qP qI qB P hI hB ?_
  refine ret d i ?_
  refine part d i ?_
  unfold k0_part47_skel
  iterate 2 refine stepI d i O W₀ qP qI qB P hI hB ?_
  iterate 24 refine stepB d i O W₀ qP qI qB P hI hB ?_
  refine stepLoop d i O W₀ qP qI qB P hI hB 2 (by decide) hcols 192#32 rfl _ (fun _ _ => rfl) ?_
  refine ret d i ?_
  refine part d i ?_
  unfold k0_part48_skel
  refine stepOut d i O W₀ qP qI qB P hI hB (4 * wid i + 1) (by omega) (by omega) (off1_eq i 1) (by decide) ?_
  refine stepIn d i O W₀ qP qI qB P hI hB (4 * wid i + 2) (by omega) (off1_eq i 2) (by decide) ?_
  iterate 20 refine stepI d i O W₀ qP qI qB P hI hB ?_
  refine ret d i ?_
  refine part d i ?_
  unfold k0_part49_skel
  iterate 4 refine stepI d i O W₀ qP qI qB P hI hB ?_
  iterate 24 refine stepB d i O W₀ qP qI qB P hI hB ?_
  refine ret d i ?_
  refine part d i ?_
  unfold k0_part50_skel
  refine stepLoop d i O W₀ qP qI qB P hI hB 0 (by decide) hcols 64#32 rfl _ (fun _ _ => rfl) ?_
  iterate 24 refine stepI d i O W₀ qP qI qB P hI hB ?_
  iterate 5 refine stepB d i O W₀ qP qI qB P hI hB ?_
  refine ret d i ?_
  refine part d i ?_
  unfold k0_part51_skel
  iterate 19 refine stepB d i O W₀ qP qI qB P hI hB ?_
  refine stepLoop d i O W₀ qP qI qB P hI hB 1 (by decide) hcols 128#32 rfl _ (fun _ _ => rfl) ?_
  iterate 7 refine stepI d i O W₀ qP qI qB P hI hB ?_
  refine ret d i ?_
  refine part d i ?_
  unfold k0_part52_skel
  iterate 17 refine stepI d i O W₀ qP qI qB P hI hB ?_
  iterate 13 refine stepB d i O W₀ qP qI qB P hI hB ?_
  refine ret d i ?_
  refine part d i ?_
  unfold k0_part53_skel
  iterate 11 refine stepB d i O W₀ qP qI qB P hI hB ?_
  refine stepLoop d i O W₀ qP qI qB P hI hB 2 (by decide) hcols 192#32 rfl _ (fun _ _ => rfl) ?_
  refine stepOut d i O W₀ qP qI qB P hI hB (4 * wid i + 2) (by omega) (by omega) (off1_eq i 2) (by decide) ?_
  refine stepIn d i O W₀ qP qI qB P hI hB (4 * wid i + 3) (by omega) (off1_eq i 3) (by decide) ?_
  iterate 6 refine stepI d i O W₀ qP qI qB P hI hB ?_
  refine ret d i ?_
  refine part d i ?_
  unfold k0_part54_skel
  iterate 18 refine stepI d i O W₀ qP qI qB P hI hB ?_
  iterate 12 refine stepB d i O W₀ qP qI qB P hI hB ?_
  refine ret d i ?_
  refine part d i ?_
  unfold k0_part55_skel
  iterate 12 refine stepB d i O W₀ qP qI qB P hI hB ?_
  refine stepLoop d i O W₀ qP qI qB P hI hB 0 (by decide) hcols 64#32 rfl _ (fun _ _ => rfl) ?_
  iterate 14 refine stepI d i O W₀ qP qI qB P hI hB ?_
  refine ret d i ?_
  refine part d i ?_
  unfold k0_part56_skel
  iterate 10 refine stepI d i O W₀ qP qI qB P hI hB ?_
  iterate 20 refine stepB d i O W₀ qP qI qB P hI hB ?_
  refine ret d i ?_
  refine part d i ?_
  unfold k0_part57_skel
  iterate 4 refine stepB d i O W₀ qP qI qB P hI hB ?_
  refine stepLoop d i O W₀ qP qI qB P hI hB 1 (by decide) hcols 128#32 rfl _ (fun _ _ => rfl) ?_
  iterate 23 refine stepI d i O W₀ qP qI qB P hI hB ?_
  refine ret d i ?_
  refine part d i ?_
  unfold k0_part58_skel
  refine stepI d i O W₀ qP qI qB P hI hB ?_
  iterate 24 refine stepB d i O W₀ qP qI qB P hI hB ?_
  refine stepLoop d i O W₀ qP qI qB P hI hB 2 (by decide) hcols 192#32 rfl _ (fun _ _ => rfl) ?_
  refine ret d i ?_
  refine stepOut d i O W₀ qP qI qB P hI hB (4 * wid i + 3) (by omega) (by omega) (off1_eq i 3) (by decide) ?_
  refine BIBase.Entails.trans ?_ (Entails.of_eq (wp_ret ..).symm)
  iintro H
  imodintro
  iexists _, _
  isplitr
  rotate_left
  · iexact H
  · ipureintro
    exact put_all P hI hB G₀ (wid i)
end Run
end Cert.Proof.Kernel
end
-- ==== Proof.Launch.lean ====
module

public import proofs.«01_k».proof.Proof.Run

@[expose] public section
noncomputable section
namespace Cert.Proof.Kernel
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq seqK after wp_seq)
open Cert.Proof.Vals (wordC wordL wordT wordF gat ldT lit clause head raised upto vecs pass passes chunkOf outF)

variable {F : FTy → Type}

local notation "𝕄" => MT nD τ sig (HIx 1) (Elt F) ℕ UU ℕ

/-! ## What the call hands over -/

/-- The facts about the launch semaphores and the SparseCores' buffers, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev pLoc (d : Dev nD) : Loc nD τ sig := (SparseCore.T d).loc main_v34
abbrev iLoc (d : Dev nD) : Loc nD τ sig := (SparseCore.T d).loc main_v31
abbrev bLoc (d : Dev nD) : Loc nD τ sig := (SparseCore.T d).loc main_v33
abbrev oLoc (d : Dev nD) : Loc nD τ sig := (SparseCore.T d).loc main_v35

/-- A reader's share: one of 2 SparseCores', then one of its 16 tiles'. -/
abbrev qC (c : Fin 2) : PosShare TreeShare := Transfers.dealOf fullShare (Finset.univ : Finset (Fin 2)) c
abbrev qT (c : Fin 2) (s : Fin 16) : PosShare TreeShare := Transfers.dealOf (qC c) (Finset.univ : Finset (Fin 16)) s

/-- The words of the result that SparseCore `c`'s tiles write. -/
def coreBlock (c : Fin 2) : Finset S4194304.Idx := (Finset.univ : Finset (Fin 16)).biUnion fun s => block (s.val * 2 + c.val)

section Pay
variable (VP : Dev nD → Cert.Proof.Vals.Flat.Idx → F .f32) (VI : Dev nD → Cert.Proof.Vals.Table.Idx → BitVec 32)
  (VB : Dev nD → Cert.Proof.Vals.Table.Idx → F .f32)

/-- A tile's hold on the arrays: a read share of the three inputs, its own block of the result at `G`. -/
def tilePts (d : Dev nD) (c : Fin 2) (s : Fin 16) (G : Cert.Proof.Vals.Flat.Idx → F .f32) : sProp 𝕄 :=
  iprop((pLoc d ↦{qT c s} (VP d : Buf (Elt F) (pLoc d))) ∗ (iLoc d ↦{qT c s} (VI d : Buf (Elt F) (iLoc d)))
    ∗ (bLoc d ↦{qT c s} (VB d : Buf (Elt F) (bLoc d))) ∗ (oLoc d ↦[block (s.val * 2 + c.val)]{fullShare} (G : Buf (Elt F) (oLoc d))))

/-- The four arrays whole, the result at `G`. -/
def arrays (d : Dev nD) (G : Cert.Proof.Vals.Flat.Idx → F .f32) : sProp 𝕄 :=
  iprop((pLoc d ↦{fullShare} (VP d : Buf (Elt F) (pLoc d))) ∗ (iLoc d ↦{fullShare} (VI d : Buf (Elt F) (iLoc d)))
    ∗ (bLoc d ↦{fullShare} (VB d : Buf (Elt F) (bLoc d))) ∗ (oLoc d ↦{fullShare} (G : Buf (Elt F) (oLoc d))))

theorem deal (ℓ : Loc nD τ sig) (f : Buf (Elt F) ℓ) :
    (ℓ ↦{fullShare} f : sProp 𝕄) = bigSep Finset.univ fun c : Fin 2 => bigSep Finset.univ fun s : Fin 16 => ℓ ↦{qT c s} f :=
  (Transfers.pointsTo_deal Finset.univ Finset.univ_nonempty fullShare).trans
    (bigSep_congr fun c _ => Transfers.pointsTo_deal Finset.univ Finset.univ_nonempty (qC c))

theorem mem_block {w : ℕ} {y : S4194304.Idx} : y ∈ block w ↔ (y 0).val / 131072 = w := by simp [block]

theorem block_disjoint {w w' : ℕ} (h : w ≠ w') : Disjoint (block w) (block w') :=
  Finset.disjoint_left.mpr fun _ h1 h2 => h ((mem_block.mp h1).symm.trans (mem_block.mp h2))

theorem mem_coreBlock {c : Fin 2} {y : S4194304.Idx} (h : y ∈ coreBlock c) : (y 0).val / 131072 % 2 = c.val := by
  obtain ⟨s, -, hs⟩ := Finset.mem_biUnion.mp h
  have := mem_block.mp hs; have := c.isLt; omega

theorem coreBlocks : (Finset.univ : Finset (Fin 2)).biUnion coreBlock = (Finset.univ : Finset S4194304.Idx) := by
  refine Finset.eq_univ_iff_forall.mpr fun y => ?_
  have hy : (y 0).val < 4194304 := (y 0).isLt
  refine Finset.mem_biUnion.mpr ⟨⟨(y 0).val / 131072 % 2, by omega⟩, Finset.mem_univ _,
    Finset.mem_biUnion.mpr ⟨⟨(y 0).val / 131072 / 2, by omega⟩, Finset.mem_univ _, mem_block.mpr ?_⟩⟩
  show (y 0).val / 131072 = (y 0).val / 131072 / 2 * 2 + (y 0).val / 131072 % 2
  omega

theorem blocks (d : Dev nD) (G : Buf (Elt F) (oLoc d)) :
    (oLoc d ↦{fullShare} G : sProp 𝕄)
      = bigSep Finset.univ fun c : Fin 2 => bigSep Finset.univ fun s : Fin 16 => oLoc d ↦[block (s.val * 2 + c.val)]{fullShare} G := by
  refine Eq.trans ?_ ((pointsTo_biUnion Finset.univ (ℓ := oLoc d) coreBlock ?_).trans (bigSep_congr fun c _ =>
    pointsTo_biUnion Finset.univ (ℓ := oLoc d) (fun s : Fin 16 => block (s.val * 2 + c.val)) ?_))
  · rw [coreBlocks]
  · intro c _ c' _ h
    refine Finset.disjoint_left.mpr fun y h1 h2 => h (Fin.ext ?_)
    rw [← mem_coreBlock h1, ← mem_coreBlock h2]
  · intro s _ s' _ h
    exact block_disjoint fun e => h (Fin.ext (by omega))

theorem arrays_deal (d : Dev nD) (G : Cert.Proof.Vals.Flat.Idx → F .f32) :
    (arrays VP VI VB d G : sProp 𝕄) = bigSep Finset.univ fun c : Fin 2 => bigSep Finset.univ fun s : Fin 16 => tilePts VP VI VB d c s G := by
  unfold arrays tilePts
  rw [deal, deal, deal, blocks]
  simp only [bigSep_sep']

variable [FloatOps F] (VG : Dev nD → Cert.Proof.Vals.Flat.Idx → F .f32)

def Py : (K (F := F)).Pay (nD := nD) (Val := Elt F) (Name := ℕ) (U := UU) where
  st := fun q d c => match q with | 0 => bigSep Finset.univ fun s : Fin 16 => tilePts VP VI VB d c s (VG d)
  dn := fun q d c => match q with | 0 => bigSep Finset.univ fun s : Fin 16 => tilePts VP VI VB d c s (outF (VI d) (VB d) (VP d))
  go := fun q d c s => match q with | 0 => tilePts VP VI VB d c s (VG d)
  td := fun q d c s => match q with | 0 => tilePts VP VI VB d c s (outF (VI d) (VB d) (VP d))
  x := fun _ _ => iprop(emp)

instance Py_storable : (Py (F := F) VP VI VB VG).IsStorable where
  st q _ _ := match q with | 0 => by unfold Py tilePts; infer_instance
  dn q _ _ := match q with | 0 => by unfold Py tilePts; infer_instance
  go q _ _ _ := match q with | 0 => by unfold Py tilePts; infer_instance
  td q _ _ _ := match q with | 0 => by unfold Py tilePts; infer_instance

theorem vecSplit : (K (F := F)).VecSplit' (Py VP VI VB VG) 0 := by
  intro d c
  show (bigSep Finset.univ fun s : Fin 16 => tilePts VP VI VB d c s (VG d)) ⊢ |={Set.univ}=> iprop(
      (bigSep Finset.univ fun s : Fin 16 => tilePts VP VI VB d c s (VG d))
      ∗ ((bigSep Finset.univ fun s : Fin 16 => tilePts VP VI VB d c s (outF (VI d) (VB d) (VP d)))
        -∗ bigSep Finset.univ fun s : Fin 16 => tilePts VP VI VB d c s (outF (VI d) (VB d) (VP d))))
  iintro H; imodintro
  isplitl [H]; · iexact H
  iintro H; iexact H

/-! ## A tile's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
        pA (Memref.isWhole_whole _) iA (Memref.isWhole_whole _) bA (Memref.isWhole_whole _) oA (Memref.isWhole_whole _)
        xB (Memref.isWhole_whole _) iB (Memref.isWhole_whole _) bB (Memref.isWhole_whole _)
        cc0_scoped0 cc0_scoped1 cc0_scoped2 cc0_scoped3 cc0_scoped4 cc0_scoped5 cc0_scoped6 cc0_scoped7 cc0_scoped8 cc0_scoped9) ⟨⟩ c s := rfl

/-- The tile's buffers: its chunk, its two tables, the rest. -/
theorem ownBufs_V (d : Dev nD) (i : grid0.Coords) :
    (ownBufs (tile d i) : sProp 𝕄)
      = iprop((∃ f, (tile d i).loc cc0_scratch0 ↦{fullShare} f) ∗ (∃ f, (tile d i).loc cc0_scratch1 ↦{fullShare} f)
          ∗ (∃ f, (tile d i).loc cc0_scratch2 ↦{fullShare} f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  have own (b : Ref sig .scVector) (h : ((Proc.scVector (cV i) (jV i)).devRef b : DevRef τ sig).owner = .proc (Proc.scVector (cV i) (jV i))) :=
    SparseCore.Cfg.mem_ownRefs_of_owner (p := Proc.scVector (cV i) (jV i)) h
  have ne {a b : Ref sig .scVector} (h : a ≠ b) : ((Proc.scVector (cV i) (jV i)).devRef a : DevRef τ sig) ≠ (Proc.scVector (cV i) (jV i)).devRef b :=
    fun e => h (Proc.devRef_injective _ e)
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩)]

theorem tile_body (hcols : ∀ d y, (VI d y).toNat < 256) (d : Dev nD) (c : Fin 2) (s : Fin 16) (O : CellTallies nD τ sig (HIx 1)) (W₀ : Waits sig (HIx 1)) (hO : ∀ g, O g none = 0) :
    iprop(levAts (K (F := F)).L (K (F := F)).lev ∗ emp ∗ tilePts VP VI VB d c s (VG d) ∗ scopedBufs (tile d (coordsV c s)) ∗ scopedSems0 (tile d (coordsV c s))
        ∗ owes (tile d (coordsV c s)) O W₀)
      ⊢ W d (coordsV c s) (cc0__sc_body (coordsV c s)
        pA (Memref.isWhole_whole _) iA (Memref.isWhole_whole _) bA (Memref.isWhole_whole _) oA (Memref.isWhole_whole _)
        xB (Memref.isWhole_whole _) iB (Memref.isWhole_whole _) bB (Memref.isWhole_whole _)
        cc0_scoped0 cc0_scoped1 cc0_scoped2 cc0_scoped3 cc0_scoped4 cc0_scoped5 cc0_scoped6 cc0_scoped7 cc0_scoped8 cc0_scoped9)
      fun _ => iprop(tilePts VP VI VB d c s (outF (VI d) (VB d) (VP d)) ∗ scopedBufs (tile d (coordsV c s)) ∗ scopedSems0 (tile d (coordsV c s))
        ∗ ∃ W', ⌜∀ p ∈ W', p ∈ W₀ ∨ p.2 = none⌝ ∗ owes (tile d (coordsV c s)) O W') := by
  have hb := fun I B X => wp_body d (coordsV c s) O W₀ (qT c s) (qT c s) (qT c s) (VP d) (VI d) (VB d) (hcols d) I B X (VG d)
  unfold St Rs at hb
  rw [show wid (coordsV c s) = s.val * 2 + c.val from rfl] at hb
  generalize cc0__sc_body (F := F) (coordsV c s)
        pA (Memref.isWhole_whole _) iA (Memref.isWhole_whole _) bA (Memref.isWhole_whole _) oA (Memref.isWhole_whole _)
        xB (Memref.isWhole_whole _) iB (Memref.isWhole_whole _) bB (Memref.isWhole_whole _)
        cc0_scoped0 cc0_scoped1 cc0_scoped2 cc0_scoped3 cc0_scoped4 cc0_scoped5 cc0_scoped6 cc0_scoped7 cc0_scoped8 cc0_scoped9 = prog at hb ⊢
  rw [(K (F := F)).scopedBufs_V facts d (cV (coordsV c s)) (jV (coordsV c s)), SparseCore.Cfg.scopedSems0_V (Val := Elt F) d (cV (coordsV c s)) (jV (coordsV c s)), ownBufs_V]
  unfold tilePts
  iintro ⟨#Hlv, -, ⟨Hp, Hi, Hb, Ho⟩, ⟨⟨%X, HX⟩, ⟨%I, HI⟩, ⟨%B, HB⟩, Hbufs⟩, Hsems, HO⟩
  ihave Hmw := ((K (F := F)).mayWaits_none (thr := tile d (coordsV c s)) hO) $$ Hlv
  iapply (wp_wand_r frame (wpE (defs₀ (F := F)) 𝒱₀ (tile d (coordsV c s)) none) Set.univ)
  isplitr [Hbufs]
  · iapply (hb I B X)
    isplitl [Hp]; · iexact Hp
    isplitl [Hi]; · iexact Hi
    isplitl [Hb]; · iexact Hb
    isplitl [Ho]; · iexact Ho
    isplitl [HX]; · iexact HX
    isplitl [HI]; · iexact HI
    isplitl [HB]; · iexact HB
    isplitl [Hmw]; · iexact Hmw
    isplitl [Hsems]; · iexact Hsems
    iexists W₀; isplitr
    · ipureintro; exact fun p hp => .inl hp
    · iexact HO
  iintro %_ ⟨%X, %G, %hG, Hp, Hi, Hb, Ho, HX, HI, HB, -, Hsems, HO⟩
  isplitl [Hp Hi Hb Ho]
  · isplitl [Hp]; · iexact Hp
    isplitl [Hi]; · iexact Hi
    isplitl [Hb]; · iexact Hb
    ihave Ho := (Entails.of_eq (pointsTo_congr (Val := Elt F) (ℓ := (tile d (coordsV c s)).loc main_v35_scv) (q := fullShare) (I := block (s.val * 2 + c.val)) (f := (G : Buf (Elt F) (oLoc d)))
      (g := (outF (VI d) (VB d) (VP d) : Buf (Elt F) (oLoc d))) (U := UU) (Ix := HIx 1) (Name := ℕ) (Lvl := ℕ) hG)) $$ Ho
    iexact Ho
  isplitl [HX HI HB Hbufs]
  · isplitl [HX]; · iexists _; iexact HX
    isplitl [HI]; · iexists _; iexact HI
    isplitl [HB]; · iexists _; iexact HB
    iexact Hbufs
  isplitl [Hsems]; · iexact Hsems
  iexact HO

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hcols : ∀ d y, (VI d y).toNat < 256) : (K (F := F)).TileObl (D (F := F)) 𝒱 (Py VP VI VB VG) v₀ 0 := by
  intro d c i O W hO _ _
  simp only [show (Py VP VI VB VG).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have ht := (tile_body VP VI VB VG hcols d c i O W hO).trans (wp_mono frame _ _ fun _ => obl_post (q := 0))
  generalize hp : cc0__sc_body (F := F) (coordsV c i)
        pA (Memref.isWhole_whole _) iA (Memref.isWhole_whole _) bA (Memref.isWhole_whole _) oA (Memref.isWhole_whole _)
        xB (Memref.isWhole_whole _) iB (Memref.isWhole_whole _) bB (Memref.isWhole_whole _)
        cc0_scoped0 cc0_scoped1 cc0_scoped2 cc0_scoped3 cc0_scoped4 cc0_scoped5 cc0_scoped6 cc0_scoped7 cc0_scoped8 cc0_scoped9 = prog at ht
  erw [hp]
  exact ht

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Py VP VI VB VG).x q thr) := by
  have he {I : Type} (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [he]; iempintro
  unfold Py; dsimp only
  rw [show (bigSep Finset.univ fun _ : Thread nD τ => bigSep Finset.univ fun _ : Fin 1 => (iprop(emp) : sProp 𝕄)) = iprop(emp) from by
    rw [bigSep_congr fun _ _ => he _, he]]
  iempintro

end Pay
end Cert.Proof.Kernel
end
-- ==== Proof.Main.lean ====
module

public import proofs.«01_k».proof.Proof.Launch
public import Idealize.ShloMosaic.Lib.Pipeline.Frame

@[expose] public section
noncomputable section
namespace Cert.Proof.Kernel
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq seqK after wp_seq)
open Cert.Proof.Vals (wordC wordL wordT wordF gat ldT lit clause head raised upto vecs pass passes chunkOf outF)

variable {F : FTy → Type} [FloatOps F]

local notation "𝕄" => MT nD τ sig (HIx 1) (Elt F) ℕ UU ℕ

/-! ## The host operations around the call -/

/-- The operations before the call: the three strata's columns and offsets laid out as rows of 16, -/
abbrev preA : List (HloOp τ sig (Elt F)) :=
  [StableHlo.reshape main_arg3 main_v0 (rfl : (.i32 : EltTy) = .i32) shapeCasts_S128x3_S64x2x3,
   StableHlo.unary main_v0 main_v1 ((transpose S3x2x64 [2, 1, 0] · transposes_S64x2x3_S3x2x64_2_1_0) : (⟨S64x2x3, .i32⟩ : BufTy).Contents (Elt F) → (⟨S3x2x64, .i32⟩ : BufTy).Contents (Elt F)),
   StableHlo.reshape main_arg4 main_v2 (rfl : (.i32 : EltTy) = .i32) shapeCasts_S128x3_S64x2x3,
   StableHlo.unary main_v2 main_v3 ((transpose S3x2x64 [2, 1, 0] · transposes_S64x2x3_S3x2x64_2_1_0) : (⟨S64x2x3, .i32⟩ : BufTy).Contents (Elt F) → (⟨S3x2x64, .i32⟩ : BufTy).Contents (Elt F)),
   StableHlo.reshape main_v1 main_v4 (rfl : (.i32 : EltTy) = .i32) shapeCasts_S3x2x64_S24x16,
   StableHlo.reshape main_v3 main_v5 (rfl : (.i32 : EltTy) = .i32) shapeCasts_S3x2x64_S24x16,
   StableHlo.unary main_v5 main_v6 (sitofp .f32 : (⟨S24x16, .i32⟩ : BufTy).Contents (Elt F) → (⟨S24x16, .f32⟩ : BufTy).Contents (Elt F)),
   StableHlo.nullary main_cst (constant S_ .f32 0x3F800000#32),
   StableHlo.unary main_cst main_v7 (broadcastInDim S24x16 ![] bcast_S_S24x16 : (⟨S_, .f32⟩ : BufTy).Contents (Elt F) → (⟨S24x16, .f32⟩ : BufTy).Contents (Elt F)),
   StableHlo.binary main_v7 main_v6 main_v8 (subf : (⟨S24x16, .f32⟩ : BufTy).Contents (Elt F) → (⟨S24x16, .f32⟩ : BufTy).Contents (Elt F) → (⟨S24x16, .f32⟩ : BufTy).Contents (Elt F)),
   StableHlo.unary main_v8 main_v9 (id : (⟨S24x16, .f32⟩ : BufTy).Contents (Elt F) → (⟨S24x16, .f32⟩ : BufTy).Contents (Elt F)),
   StableHlo.reshape main_arg6 main_v10 (rfl : (.i32 : EltTy) = .i32) shapeCasts_S128x3_S64x2x3,
   StableHlo.unary main_v10 main_v11 ((transpose S3x2x64 [2, 1, 0] · transposes_S64x2x3_S3x2x64_2_1_0) : (⟨S64x2x3, .i32⟩ : BufTy).Contents (Elt F) → (⟨S3x2x64, .i32⟩ : BufTy).Contents (Elt F)),
   StableHlo.reshape main_arg7 main_v12 (rfl : (.i32 : EltTy) = .i32) shapeCasts_S128x3_S64x2x3,
   StableHlo.unary main_v12 main_v13 ((transpose S3x2x64 [2, 1, 0] · transposes_S64x2x3_S3x2x64_2_1_0) : (⟨S64x2x3, .i32⟩ : BufTy).Contents (Elt F) → (⟨S3x2x64, .i32⟩ : BufTy).Contents (Elt F)),
   StableHlo.reshape main_v11 main_v14 (rfl : (.i32 : EltTy) = .i32) shapeCasts_S3x2x64_S24x16,
   StableHlo.reshape main_v13 main_v15 (rfl : (.i32 : EltTy) = .i32) shapeCasts_S3x2x64_S24x16,
   StableHlo.unary main_v15 main_v16 (sitofp .f32 : (⟨S24x16, .i32⟩ : BufTy).Contents (Elt F) → (⟨S24x16, .f32⟩ : BufTy).Contents (Elt F)),
   StableHlo.nullary main_cst_0 (constant S_ .f32 0x3F800000#32),
   StableHlo.unary main_cst_0 main_v17 (broadcastInDim S24x16 ![] bcast_S_S24x16 : (⟨S_, .f32⟩ : BufTy).Contents (Elt F) → (⟨S24x16, .f32⟩ : BufTy).Contents (Elt F)),
   StableHlo.binary main_v17 main_v16 main_v18 (subf : (⟨S24x16, .f32⟩ : BufTy).Contents (Elt F) → (⟨S24x16, .f32⟩ : BufTy).Contents (Elt F) → (⟨S24x16, .f32⟩ : BufTy).Contents (Elt F)),
   StableHlo.unary main_v18 main_v19 (id : (⟨S24x16, .f32⟩ : BufTy).Contents (Elt F) → (⟨S24x16, .f32⟩ : BufTy).Contents (Elt F)),
   StableHlo.reshape main_arg9 main_v20 (rfl : (.i32 : EltTy) = .i32) shapeCasts_S128x3_S64x2x3,
   StableHlo.unary main_v20 main_v21 ((transpose S3x2x64 [2, 1, 0] · transposes_S64x2x3_S3x2x64_2_1_0) : (⟨S64x2x3, .i32⟩ : BufTy).Contents (Elt F) → (⟨S3x2x64, .i32⟩ : BufTy).Contents (Elt F)),
   StableHlo.reshape main_arg10 main_v22 (rfl : (.i32 : EltTy) = .i32) shapeCasts_S128x3_S64x2x3,
   StableHlo.unary main_v22 main_v23 ((transpose S3x2x64 [2, 1, 0] · transposes_S64x2x3_S3x2x64_2_1_0) : (⟨S64x2x3, .i32⟩ : BufTy).Contents (Elt F) → (⟨S3x2x64, .i32⟩ : BufTy).Contents (Elt F)),
   StableHlo.reshape main_v21 main_v24 (rfl : (.i32 : EltTy) = .i32) shapeCasts_S3x2x64_S24x16,
   StableHlo.reshape main_v23 main_v25 (rfl : (.i32 : EltTy) = .i32) shapeCasts_S3x2x64_S24x16,
   StableHlo.unary main_v25 main_v26 (sitofp .f32 : (⟨S24x16, .i32⟩ : BufTy).Contents (Elt F) → (⟨S24x16, .f32⟩ : BufTy).Contents (Elt F)),
   StableHlo.nullary main_cst_1 (constant S_ .f32 0x3F800000#32),
   StableHlo.unary main_cst_1 main_v27 (broadcastInDim S24x16 ![] bcast_S_S24x16 : (⟨S_, .f32⟩ : BufTy).Contents (Elt F) → (⟨S24x16, .f32⟩ : BufTy).Contents (Elt F)),
   StableHlo.binary main_v27 main_v26 main_v28 (subf : (⟨S24x16, .f32⟩ : BufTy).Contents (Elt F) → (⟨S24x16, .f32⟩ : BufTy).Contents (Elt F) → (⟨S24x16, .f32⟩ : BufTy).Contents (Elt F)),
   StableHlo.unary main_v28 main_v29 (id : (⟨S24x16, .f32⟩ : BufTy).Contents (Elt F) → (⟨S24x16, .f32⟩ : BufTy).Contents (Elt F))]

/-- then the strata's rows joined and flattened, and the predicates flattened. -/
abbrev preB : List (HloOp τ sig (Elt F)) :=
  [StableHlo.nary ![main_v4, main_v14, main_v24] main_v30 (fun u => (concatenate S72x16 0 [⟨S24x16, (u 0 : (⟨S24x16, .i32⟩ : BufTy).Contents (Elt F))⟩, ⟨S24x16, (u 1 : (⟨S24x16, .i32⟩ : BufTy).Contents (Elt F))⟩, ⟨S24x16, (u 2 : (⟨S24x16, .i32⟩ : BufTy).Contents (Elt F))⟩] concatenates_S24x16_S24x16_S24x16_S72x16_d0 : (⟨S72x16, .i32⟩ : BufTy).Contents (Elt F))),
   StableHlo.reshape main_v30 main_v31 (rfl : (.i32 : EltTy) = .i32) shapeCasts_S72x16_S1152,
   StableHlo.nary ![main_v9, main_v19, main_v29] main_v32 (fun u => (concatenate S72x16 0 [⟨S24x16, (u 0 : (⟨S24x16, .f32⟩ : BufTy).Contents (Elt F))⟩, ⟨S24x16, (u 1 : (⟨S24x16, .f32⟩ : BufTy).Contents (Elt F))⟩, ⟨S24x16, (u 2 : (⟨S24x16, .f32⟩ : BufTy).Contents (Elt F))⟩] concatenates_S24x16_S24x16_S24x16_S72x16_d0 : (⟨S72x16, .f32⟩ : BufTy).Contents (Elt F))),
   StableHlo.reshape main_v32 main_v33 (rfl : (.f32 : EltTy) = .f32) shapeCasts_S72x16_S1152,
   StableHlo.reshape main_arg0 main_v34 (rfl : (.f32 : EltTy) = .f32) shapeCasts_S16384x256_S4194304]

abbrev pre : List (HloOp τ sig (Elt F)) := preA ++ preB

/-- The operation after it: the flat result as rows. -/
abbrev post : HloOp τ sig (Elt F) := StableHlo.reshape main_v35 main_v36 (rfl : (.f32 : EltTy) = .f32) shapeCasts_S4194304_S16384x256

set_option maxRecDepth 16384 in
theorem main_eq (d : Dev nD) : main (F := F) d = seqK pre ((K (F := F)).run d 0 >>= fun _ => hlo rfl post (fun _ => .ret ⟨⟩)) := rfl

theorem pre_sub : (pre : List (HloOp τ sig (Elt F))).Forall fun op => op.bufs ⊆ StableHlo.tcRefs τ sig := by
  simp only [pre, preA, preB, List.cons_append, List.nil_append, List.Forall, StableHlo.nullary_bufs_sub, StableHlo.unary_bufs_sub, StableHlo.binary_bufs_sub, StableHlo.reshape_bufs_sub, StableHlo.nary_bufs_sub, and_self]

theorem pre_fresh : (pre : List (HloOp τ sig (Elt F))).Forall fun op => op.fresh = ∅ := by
  simp only [pre, preA, preB, List.cons_append, List.nil_append, List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers those operations write. -/
abbrev pre_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_cst, main_cst_0, main_cst_1]

theorem pre_writes : (pre : List (HloOp τ sig (Elt F))).Forall fun op => op.writes ⊆ (pre_W.map (Proc.devRef (τ := τ) .tc)).toFinset := by
  simp only [pre, preA, preB, List.cons_append, List.nil_append, List.Forall, StableHlo.nullary_writes, StableHlo.unary_writes, StableHlo.binary_writes, StableHlo.reshape_writes, StableHlo.nary_writes, Finset.singleton_subset_iff, List.mem_toFinset]
  repeat' constructor
  all_goals exact List.mem_map_of_mem (by decide)

variable (m : (ℓ : Loc nD τ sig) → Buf (Elt F) ℓ) (ρ : Dev nD → PrngReg)

abbrev ref (b : Ref sig .tc) : DevRef τ sig := Proc.devRef .tc b

/-- A device's buffers at the launch, and at the call. -/
def V0 (d : Dev nD) : Valuation τ sig (Elt F) := fun b => m (d, b)
def V1 (d : Dev nD) : Valuation τ sig (Elt F) := after pre (V0 m d)

/-- What the call reads: the flat predicates, the columns, the offsets; and what the result's buffer held before. -/
def VP (d : Dev nD) : Cert.Proof.Vals.Flat.Idx → F .f32 := V1 m d (ref main_v34)
def VI (d : Dev nD) : Cert.Proof.Vals.Table.Idx → BitVec 32 := V1 m d (ref main_v31)
def VB (d : Dev nD) : Cert.Proof.Vals.Table.Idx → F .f32 := V1 m d (ref main_v33)
def VG (d : Dev nD) : Cert.Proof.Vals.Flat.Idx → F .f32 := V1 m d (ref main_v35)
def VO (d : Dev nD) : Cert.Proof.Vals.Flat.Idx → F .f32 := outF (VI m d) (VB m d) (VP m d)

/-- After the call, and at the end. -/
def V2 (d : Dev nD) : Valuation τ sig (Elt F) := Function.update (V1 m d) (ref main_v35) (VO m d)
def V3 (d : Dev nD) : Valuation τ sig (Elt F) := (post (F := F)).result (V2 m d)

abbrev uc : Finset (DevRef τ sig) := Pipeline.ucRefs τ sig

/-- The unscoped buffers but for the call's four. -/
def others : Finset (DevRef τ sig) := (((uc.erase (ref main_v34)).erase (ref main_v31)).erase (ref main_v33)).erase (ref main_v35)

theorem mem_uc (b : Ref sig .tc) (h : (ref b).isScoped = false) : ref b ∈ uc :=
  Finset.mem_filter.mpr ⟨StableHlo.devRef_mem_tcRefs b, by simp [h]⟩

theorem sep_shift (P Q R : sProp 𝕄) : iprop((P ∗ Q) ∗ R) = iprop(P ∗ Q ∗ R) := equiv_iff.mp ⟨BI.sep_assoc, BI.sep_assoc'⟩

theorem held_arrays (d : Dev nD) (W : Valuation τ sig (Elt F)) :
    (held (T d) uc W : sProp 𝕄)
      = iprop(arrays (fun _ => W (ref main_v34)) (fun _ => W (ref main_v31)) (fun _ => W (ref main_v33)) d (W (ref main_v35))
        ∗ bigSep others fun b => (d, b) ↦{fullShare} W b) := by
  have ne {a b : Ref sig .tc} (h : a ≠ b) : ref a ≠ ref b := StableHlo.devRef_ne_of_ne h
  unfold held others arrays
  rw [SparseCore.bigSep_erase' (mem_uc main_v34 (by decide)),
    SparseCore.bigSep_erase' (Finset.mem_erase.mpr ⟨ne (show main_v31 ≠ main_v34 by decide), mem_uc main_v31 (by decide)⟩),
    SparseCore.bigSep_erase' (Finset.mem_erase.mpr ⟨ne (show main_v33 ≠ main_v31 by decide),
      Finset.mem_erase.mpr ⟨ne (show main_v33 ≠ main_v34 by decide), mem_uc main_v33 (by decide)⟩⟩),
    SparseCore.bigSep_erase' (Finset.mem_erase.mpr ⟨ne (show main_v35 ≠ main_v33 by decide), Finset.mem_erase.mpr ⟨ne (show main_v35 ≠ main_v31 by decide),
      Finset.mem_erase.mpr ⟨ne (show main_v35 ≠ main_v34 by decide), mem_uc main_v35 (by decide)⟩⟩⟩)]
  rw [sep_shift, sep_shift, sep_shift]

theorem held_V1 (d : Dev nD) :
    (held (T d) uc (V1 m d) : sProp 𝕄) = iprop(arrays (VP m) (VI m) (VB m) d (VG m d) ∗ bigSep others fun b => (d, b) ↦{fullShare} V1 m d b) :=
  by rw [held_arrays]; unfold arrays VP VI VB VG; rfl

theorem held_V2 (d : Dev nD) :
    (held (T d) uc (V2 m d) : sProp 𝕄) = iprop(arrays (VP m) (VI m) (VB m) d (VO m d) ∗ bigSep others fun b => (d, b) ↦{fullShare} V1 m d b) := by
  have hne (b : DevRef τ sig) (h : b ≠ ref main_v35) : V2 m d b = V1 m d b := Function.update_of_ne h _ _
  rw [held_arrays]
  unfold arrays
  rw [hne (ref main_v34) (by decide), hne (ref main_v31) (by decide), hne (ref main_v33) (by decide),
    show V2 m d (ref main_v35) = VO m d from Function.update_self _ _ _,
    bigSep_congr fun b hb => by rw [hne b (Finset.ne_of_mem_erase hb)]]
  rfl

abbrev Pm : (K (F := F)).Pay (nD := nD) (Val := Elt F) (Name := ℕ) (U := UU) := Py (VP m) (VI m) (VB m) (VG m)

theorem st0_eq (d : Dev nD) : (bigSep Finset.univ fun c : Fin ((K (F := F)).nCore 0) => (Pm m).st 0 d c) = (arrays (VP m) (VI m) (VB m) d (VG m d) : sProp 𝕄) :=
  (arrays_deal (VP m) (VI m) (VB m) d (VG m d)).symm
theorem dn0_eq (d : Dev nD) : (bigSep Finset.univ fun c : Fin ((K (F := F)).nCore 0) => (Pm m).dn 0 d c) = (arrays (VP m) (VI m) (VB m) d (VO m d) : sProp 𝕄) :=
  (arrays_deal (VP m) (VI m) (VB m) d (VO m d)).symm

abbrev FIN (d : Dev nD) : sProp 𝕄 := held (T d) uc (V3 m d)

/-- @main: the operations before the call, the call from its four arrays, the last reshape. -/
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (held (T d) uc (V0 m d) : sProp 𝕄)
    from Pipeline.unscopedBufs_held (Ix := HIx 1) (Name := ℕ) (U := UU) (Lvl := ℕ) d (V0 m d)]
  rw [main_eq, ← StableHlo.seq_bind_seqK]
  iintro ⟨#Hctx, Hst, ⟨Hb, Hheld, Hts, -⟩, -⟩
  iapply (StableHlo.wp_seq 𝒱 none Set.univ d uc _ pre
    (fun op h => Pipeline.sub_ucRefs op (List.forall_iff_forall_mem.mp pre_sub op h))
    (fun op h => List.forall_iff_forall_mem.mp pre_fresh op h) (V0 m d)) $$ [Hb Hheld]
  · isplitl [Hb] <;> iassumption
  iintro ⟨Hb, Hheld⟩
  rw [show after pre (V0 m d) = V1 m d from rfl]
  ihave Hh := (Entails.of_eq (held_V1 m d)) $$ Hheld
  icases Hh with ⟨Harr, Hoth⟩
  rw [wp_bind]
  iapply ((K (F := F)).wp_run (D (F := F)) 𝒱 (EH := EH) (P := Pm m) κ d 0) $$ [Hst Harr Hoth Hb Hts]
  isplitr; · iexact Hctx
  isplitl [Hst]; · iexact Hst
  isplitl [Harr]
  · rw [st0_eq]; iexact Harr
  iintro ⟨Hst, Hdn⟩
  ihave Hdn := (Entails.of_eq (dn0_eq m d)) $$ Hdn
  ihave Hheld := (Entails.of_eq (held_V2 m d).symm) $$ [Hdn Hoth]
  · isplitl [Hdn] <;> iassumption
  iapply (StableHlo.wp_hlo_within 𝒱 (SparseCore.T d) none Set.univ (op := post) (S := uc)
    (Pipeline.sub_ucRefs _ (StableHlo.reshape_bufs_sub ..)) (V := V2 m d)) $$ [Hb Hheld]
  · isplitl [Hb] <;> iassumption
  iintro ⟨Hb, Hheld⟩
  rw [wp_ret]; imodintro
  isplitl [Hst]; · iexact Hst
  isplitl [Hheld]; · iexact Hheld
  isplitl [Hb] <;> iassumption

def fq (d : Dev nD) (s' : Phys nD τ sig (Elt F)) : Prop := ∀ b ∈ uc, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) uc) $$ [HSI H]
  · isplitl [HSI]; · iexact HSI
    iexact H
  ipureintro
  exact h

/-- The whole run: it ends, every unscoped buffer at its computed contents, every semaphore at zero. -/
theorem run_main [∀ e, Nonempty (Elt F e)] (hcols : ∀ d y, (VI m d y).toNat < 256) :
    θ_run (defs (F := F)) (threads (F := F)) ⟨m, fun _ => 0, ρ⟩ fun r => (∀ c, ∀ b ∈ uc, r.2.mem (c, b) = V3 m c b) ∧ r.2.sem = fun _ => 0 :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (VP m) (VI m) (VB m) (VG m) hcols)
    (fun q _ => match q with | 0 => SparseCore.Cfg.VecSplit.of_plain (vecSplit (VP m) (VI m) (VB m) (VG m)))
    m ρ main (fun _ => iprop(emp)) (FIN m) (u₀ (F := F)) (sep_elim_left.trans (hu₀ (VP m) (VI m) (VB m) (VG m))) (hmain m ρ) (fq m) (hfin m) _ (fun _ h hz => ⟨h, hz⟩)

end Cert.Proof.Kernel
end
-- ==== Proof.Layout.lean ====
/-
  The layout of the tables the kernel reads: a stratum's 128 by 3 array regrouped by body position, then clause, then
  head, as 24 rows of 16 lanes; the three strata's rows one after another as one flat table of 1152 words.
-/
module

public import Idealize.ShloMosaic.PureOps
public import Idealize.ShloMosaic.Lib.Pipeline.Value
public import proofs.«01_k».proof.Proof.Vals

@[expose] public section
noncomputable section
namespace Cert.Proof.Vals
open Idealize.ShloMosaic

abbrev Cells : Shape := ⟨2, ![128, 3]⟩
abbrev Rows : Shape := ⟨2, ![24, 16]⟩

variable {α : Type}

/-- The entry of a stratum's array that word `r` of its part of the table comes from: clause `2 h + k` of head `h`,
    body position `l`, for `r = 128 l + 64 k + h`. -/
def cell (r : ℕ) : Cells.Idx := fun a => match a with
  | 0 => ⟨2 * (r % 64) + r / 64 % 2, show _ < 128 by omega⟩
  | 1 => ⟨r / 128 % 3, show _ < 3 by omega⟩

/-- Word `r` of a stratum's part of the table, as a row and a lane. -/
def rowOf (r : ℕ) : Rows.Idx := fun a => match a with
  | 0 => ⟨r / 16 % 24, show _ < 24 by omega⟩
  | 1 => ⟨r % 16, show _ < 16 by omega⟩

/-- One stratum's array as rows. -/
def rows (a : Cells.Idx → α) (h₁ : Cells.ShapeCasts ⟨3, ![64, 2, 3]⟩) (h₂ : (⟨3, ![64, 2, 3]⟩ : Shape).Transposes [2, 1, 0] ⟨3, ![3, 2, 64]⟩)
    (h₃ : (⟨3, ![3, 2, 64]⟩ : Shape).ShapeCasts Rows) : Rows.Idx → α :=
  shapeCast Rows (transpose ⟨3, ![3, 2, 64]⟩ [2, 1, 0] (shapeCast ⟨3, ![64, 2, 3]⟩ a h₁) h₂) h₃

theorem rows_apply (a : Cells.Idx → α) (h₁ h₂ h₃) (r : ℕ) (hr : r < 384) : rows a h₁ h₂ h₃ (rowOf r) = a (cell r) := by
  unfold rows
  rw [shapeCast_apply _ h₃ (rowOf r)
      (fun a : Fin 3 => match a with | 0 => (⟨r / 128 % 3, show _ < 3 by omega⟩ : Fin 3) | 1 => (⟨r / 64 % 2, show _ < 2 by omega⟩ : Fin 2) | 2 => (⟨r % 64, show _ < 64 by omega⟩ : Fin 64))
      (by rw [Shape.rowMajor_val_three, Shape.rowMajor_val_two]; show ((r / 128 % 3) * 2 + r / 64 % 2) * 64 + r % 64 = r / 16 % 24 * 16 + r % 16; omega),
    transpose_apply _ _ h₂ _
      (fun a : Fin 3 => match a with | 0 => (⟨r % 64, show _ < 64 by omega⟩ : Fin 64) | 1 => (⟨r / 64 % 2, show _ < 2 by omega⟩ : Fin 2) | 2 => (⟨r / 128 % 3, show _ < 3 by omega⟩ : Fin 3))
      (by intro b; fin_cases b <;> rfl),
    shapeCast_apply _ h₁ _ (cell r)
      (by rw [Shape.rowMajor_val_three, Shape.rowMajor_val_two]; show (2 * (r % 64) + r / 64 % 2) * 3 + r / 128 % 3 = (r % 64 * 2 + r / 64 % 2) * 3 + r / 128 % 3; omega)]

/-- The three strata's rows as one flat table. -/
def table (x₀ x₁ x₂ : Rows.Idx → α) (h₁ : Shape.Concatenates [Rows, Rows, Rows] ⟨2, ![72, 16]⟩ 0)
    (h₂ : (⟨2, ![72, 16]⟩ : Shape).ShapeCasts Table) : Table.Idx → α :=
  shapeCast Table (concatenate ⟨2, ![72, 16]⟩ 0 [⟨Rows, x₀⟩, ⟨Rows, x₁⟩, ⟨Rows, x₂⟩] h₁) h₂

theorem table_apply (x₀ x₁ x₂ : Rows.Idx → α) (h₁ h₂) (s : Fin 3) (r : ℕ) (hr : r < 384) :
    table x₀ x₁ x₂ h₁ h₂ (wordT (384 * s.val + r)) = (![x₀, x₁, x₂] s) (rowOf r) := by
  have hs := s.isLt
  unfold table
  rw [shapeCast_apply _ h₂ _
      (fun a : Fin 2 => match a with | 0 => (⟨24 * s.val + r / 16, show _ < 72 by omega⟩ : Fin 72) | 1 => (⟨r % 16, show _ < 16 by omega⟩ : Fin 16))
      (by rw [Shape.rowMajor_val_one, Shape.rowMajor_val_two]; show (24 * s.val + r / 16) * 16 + r % 16 = (384 * s.val + r) % 1152; omega)]
  refine concatenate_apply_piece (t := ⟨2, ![72, 16]⟩) (0 : Fin 2) [⟨Rows, x₀⟩, ⟨Rows, x₁⟩, ⟨Rows, x₂⟩] h₁ _ s.val s.isLt Rows (![x₀, x₁, x₂] s) (by fin_cases s <;> rfl) rfl (24 * s.val)
    (by fin_cases s <;> rfl) (rowOf r) (by intro b hb; fin_cases b; · exact absurd rfl hb
                                           · rfl) ?_
  show 24 * s.val + r / 16 % 24 = 24 * s.val + r / 16
  omega

/-- A word of the table, by its stratum and its place in it. -/
theorem wordT_split (y : Table.Idx) : ∃ (s : Fin 3) (r : ℕ), r < 384 ∧ y = wordT (384 * s.val + r) := by
  have hy : (y 0).val < 1152 := (y 0).isLt
  refine ⟨⟨(y 0).val / 384, by omega⟩, (y 0).val % 384, by omega, ?_⟩
  funext a; fin_cases a
  exact Fin.ext (show (y 0).val = (384 * ((y 0).val / 384) + (y 0).val % 384) % 1152 by omega)

end Cert.Proof.Vals
end
-- ==== Proof.Values.lean ====
module

public import proofs.«01_k».proof.Proof.Main
public import proofs.«01_k».proof.Proof.Layout

@[expose] public section
noncomputable section
namespace Cert.Proof.Kernel
open Cert.Kernel Cert.Kernel.Gen
open Idealize.ShloMosaic
open Idealize.ShloMosaic.StableHlo (held seq seqK after wp_seq)
open Cert.Proof.Vals (cell rowOf table)

variable {F : FTy → Type} [FloatOps F]
variable (m : (ℓ : Loc nD τ sig) → Buf (Elt F) ℓ)

/-- A stratum's columns and its offsets, from the arguments. -/
def colRows (a : Cert.Proof.Vals.Cells.Idx → BitVec 32) : Cert.Proof.Vals.Rows.Idx → BitVec 32 :=
  Cert.Proof.Vals.rows a shapeCasts_S128x3_S64x2x3 transposes_S64x2x3_S3x2x64_2_1_0 shapeCasts_S3x2x64_S24x16
def offRows (a : Cert.Proof.Vals.Cells.Idx → BitVec 32) : Cert.Proof.Vals.Rows.Idx → F .f32 :=
  subf (broadcastInDim S24x16 ![] bcast_S_S24x16 (constant S_ .f32 0x3F800000#32)) (sitofp .f32 (colRows a))

set_option maxRecDepth 8192 in
set_option maxHeartbeats 2000000 in
theorem rows_cols (d : Dev nD) : after preA (V0 m d) (ref main_v4) = colRows (m (d, ref main_arg3))
    ∧ after preA (V0 m d) (ref main_v14) = colRows (m (d, ref main_arg6)) ∧ after preA (V0 m d) (ref main_v24) = colRows (m (d, ref main_arg9)) := by
  unfold preA
  refine ⟨?_, ?_, ?_⟩ <;> (after_results_simp; rfl)

set_option maxRecDepth 8192 in
set_option maxHeartbeats 2000000 in
theorem rows_offs (d : Dev nD) : after preA (V0 m d) (ref main_v9) = offRows (m (d, ref main_arg4))
    ∧ after preA (V0 m d) (ref main_v19) = offRows (m (d, ref main_arg7)) ∧ after preA (V0 m d) (ref main_v29) = offRows (m (d, ref main_arg10)) := by
  unfold preA
  refine ⟨?_, ?_, ?_⟩ <;> (after_results_simp; rfl)

set_option maxRecDepth 8192 in
theorem row_preds (d : Dev nD) : after preA (V0 m d) (ref main_arg0) = m (d, ref main_arg0) := by
  unfold preA
  after_results_simp
  rfl

theorem V1_eq (d : Dev nD) : V1 m d = after preB (after preA (V0 m d)) := StableHlo.after_append _ _ _

theorem joined (W : Valuation τ sig (Elt F)) :
    after preB W (ref main_v31) = table (W (ref main_v4)) (W (ref main_v14)) (W (ref main_v24)) concatenates_S24x16_S24x16_S24x16_S72x16_d0 shapeCasts_S72x16_S1152
    ∧ after preB W (ref main_v33) = table (W (ref main_v9)) (W (ref main_v19)) (W (ref main_v29)) concatenates_S24x16_S24x16_S24x16_S72x16_d0 shapeCasts_S72x16_S1152
    ∧ after preB W (ref main_v34) = shapeCast S4194304 (W (ref main_arg0)) shapeCasts_S16384x256_S4194304 := by
  unfold preB
  refine ⟨?_, ?_, ?_⟩ <;> (after_results_simp; rfl)

theorem VI_eq (d : Dev nD) : VI m d = table (colRows (m (d, ref main_arg3))) (colRows (m (d, ref main_arg6))) (colRows (m (d, ref main_arg9)))
    concatenates_S24x16_S24x16_S24x16_S72x16_d0 shapeCasts_S72x16_S1152 := by
  obtain ⟨h₁, h₂, h₃⟩ := rows_cols m d
  unfold VI
  rw [V1_eq, (joined _).1, h₁, h₂, h₃]

theorem VB_eq (d : Dev nD) : VB m d = table (offRows (m (d, ref main_arg4))) (offRows (m (d, ref main_arg7))) (offRows (m (d, ref main_arg10)))
    concatenates_S24x16_S24x16_S24x16_S72x16_d0 shapeCasts_S72x16_S1152 := by
  obtain ⟨h₁, h₂, h₃⟩ := rows_offs m d
  unfold VB
  rw [V1_eq, (joined _).2.1, h₁, h₂, h₃]

theorem VP_eq (d : Dev nD) : VP m d = shapeCast S4194304 (m (d, ref main_arg0)) shapeCasts_S16384x256_S4194304 := by
  unfold VP
  rw [V1_eq, (joined _).2.2, row_preds]

/-- The result: the flat array as rows. -/
theorem V3_out (d : Dev nD) : V3 m d (ref main_v36) = shapeCast S16384x256 (VO m d) shapeCasts_S4194304_S16384x256 := by
  unfold V3 V2 post
  after_results_simp
  rfl

/-- A buffer nothing writes keeps its contents. -/
theorem V3_keep (d : Dev nD) (b : Ref sig .tc) (h : b ∉ pre_W) (h₁ : b ≠ main_v35) (h₂ : b ≠ main_v36) : V3 m d (ref b) = m (d, ref b) := by
  unfold V3
  rw [StableHlo.reshape_result_ne main_v35 main_v36 _ _ _ _ _ h₂]
  unfold V2
  rw [Function.update_of_ne (StableHlo.devRef_ne_of_ne h₁)]
  exact StableHlo.after_of_writes_sub pre (V0 m d) pre_writes h

/-- The columns come from the body arrays: a bound on every entry of those bounds every column. -/
theorem cols_lt (d : Dev nD) (h : ∀ i, (m (d, ref main_arg3) i : BitVec 32).toNat < 256 ∧ (m (d, ref main_arg6) i : BitVec 32).toNat < 256 ∧ (m (d, ref main_arg9) i : BitVec 32).toNat < 256)
    (y : Cert.Proof.Vals.Table.Idx) : (VI m d y).toNat < 256 := by
  obtain ⟨s, r, hr, rfl⟩ := Cert.Proof.Vals.wordT_split y
  rw [VI_eq, Cert.Proof.Vals.table_apply _ _ _ _ _ s r hr]
  have e (a) : colRows a (rowOf r) = a (cell r) := Cert.Proof.Vals.rows_apply a _ _ _ r hr
  fin_cases s
  · exact (congrArg BitVec.toNat (e _)).trans_lt (h _).1
  · exact (congrArg BitVec.toNat (e _)).trans_lt (h _).2.1
  · exact (congrArg BitVec.toNat (e _)).trans_lt (h _).2.2

end Cert.Proof.Kernel
end
-- ==== Proof.Inputs.lean ====
/-
  The preconditions, read elementwise: what each of the two predicates over the arguments says when it is true.
-/
module

public import proofs.«01_k».proof.Pre_columns
public import proofs.«01_k».proof.Pre_inputs
public import Idealize.ShloMosaic.PureOps.Ideal
public import Idealize.ShloMosaic.Lib.IdealHost
public import Idealize.ShloMosaic.Lib.ReduceAll

@[expose] public section
noncomputable section
namespace Cert.Proof.Inputs
open Idealize.ShloMosaic

instance factsC : Cert.Pre_columns.Facts := by
  constructor <;> first | decide | exact ⟨by decide, fun a => by fin_cases a⟩
instance factsI : Cert.Pre_inputs.Facts := by
  constructor <;> first | decide | exact ⟨by decide, fun a => by fin_cases a⟩

abbrev Preds : Shape := ⟨2, ![16384, 256]⟩
abbrev Cells : Shape := ⟨2, ![128, 3]⟩
abbrev Atoms : Shape := ⟨1, ![256]⟩
abbrev Clauses : Shape := ⟨1, ![128]⟩

instance : Subsingleton (⟨0, ![]⟩ : Shape).Idx := ⟨fun i j => funext fun a => a.elim0⟩

theorem andi_one (p q : BitVec 1) : IntOp.andi p q = 1#1 ↔ p = 1#1 ∧ q = 1#1 := by
  revert p q; decide

theorem between (v : BitVec 32) (n : ℕ) (hn : n < 2 ^ 31) (h₁ : IntOp.cmpi .sge v 0#32 = 1#1) (h₂ : IntOp.cmpi .slt v (BitVec.ofNat 32 n) = 1#1) : v.toNat < n := by
  have one (p : Bool) : (BitVec.ofBool p = 1#1) ↔ p = true := by cases p <;> decide
  have hv := v.isLt
  simp only [IntOp.cmpi, one, BitVec.sle_eq_decide, BitVec.slt_eq_decide, decide_eq_true_eq, BitVec.toInt_eq_toNat_cond, BitVec.toNat_ofNat] at h₁ h₂
  rw [Nat.mod_eq_of_lt (show n < 2 ^ 32 by omega)] at h₂
  split at h₁ <;> split at h₂ <;> omega

/-- Every body entry is a column of the predicates. -/
abbrev Bodies (a : Cells.Idx → BitVec 32) : Prop := ∀ i, (a i).toNat < 256

theorem columns {F : FTy → Type} [FloatOps F] (a0 : Preds.Idx → F .f32) (a1 : Atoms.Idx → BitVec 32) (a2 a5 a8 : Clauses.Idx → BitVec 32)
    (a3 a4 a6 a7 a9 a10 : Cells.Idx → BitVec 32)
    (h : Cert.Pre_columns.fn (F := F) a0 a1 a2 a3 a4 a5 a6 a7 a8 a9 a10 = fun _ => 1#1) : Bodies a3 ∧ Bodies a6 ∧ Bodies a9 := by
  have e := congrFun h (fun a => a.elim0)
  simp only [Cert.Pre_columns.fn, Cert.Pre_columns.fn_part1, andi, andi_one] at e
  obtain ⟨⟨⟨-, e3⟩, e6⟩, e9⟩ := e
  have key (a : Cells.Idx → BitVec 32) (e : Host.reduce IntOp.andi (fun i => IntOp.andi (cmpi .sge a (broadcastInDim Cells ![] Cert.Pre_columns.Facts.bcast_S_S128x3 (constantI ⟨0, ![]⟩ 32 0#32)) i)
      (cmpi .slt a (broadcastInDim Cells ![] Cert.Pre_columns.Facts.bcast_S_S128x3 (constantI ⟨0, ![]⟩ 32 256#32)) i)) (constantI ⟨0, ![]⟩ 1 1#1)
      Cert.Pre_columns.Facts.reducesTo_S128x3_S_d0_1 Cert.Pre_columns.Facts.h_S_ (fun a => a.elim0) = 1#1) : Bodies a := fun i => by
    have e' := (andi_one _ _).mp (Host.reduce_andi_all _ _ _ _ _ e i)
    exact between (a i) 256 (by norm_num) e'.1 e'.2
  exact ⟨key a3 e3, key a6 e6, key a9 e9⟩

/-- A word between 0 and 1 is 0 or 1. -/
theorem bit (v : BitVec 32) (h₁ : IntOp.cmpi .sge v 0#32 = 1#1) (h₂ : IntOp.cmpi .sle v 1#32 = 1#1) : v = 0#32 ∨ v = 1#32 := by
  have one (p : Bool) : (BitVec.ofBool p = 1#1) ↔ p = true := by cases p <;> decide
  have hv := v.isLt
  have h : v.toNat = 0 ∨ v.toNat = 1 := by
    simp only [IntOp.cmpi, one, BitVec.sle_eq_decide, decide_eq_true_eq, BitVec.toInt_eq_toNat_cond, BitVec.toNat_ofNat] at h₁ h₂
    split at h₁ <;> split at h₂ <;> omega
  exact h.imp (fun h => BitVec.eq_of_toNat_eq h) (fun h => BitVec.eq_of_toNat_eq h)

theorem eqOf (v w : BitVec 32) (h : IntOp.cmpi .eq v w = 1#1) : v = w := by
  have one (p : Bool) : (BitVec.ofBool p = 1#1) ↔ p = true := by cases p <;> decide
  exact eq_of_beq ((one _).mp h)

abbrev Heads (lo : ℕ) (a : Clauses.Idx → BitVec 32) : Prop := ∀ i, a i = BitVec.ofNat 32 (lo + (i 0).val / 2)
abbrev Signs (a : Cells.Idx → BitVec 32) : Prop := ∀ i, a i = 0#32 ∨ a i = 1#32

/-- What `inputs` says of the arguments over the extended reals. -/
structure Good (a0 : Preds.Idx → Ideal .f32) (a1 : Atoms.Idx → BitVec 32) (a2 : Clauses.Idx → BitVec 32) (a3 a4 : Cells.Idx → BitVec 32)
    (a5 : Clauses.Idx → BitVec 32) (a6 a7 : Cells.Idx → BitVec 32) (a8 : Clauses.Idx → BitVec 32) (a9 a10 : Cells.Idx → BitVec 32) : Prop where
  preds : ∀ i, (0 : EReal) ≤ a0 i ∧ a0 i ≤ (1 : EReal)
  atoms : ∀ i, a1 i = BitVec.ofNat 32 (i 0).val
  heads₀ : Heads 64 a2
  heads₁ : Heads 128 a5
  heads₂ : Heads 192 a8
  bodies : Bodies a3 ∧ Bodies a6 ∧ Bodies a9
  signs₀ : Signs a4
  signs₁ : Signs a7
  signs₂ : Signs a10

theorem inputs (a0 : Preds.Idx → Ideal .f32) (a1 : Atoms.Idx → BitVec 32) (a2 : Clauses.Idx → BitVec 32) (a3 a4 : Cells.Idx → BitVec 32)
    (a5 : Clauses.Idx → BitVec 32) (a6 a7 : Cells.Idx → BitVec 32) (a8 : Clauses.Idx → BitVec 32) (a9 a10 : Cells.Idx → BitVec 32)
    (h : Cert.Pre_inputs.fn (F := Ideal) a0 a1 a2 a3 a4 a5 a6 a7 a8 a9 a10 = fun _ => 1#1) : Good a0 a1 a2 a3 a4 a5 a6 a7 a8 a9 a10 := by
  have one (p : Bool) : (BitVec.ofBool p = 1#1) ↔ p = true := by cases p <;> decide
  have e := congrFun h (fun a => a.elim0)
  simp only [Cert.Pre_inputs.fn, Cert.Pre_inputs.fn_part1, Cert.Pre_inputs.fn_part2, Cert.Pre_inputs.fn_part3, Cert.Pre_inputs.fn_part4, andi, andi_one] at e
  obtain ⟨⟨⟨⟨⟨⟨⟨⟨⟨⟨e0, e1⟩, e2⟩, e3⟩, e4⟩, e5⟩, e6⟩, e7⟩, e8⟩, e9⟩, e10⟩ := e
  have body (a : Cells.Idx → BitVec 32) (e : Host.reduce IntOp.andi (fun i => IntOp.andi (cmpi .sge a (broadcastInDim Cells ![] Cert.Pre_inputs.Facts.bcast_S_S128x3 (constantI ⟨0, ![]⟩ 32 0#32)) i)
      (cmpi .slt a (broadcastInDim Cells ![] Cert.Pre_inputs.Facts.bcast_S_S128x3 (constantI ⟨0, ![]⟩ 32 256#32)) i)) (constantI ⟨0, ![]⟩ 1 1#1)
      Cert.Pre_inputs.Facts.reducesTo_S128x3_S_d0_1 Cert.Pre_inputs.Facts.h_S_ (fun a => a.elim0) = 1#1) : Bodies a := fun i => by
    have e' := (andi_one _ _).mp (Host.reduce_andi_all _ _ _ _ _ e i)
    exact between (a i) 256 (by norm_num) e'.1 e'.2
  have sign (a : Cells.Idx → BitVec 32) (e : Host.reduce IntOp.andi (fun i => IntOp.andi (cmpi .sge a (broadcastInDim Cells ![] Cert.Pre_inputs.Facts.bcast_S_S128x3 (constantI ⟨0, ![]⟩ 32 0#32)) i)
      (cmpi .sle a (broadcastInDim Cells ![] Cert.Pre_inputs.Facts.bcast_S_S128x3 (constantI ⟨0, ![]⟩ 32 1#32)) i)) (constantI ⟨0, ![]⟩ 1 1#1)
      Cert.Pre_inputs.Facts.reducesTo_S128x3_S_d0_1 Cert.Pre_inputs.Facts.h_S_ (fun a => a.elim0) = 1#1) : Signs a := fun i => by
    have e' := (andi_one _ _).mp (Host.reduce_andi_all _ _ _ _ _ e i)
    exact bit (a i) e'.1 e'.2
  have head (lo : ℕ) (hlo : lo < 2 ^ 31) (a : Clauses.Idx → BitVec 32) (e : Host.reduce IntOp.andi (cmpi .eq a (addi (Host.shrui (iotaInDim Clauses 32 0)
      (broadcastInDim Clauses ![] Cert.Pre_inputs.Facts.bcast_S_S128 (constantI ⟨0, ![]⟩ 32 1#32))) (broadcastInDim Clauses ![] Cert.Pre_inputs.Facts.bcast_S_S128 (constantI ⟨0, ![]⟩ 32 (BitVec.ofNat 32 lo)))))
      (constantI ⟨0, ![]⟩ 1 1#1) Cert.Pre_inputs.Facts.reducesTo_S128_S_d0 Cert.Pre_inputs.Facts.h_S_ (fun a => a.elim0) = 1#1) : Heads lo a := fun i => by
    have e' := eqOf _ _ (Host.reduce_andi_all _ _ _ _ _ e i)
    have hi : (i 0).val < 128 := (i 0).isLt
    rw [e']
    show IntOp.shrui .host (BitVec.ofNat 32 (i 0).val) 1#32 + BitVec.ofNat 32 lo = _
    have hs : IntOp.shrui .host (BitVec.ofNat 32 (i 0).val) 1#32 = BitVec.ofNat 32 (i 0).val >>> 1#32 := if_pos (by decide)
    rw [hs]
    apply BitVec.eq_of_toNat_eq
    simp [BitVec.toNat_add, BitVec.toNat_ushiftRight, Nat.shiftRight_eq_div_pow]
    omega
  refine ⟨fun i => ?_, fun i => eqOf _ _ (Host.reduce_andi_all _ _ _ _ _ e1 i), head 64 (by norm_num) a2 e2, head 128 (by norm_num) a5 e5, head 192 (by norm_num) a8 e8,
    ⟨body a3 e3, body a6 e6, body a9 e9⟩, sign a4 e4, sign a7 e7, sign a10 e10⟩
  have e' := (andi_one _ _).mp (Host.reduce_andi_all _ _ _ _ _ e0 i)
  have h0 : Ideal.cmp .oge (a0 i) (Ideal.ofBits .f32 0x00000000#32) = 1#1 := e'.1
  have h1 : Ideal.cmp .ole (a0 i) (Ideal.ofBits .f32 0x3F800000#32) = 1#1 := e'.2
  rw [Ideal.ofBits_zero_f32] at h0
  rw [Ideal.ofBits_one_f32] at h1
  simp only [Ideal.cmp, one, decide_eq_true_eq] at h0 h1
  exact ⟨h0, h1⟩

end Cert.Proof.Inputs
end
-- ==== Proof.Frame.lean ====
/-
  The kernel's frame: from columns within the predicates, every run ends with the arguments as they were and every
  semaphore at zero.
-/
module

public import proofs.«01_k».proof.Defs
public import proofs.«01_k».proof.Proof.Values
public import proofs.«01_k».proof.Proof.Inputs

@[expose] public section
noncomputable section
namespace Cert.Proof.Kernel
open Cert.Kernel Cert.Kernel.Gen
open Idealize.ShloMosaic Idealize.SL.Sem

attribute [local instance] Cert.Kernel.Gen.facts

theorem mem_keep {F : FTy → Type} [FloatOps F] (m : (ℓ : Loc nD τ sig) → Buf (Elt F) ℓ) (c : Dev nD) (mem : (ℓ : Loc nD τ sig) → Buf (Elt F) ℓ)
    (h : ∀ b ∈ uc, mem (c, b) = V3 m c b) (b : Ref sig .tc) (hb : (ref b).isScoped = false := by decide) (hw : b ∉ pre_W := by decide)
    (h₁ : b ≠ main_v35 := by decide) (h₂ : b ≠ main_v36 := by decide) : mem ((c.tc : Thread nD τ).loc b) = m ((c.tc : Thread nD τ).loc b) :=
  (h (ref b) (mem_uc b hb)).trans (V3_keep m c b hw h₁ h₂)

theorem args_keep {F : FTy → Type} [FloatOps F] (m : (ℓ : Loc nD τ sig) → Buf (Elt F) ℓ) (c : Dev nD) (mem : (ℓ : Loc nD τ sig) → Buf (Elt F) ℓ)
    (h : ∀ b ∈ uc, mem (c, b) = V3 m c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10) :=
  ⟨mem_keep m c mem h main_arg0, mem_keep m c mem h main_arg1, mem_keep m c mem h main_arg2, mem_keep m c mem h main_arg3, mem_keep m c mem h main_arg4, mem_keep m c mem h main_arg5, mem_keep m c mem h main_arg6, mem_keep m c mem h main_arg7, mem_keep m c mem h main_arg8, mem_keep m c mem h main_arg9, mem_keep m c mem h main_arg10⟩

theorem frame : Cert.quiescent_Kernel := fun m ρ hpre =>
  (θ_run Cert.Kernel.defs _ _).mono (fun _ h => ⟨fun c => args_keep m c _ (h.1 c), h.2⟩)
    (run_main (F := Bits) m ρ fun d y => cols_lt m d (fun i =>
      have h := Inputs.columns _ _ _ _ _ _ _ _ _ _ _ (hpre d)
      ⟨h.1 i, h.2.1 i, h.2.2 i⟩) y)

end Cert.Proof.Kernel
end
-- ==== Proof.Ideal.lean ====
/-
  The idealized program is the kernel's own text over the extended reals: the two definitions unfold to the same terms,
  so the run proved of the one is the run of the other.
-/
module

public import proofs.«01_k».proof.Proof.Frame
public import proofs.«01_k».proof.Proof.Gen.KernelIdeal
public import Idealize.ShloMosaic.PureOps.Ideal

@[expose] public section
noncomputable section
namespace Cert.Proof.Ideal
open Idealize.ShloMosaic Idealize.SL.Sem

attribute [local instance] Cert.KernelIdeal.Gen.facts

abbrev Mem := (ℓ : Loc Cert.Kernel.nD Cert.Kernel.τ Cert.Kernel.sig) → Buf (Elt Ideal) ℓ

/-- What a run of the kernel from `m` ends with: its computed contents everywhere, its semaphores at zero. -/
def End (m : Mem) (r : PUnit × MemSt Cert.Kernel.nD Cert.Kernel.τ Cert.Kernel.sig (Elt Ideal)) : Prop :=
  (∀ c, ∀ b ∈ Kernel.uc, r.2.mem (c, b) = Kernel.V3 m c b) ∧ r.2.sem = fun _ => 0

set_option maxRecDepth 100000 in
set_option maxHeartbeats 4000000 in
theorem run (m : Mem) (ρ : Dev Cert.Kernel.nD → PrngReg) (hcols : ∀ d y, (Kernel.VI m d y).toNat < 256) :
    θ_run (Cert.KernelIdeal.defs (F := Ideal)) (Cert.KernelIdeal.threads (F := Ideal)) ⟨m, fun _ => 0, ρ⟩ (End m) :=
  Kernel.run_main (F := Ideal) m ρ hcols

theorem cols (m : Mem) (h : Cert.Pre_KernelIdeal m) (d y) : (Kernel.VI m d y).toNat < 256 :=
  Kernel.cols_lt m d (fun i => have h := Inputs.columns _ _ _ _ _ _ _ _ _ _ _ (h d); ⟨h.1 i, h.2.1 i, h.2.2 i⟩) y

theorem good (m : Mem) (h : Cert.Pre_KernelIdeal_inputs m) (d : Dev Cert.Kernel.nD) :
    Inputs.Good (m (d, Kernel.ref Cert.Kernel.main_arg0)) (m (d, Kernel.ref Cert.Kernel.main_arg1)) (m (d, Kernel.ref Cert.Kernel.main_arg2))
      (m (d, Kernel.ref Cert.Kernel.main_arg3)) (m (d, Kernel.ref Cert.Kernel.main_arg4)) (m (d, Kernel.ref Cert.Kernel.main_arg5))
      (m (d, Kernel.ref Cert.Kernel.main_arg6)) (m (d, Kernel.ref Cert.Kernel.main_arg7)) (m (d, Kernel.ref Cert.Kernel.main_arg8))
      (m (d, Kernel.ref Cert.Kernel.main_arg9)) (m (d, Kernel.ref Cert.Kernel.main_arg10)) :=
  Inputs.inputs _ _ _ _ _ _ _ _ _ _ _ (h d)

theorem cols' (m : Mem) (h : Cert.Pre_KernelIdeal_inputs m) (d y) : (Kernel.VI m d y).toNat < 256 :=
  Kernel.cols_lt m d (fun i => have h := (good m h d).bodies; ⟨h.1 i, h.2.1 i, h.2.2 i⟩) y

theorem frame : Cert.quiescent_KernelIdeal := fun m ρ hpre =>
  (θ_run Cert.KernelIdeal.defs _ _).mono (fun _ h => ⟨fun c => Kernel.args_keep m c _ (h.1 c), h.2⟩) (run m ρ (cols m hpre))

theorem frame' : Cert.quiescent_KernelIdeal_pre_inputs := fun m ρ hpre =>
  (θ_run Cert.KernelIdeal.defs _ _).mono (fun _ h => ⟨fun c => Kernel.args_keep m c _ (h.1 c), h.2⟩) (run m ρ (cols' m hpre))

end Cert.Proof.Ideal
end
-- ==== Proof.Reference.lean ====
/-
  The reference's frame, from its run: the arguments stay as they were; it has no semaphore to leave raised.
-/
module

public import proofs.«01_k».proof.Defs
public import proofs.«01_k».proof.Proof.Gen.ReferenceIdeal.Run
public import proofs.«01_k».proof.Proof.Inputs

@[expose] public section
noncomputable section
namespace Cert.Proof.Reference
open Cert.ReferenceIdeal Cert.ReferenceIdeal.Gen
open Idealize.ShloMosaic Idealize.SL.Sem

attribute [local instance] Cert.ReferenceIdeal.Gen.facts

instance : IsEmpty (GSem nD τ sig) := ⟨fun g => by
  obtain ⟨-, s⟩ := g
  cases s with
  | reg s => exact s.elim0
  | dma s => exact s.elim0⟩

theorem frame : Cert.quiescent_ReferenceIdeal := fun m ρ _ =>
  (θ_run defs _ _).mono (fun _ h => ⟨fun c => (h c).2, funext fun g => isEmptyElim g⟩) (Cert.ReferenceIdeal.Value.run m ρ)

theorem frame' : Cert.quiescent_ReferenceIdeal_pre_inputs := fun m ρ _ => frame m ρ trivial

end Cert.Proof.Reference
end
-- ==== Proof.Plain.lean ====
/-
  The mathematics of the three strata on plain arrays over the extended reals: a literal, a clause, and the array a
  stratum leaves.
-/
module

public import Idealize.ShloMosaic.PureOps.Ideal
public import Idealize.ShloMosaic.Lib.IdealHost
public import Idealize.ShloMosaic.Lib.ValueIdx

@[expose] public section
noncomputable section
namespace Cert.Proof.Plain
open Idealize.ShloMosaic Idealize.ShloMosaic.ValueIdx

abbrev Preds : Shape := ⟨2, ![16384, 256]⟩
abbrev Cells : Shape := ⟨2, ![128, 3]⟩

/-- A sign word as a number. -/
abbrev sg (s : BitVec 32) : EReal := ((s.toInt : ℝ) : EReal)

/-- The literal of a value and a sign: the distance of the value from the sign's complement. -/
def lit (x : EReal) (s : BitVec 32) : EReal := max (x - (1 - sg s)) (-(x - (1 - sg s)))

abbrev Unit01 (x : EReal) : Prop := 0 ≤ x ∧ x ≤ 1

theorem real_of_unit {x : EReal} (hx : Unit01 x) : ∃ r : ℝ, x = (r : EReal) ∧ 0 ≤ r ∧ r ≤ 1 := by
  induction x with
  | bot => exact absurd hx.1 (by simp)
  | top => exact absurd hx.2 (not_le.2 (EReal.coe_lt_top 1))
  | coe r => exact ⟨r, rfl, by exact_mod_cast hx.1, by exact_mod_cast hx.2⟩

theorem lit_unit {x : EReal} {s : BitVec 32} (hx : Unit01 x) (hs : s = 0#32 ∨ s = 1#32) : Unit01 (lit x s) := by
  obtain ⟨r, rfl, h0, h1⟩ := real_of_unit hx
  have key (b : ℝ) (hb : b = 0 ∨ b = 1) : Unit01 (max ((r : EReal) - (1 - (b : EReal))) (-((r : EReal) - (1 - (b : EReal))))) := by
    have e : max ((r : EReal) - (1 - (b : EReal))) (-((r : EReal) - (1 - (b : EReal)))) = ((max (r - (1 - b)) (-(r - (1 - b))) : ℝ) : EReal) := by
      rw [Monotone.map_max EReal.coe_strictMono.monotone]; norm_cast
    rw [e]
    refine ⟨?_, ?_⟩
    · exact_mod_cast (by rcases hb with rfl | rfl <;> simp <;> first | (left; linarith) | (right; linarith) : (0 : ℝ) ≤ max (r - (1 - b)) (-(r - (1 - b))))
    · exact_mod_cast (by rcases hb with rfl | rfl <;> refine max_le ?_ ?_ <;> linarith : max (r - (1 - b)) (-(r - (1 - b))) ≤ (1 : ℝ))
  rcases hs with rfl | rfl
  · exact key _ (Or.inl (by simp))
  · exact key _ (Or.inr (by simp))

/-- On a value between 0 and 1 and a sign 0 or 1 the mixture the reference computes is the literal. -/
theorem lit_eq {x : EReal} {s : BitVec 32} (hx : Unit01 x) (hs : s = 0#32 ∨ s = 1#32) : sg s * x + (1 - sg s) * (1 - x) = lit x s := by
  obtain ⟨r, rfl, h0, h1⟩ := real_of_unit hx
  have key (b : ℝ) (hb : b = 0 ∨ b = 1) : (b : EReal) * (r : EReal) + (1 - (b : EReal)) * (1 - (r : EReal)) = max ((r : EReal) - (1 - (b : EReal))) (-((r : EReal) - (1 - (b : EReal)))) := by
    have e : max ((r : EReal) - (1 - (b : EReal))) (-((r : EReal) - (1 - (b : EReal)))) = ((max (r - (1 - b)) (-(r - (1 - b))) : ℝ) : EReal) := by
      rw [Monotone.map_max EReal.coe_strictMono.monotone]; norm_cast
    have e' : (b : EReal) * (r : EReal) + (1 - (b : EReal)) * (1 - (r : EReal)) = ((b * r + (1 - b) * (1 - r) : ℝ) : EReal) := by norm_cast
    rw [e, e']
    congr 1
    rcases hb with rfl | rfl
    · rw [max_eq_right (by linarith)]; ring
    · rw [max_eq_left (by linarith)]; ring
  rcases hs with rfl | rfl
  · exact key _ (Or.inl (by simp))
  · exact key _ (Or.inr (by simp))

/-- A word as a column, and a number as a clause (each wrapped into range). -/
def col (v : BitVec 32) : Fin 256 := ⟨v.toNat % 256, Nat.mod_lt _ (by decide)⟩
def num (n : ℕ) : Fin 128 := ⟨n % 128, Nat.mod_lt _ (by decide)⟩

/-- Clause `n` in row `t`. -/
def clause (X : Preds.Idx → EReal) (body sign : Cells.Idx → BitVec 32) (t : Fin 16384) (n : Fin 128) : EReal :=
  min (min (lit (X (ix2 t (col (body (ix2 n 0))))) (sign (ix2 n 0))) (lit (X (ix2 t (col (body (ix2 n 1))))) (sign (ix2 n 1))))
    (lit (X (ix2 t (col (body (ix2 n 2))))) (sign (ix2 n 2)))

/-- What a stratum leaves whose heads are the columns `lo … lo + 63`: each raised to its two clauses. -/
def step (lo : ℕ) (body sign : Cells.Idx → BitVec 32) (X : Preds.Idx → EReal) : Preds.Idx → EReal := fun i =>
  if lo ≤ (i 1).val ∧ (i 1).val < lo + 64 then
    max (X i) (max (clause X body sign (i 0) (num (2 * ((i 1).val - lo)))) (clause X body sign (i 0) (num (2 * ((i 1).val - lo) + 1))))
  else X i

theorem clause_unit {X : Preds.Idx → EReal} {body sign : Cells.Idx → BitVec 32} (hX : ∀ i, Unit01 (X i)) (hs : ∀ i, sign i = 0#32 ∨ sign i = 1#32)
    (t : Fin 16384) (n : Fin 128) : Unit01 (clause X body sign t n) := by
  have h (l : Fin 3) := lit_unit (hX (ix2 t (col (body (ix2 n l))))) (hs (ix2 n l))
  exact ⟨le_min (le_min (h 0).1 (h 1).1) (h 2).1, (min_le_right _ _).trans (h 2).2⟩

theorem step_unit {X : Preds.Idx → EReal} {body sign : Cells.Idx → BitVec 32} (lo : ℕ) (hX : ∀ i, Unit01 (X i)) (hs : ∀ i, sign i = 0#32 ∨ sign i = 1#32)
    (i : Preds.Idx) : Unit01 (step lo body sign X i) := by
  unfold step
  split
  · exact ⟨le_max_of_le_left (hX i).1, max_le (hX i).2 (max_le (clause_unit hX hs _ _).2 (clause_unit hX hs _ _).2)⟩
  · exact hX i

end Cert.Proof.Plain
end
-- ==== Proof.KernelSide.lean ====
/-
  The kernel's side over the extended reals: a pass over a chunk is the plain step on the chunk's rows, so the flat
  array the kernel leaves is the three plain steps of the predicates, row after row.
-/
module

public import proofs.«01_k».proof.Proof.Values
public import proofs.«01_k».proof.Proof.Plain
public import Idealize.ShloMosaic.Lib.ValueIdx

@[expose] public section
noncomputable section
namespace Cert.Proof.Vals
open Idealize.ShloMosaic Idealize.ShloMosaic.ValueIdx
open Cert.Proof.Plain (step sg num col)

/-- Chunk `q`'s 128 rows of an array. -/
def chunkRows (q : ℕ) (X : Plain.Preds.Idx → EReal) : Chunk.Idx → EReal := fun y =>
  X (ix2 ⟨(128 * q + (y 0).val / 256) % 16384, Nat.mod_lt _ (by decide)⟩ ⟨(y 0).val % 256, Nat.mod_lt _ (by decide)⟩)

/-- The entry of a stratum's array behind lane `x` of vector `m` of its part of the table. -/
theorem cell_lane (g k l x : ℕ) (hg : g < 4) (hk : k < 2) (hl : l < 3) (hx : x < 16) :
    cell (16 * (g + 4 * k + 8 * l) + x) = ix2 (num (2 * (16 * g + x) + k)) ⟨l, hl⟩ := by
  obtain ⟨h, hh⟩ : ∃ h, 16 * g + x = h := ⟨_, rfl⟩
  have hw : 16 * (g + 4 * k + 8 * l) + x = 64 * (k + 2 * l) + h := by omega
  have h₁ : (64 * (k + 2 * l) + h) % 64 = h := by omega
  have h₂ : (64 * (k + 2 * l) + h) / 64 = k + 2 * l := by omega
  have h₃ : (64 * (k + 2 * l) + h) / 128 = l := by omega
  have h₄ : (k + 2 * l) % 2 = k := by omega
  have h₅ : (2 * h + k) % 128 = 2 * h + k := by omega
  rw [hw, hh]
  funext a
  match a with
  | 0 => exact Fin.ext (show 2 * ((64 * (k + 2 * l) + h) % 64) + (64 * (k + 2 * l) + h) / 64 % 2 = (2 * h + k) % 128 by rw [h₁, h₂, h₄, h₅])
  | 1 => exact Fin.ext (show (64 * (k + 2 * l) + h) / 128 % 3 = l by rw [h₃]; omega)

/-- Vector `m` of a stratum's part of a table, given what its words are. -/
theorem vecs_getD {α : Type} (T : Table.Idx → α) (s m : ℕ) (z : Lanes.Idx → α) (hm : m < 24) : (vecs T s).getD m z = ldT T (384 * s + 16 * m) := by
  unfold vecs
  simp [List.getD, hm]

section
variable (s : ℕ) (hs : s < 3) (I : Table.Idx → BitVec 32) (B : Table.Idx → EReal) (body sign : Cells.Idx → BitVec 32)
  (hI : ∀ r < 384, I (wordT (384 * s + r)) = body (cell r)) (hB : ∀ r < 384, B (wordT (384 * s + r)) = 1 - sg (sign (cell r)))
  (hb : ∀ i, (body i).toNat < 256) (q : ℕ) (X : Plain.Preds.Idx → EReal)
include hI hB hb

theorem lit_eq (z : FVec Ideal Lanes .f32) (t g k l x : ℕ) (hg : g < 4) (hk : k < 2) (hl : l < 3) (hx : x < 16) (ht : t < 128) :
    lit (F := Ideal) (vecs B s) ((vecs I s).map (gat (chunkRows q X) t)) z (g + 4 * k + 8 * l) (wordL x)
      = Plain.lit (X (ix2 ⟨(128 * q + t) % 16384, Nat.mod_lt _ (by decide)⟩ (col (body (ix2 (num (2 * (16 * g + x) + k)) ⟨l, hl⟩)))))
          (sign (ix2 (num (2 * (16 * g + x) + k)) ⟨l, hl⟩)) := by
  have hm : g + 4 * k + 8 * l < 24 := by omega
  have hxx : x % 16 = x := Nat.mod_eq_of_lt hx
  have eB : (vecs B s).getD (g + 4 * k + 8 * l) z (wordL x) = 1 - sg (sign (ix2 (num (2 * (16 * g + x) + k)) ⟨l, hl⟩)) := by
    rw [vecs_getD B s _ z hm]
    show B (wordT (384 * s + 16 * (g + 4 * k + 8 * l) + x % 16)) = _
    rw [hxx, Nat.add_assoc, hB _ (by omega), cell_lane g k l x hg hk hl hx]
  have eG : ((vecs I s).map (gat (chunkRows q X) t)).getD (g + 4 * k + 8 * l) z (wordL x)
      = X (ix2 ⟨(128 * q + t) % 16384, Nat.mod_lt _ (by decide)⟩ (col (body (ix2 (num (2 * (16 * g + x) + k)) ⟨l, hl⟩)))) := by
    have e : ((vecs I s).map (gat (chunkRows q X) t)).getD (g + 4 * k + 8 * l) z = gat (chunkRows q X) t (ldT I (384 * s + 16 * (g + 4 * k + 8 * l))) := by
      unfold vecs
      simp [List.getD, hm]
    rw [e]
    show chunkRows q X (wordC ((I (wordT (384 * s + 16 * (g + 4 * k + 8 * l) + x % 16))).toNat + 256 * t)) = _
    rw [hxx, Nat.add_assoc, hI _ (by omega), cell_lane g k l x hg hk hl hx]
    have hbb := hb (ix2 (num (2 * (16 * g + x) + k)) ⟨l, hl⟩)
    unfold chunkRows
    refine congrArg X ?_
    funext a
    match a with
    | ⟨0, _⟩ => exact Fin.ext (show (128 * q + (_ + 256 * t) % 32768 / 256) % 16384 = (128 * q + t) % 16384 by congr 2; omega)
    | ⟨1, _⟩ => exact Fin.ext (show (_ + 256 * t) % 32768 % 256 = _ % 256 by omega)
  unfold lit
  show max (_ - _) (-(_ - _)) = _
  rw [eB, eG]
  rfl

theorem clause_eq (z : FVec Ideal Lanes .f32) (t g k x : ℕ) (hg : g < 4) (hk : k < 2) (hx : x < 16) (ht : t < 128) :
    clause (F := Ideal) (vecs B s) ((vecs I s).map (gat (chunkRows q X) t)) z (g + 4 * k) (wordL x)
      = Plain.clause X body sign ⟨(128 * q + t) % 16384, Nat.mod_lt _ (by decide)⟩ (num (2 * (16 * g + x) + k)) := by
  have h (l : ℕ) (hl : l < 3) := lit_eq s I B body sign hI hB hb q X z t g k l x hg hk hl hx ht
  have h0 := h 0 (by decide)
  have h1 := h 1 (by decide)
  have h2 := h 2 (by decide)
  unfold clause Plain.clause
  show min (min (lit _ _ z (g + 4 * k) (wordL x)) (lit _ _ z (8 + (g + 4 * k)) (wordL x))) (lit _ _ z (16 + (g + 4 * k)) (wordL x)) = _
  rw [Nat.add_comm 8, Nat.add_comm 16]
  exact congrArg₂ min (congrArg₂ min h0 h1) h2

/-- A pass over a chunk of an array is the plain step of the array. -/
theorem pass_eq : pass (F := Ideal) s I B (chunkRows q X) = chunkRows q (step (64 + 64 * s) body sign X) := by
  funext y
  have hy : (y 0).val < 32768 := (y 0).isLt
  unfold pass upto
  show _ = (if 64 + 64 * s ≤ (y 0).val % 256 ∧ (y 0).val % 256 < 64 + 64 * s + 64 then _ else _)
  by_cases hc : 64 + 64 * s ≤ (y 0).val % 256 ∧ (y 0).val % 256 < 64 + 64 * s + 64
  · rw [if_pos ⟨by omega, hc⟩, if_pos hc]
    generalize hh : (y 0).val % 256 - (64 + 64 * s) = h at *
    have hlt : h < 64 := by omega
    have e (k : ℕ) (hk : k < 2) := clause_eq s I B body sign hI hB hb q X (ldT B (384 * s)) ((y 0).val / 256) (h / 16) k (h % 16) (by omega) hk (by omega) (by omega)
    have hd : 16 * (h / 16) + h % 16 = h := Nat.div_add_mod h 16
    rw [hd] at e
    have e0 := e 0 (by decide)
    have e1 := e 1 (by decide)
    unfold head
    show max (chunkRows q X y) (max (clause (F := Ideal) _ _ _ (h / 16) (wordL (h % 16))) (clause (F := Ideal) _ _ _ (4 + h / 16) (wordL (h % 16)))) = _
    rw [Nat.add_comm 4]
    refine congrArg₂ max rfl (congrArg₂ max e0 e1) |>.trans ?_
    subst hh
    rfl
  · rw [if_neg (by tauto), if_neg hc]
    rfl

end

end Cert.Proof.Vals
end
-- ==== Proof.Stratum.lean ====
/-
  The reference's composed terms read element by element: the take by the atoms, one stratum over any array, and the
  write back by the atoms.
-/
module

public import proofs.«01_k».proof.Proof.Gen.ReferenceIdeal.Run
public import proofs.«01_k».proof.Proof.Plain
public import Idealize.ShloMosaic.PureOps.Ideal.Laws
public import Idealize.ShloMosaic.Lib.ReduceAll
public import Idealize.ShloMosaic.Lib.WordCmp
public import Idealize.ShloMosaic.Lib.Routing.OpsPair
public import Idealize.ShloMosaic.Lib.Routing.OpsSet

@[expose] public section
noncomputable section
namespace Cert.Proof.Stratum
open Idealize.ShloMosaic Idealize.ShloMosaic.ValueIdx Cert.ReferenceIdeal Cert.ReferenceIdeal.Gen Cert.Proof.Plain

/-- A word below 256 is not negative and at most 255, and the wrap of negative words leaves it. -/
theorem in_range (v : BitVec 32) (hv : v.toNat < 256) : IntOp.andi (IntOp.cmpi .sge v 0#32) (IntOp.cmpi .sle v 255#32) = 1#1 := by
  rw [WordCmp.cmpi_sge_of_lt (by omega) (by decide), WordCmp.cmpi_sle_of_lt (by omega) (by decide)]
  have h₁ : (0#32).toNat ≤ v.toNat := by simp
  have h₂ : v.toNat ≤ (255#32).toNat := by show _ ≤ 255; omega
  simp only [h₁, h₂]
  rfl

/-- The body's words as the gather's start indices, negative ones wrapped. -/
def starts (body : Cells.Idx → BitVec 32) : S128x3x1.Idx → BitVec 32 :=
  broadcastInDim S128x3x1 ![0, 1] bcast_S128x3_S128x3x1_0_1 (select (cmpi .slt body (broadcastInDim S128x3 ![] bcast_S_S128x3 (constantI S_ 32 0#32))) (addi body (broadcastInDim S128x3 ![] bcast_S_S128x3 (constantI S_ 32 256#32))) body)

theorem starts_apply (body : Cells.Idx → BitVec 32) (hb : ∀ i, (body i).toNat < 256) (i : S128x3x1.Idx) : starts body i = body (ix2 (i 0) (i 1)) := by
  have e : starts body i = Scalar.select (IntOp.cmpi .slt (body (ix2 (i 0) (i 1))) 0#32) (body (ix2 (i 0) (i 1)) + 256#32) (body (ix2 (i 0) (i 1))) := by
    have hk : (fun a => if h1 : S128x3.size a = 1 then ⟨0, by omega⟩ else ⟨(i ((![0, 1] : Fin 2 → Fin 3) a)).val, by fin_cases a <;> exact (i _).isLt⟩ : S128x3.Idx) = ix2 (i 0) (i 1) := by
      funext a; fin_cases a <;> rfl
    exact congrArg (fun k => Scalar.select (IntOp.cmpi .slt (body k) 0#32) (body k + 256#32) (body k)) hk
  rw [e]
  exact Routing.wrap_of_lt _ _ (by have := hb (ix2 (i 0) (i 1)); omega)

/-- The values of an array at the body's columns. -/
def takes (X : FVec Ideal S16384x256 .f32) (body : Cells.Idx → BitVec 32) : FVec Ideal S16384x128x3 .f32 :=
  select (broadcastInDim S16384x128x3 ![1, 2] bcast_S128x3_S16384x128x3_1_2 (Host.reduce IntOp.andi (andi (cmpi .sge (starts body) (broadcastInDim S128x3x1 ![] bcast_S_S128x3x1 (constantI S_ 32 0#32))) (cmpi .sle (starts body) (broadcastInDim S128x3x1 ![0, 1, 2] bcast_S1x1x1_S128x3x1_0_1_2 (broadcastInDim S1x1x1 ![2] bcast_S1_S1x1x1_2 (constantI S1 32 255#32))))) (constantI S_ 1 1#1) reducesTo_S128x3x1_S128x3_d2 h_S_)) (Host.gather gather_S16384x256_S128x3x1_S16384x128x3_0_1_n_n_1_2_163841 X (starts body)) (broadcastInDim S16384x128x3 ![] bcast_S_S16384x128x3 (constant S_ .f32 0x7FC00000#32))

theorem gather_cells (X : FVec Ideal S16384x256 .f32) (idx : S128x3x1.Idx → BitVec 32) (t : Fin 16384) (n : Fin 128) (l : Fin 3)
    (h : (idx (ix3 n l 0)).toNat < 256) :
    Host.gather gather_S16384x256_S128x3x1_S16384x128x3_0_1_n_n_1_2_163841 X idx (ix3 t n l) = X (ix2 t (col (idx (ix3 n l 0)))) := by
  unfold Host.gather
  congr 1
  funext a
  refine Fin.ext ?_
  match a with
  | ⟨0, _⟩ => exact Nat.zero_add _
  | ⟨1, _⟩ =>
    have hsi : gather_S16384x256_S128x3x1_S16384x128x3_0_1_n_n_1_2_163841.siIdx (ix3 t n l) ⟨0, by decide⟩ = ix3 n l 0 := by
      funext b
      match b with
      | ⟨0, _⟩ => rfl
      | ⟨1, _⟩ => rfl
      | ⟨2, _⟩ => rfl
    show min (idx (gather_S16384x256_S128x3x1_S16384x128x3_0_1_n_n_1_2_163841.siIdx (ix3 t n l) ⟨0, _⟩)).toInt.toNat 255 + 0 + 0 = _
    rw [hsi, WordCmp.toInt_eq_toNat_of_lt_half (by omega)]
    show min ((idx (ix3 n l 0)).toNat : Int).toNat 255 + 0 + 0 = (idx (ix3 n l 0)).toNat % 256
    omega

theorem takes_apply (X : FVec Ideal S16384x256 .f32) (body : Cells.Idx → BitVec 32) (hb : ∀ i, (body i).toNat < 256) (t : Fin 16384) (n : Fin 128) (l : Fin 3) :
    takes X body (ix3 t n l) = X (ix2 t (col (body (ix2 n l)))) := by
  unfold takes
  rw [select_apply]
  have hm : broadcastInDim S16384x128x3 ![1, 2] bcast_S128x3_S16384x128x3_1_2 (Host.reduce IntOp.andi (andi (cmpi .sge (starts body) (broadcastInDim S128x3x1 ![] bcast_S_S128x3x1 (constantI S_ 32 0#32))) (cmpi .sle (starts body) (broadcastInDim S128x3x1 ![0, 1, 2] bcast_S1x1x1_S128x3x1_0_1_2 (broadcastInDim S1x1x1 ![2] bcast_S1_S1x1x1_2 (constantI S1 32 255#32))))) (constantI S_ 1 1#1) reducesTo_S128x3x1_S128x3_d2 h_S_) (ix3 t n l) = 1#1 :=
    Host.reduce_andi_one _ _ _ _ _ rfl fun i => (congrArg (fun v => IntOp.andi (IntOp.cmpi .sge v 0#32) (IntOp.cmpi .sle v 255#32)) (starts_apply body hb i)).trans (in_range _ (hb _))
  rw [hm, select_one, gather_cells X _ t n l (by rw [starts_apply body hb]; exact hb _), starts_apply body hb]

/-- The signs as numbers. -/
def signs (sign : Cells.Idx → BitVec 32) : FVec Ideal S1x128x3 .f32 :=
  broadcastInDim S1x128x3 ![1, 2] bcast_S128x3_S1x128x3_1_2 (sitofp .f32 sign)

/-- The literals. -/
def lits (X : FVec Ideal S16384x256 .f32) (body sign : Cells.Idx → BitVec 32) : FVec Ideal S16384x128x3 .f32 :=
  addf (mulf (broadcastInDim S16384x128x3 ![0, 1, 2] bcast_S1x128x3_S16384x128x3_0_1_2 (signs sign)) (takes X body)) (mulf (broadcastInDim S16384x128x3 ![0, 1, 2] bcast_S1x128x3_S16384x128x3_0_1_2 (subf (broadcastInDim S1x128x3 ![] bcast_S_S1x128x3 (constant S_ .f32 0x3F800000#32)) (signs sign))) (subf (broadcastInDim S16384x128x3 ![] bcast_S_S16384x128x3 (constant S_ .f32 0x3F800000#32)) (takes X body)))

theorem signs_apply (sign : Cells.Idx → BitVec 32) (i : S1x128x3.Idx) : signs sign i = sg (sign (ix2 (i 1) (i 2))) := by
  have hk : (fun a => if h1 : S128x3.size a = 1 then ⟨0, by omega⟩ else ⟨(i ((![1, 2] : Fin 2 → Fin 3) a)).val, by fin_cases a <;> exact (i _).isLt⟩ : S128x3.Idx) = ix2 (i 1) (i 2) := by
    funext a; fin_cases a <;> rfl
  exact congrArg (fun k => sg (sign k)) hk

theorem lits_apply (X : FVec Ideal S16384x256 .f32) (body sign : Cells.Idx → BitVec 32) (hb : ∀ i, (body i).toNat < 256) (hX : ∀ i, Unit01 (X i))
    (hs : ∀ i, sign i = 0#32 ∨ sign i = 1#32) (t : Fin 16384) (n : Fin 128) (l : Fin 3) :
    lits X body sign (ix3 t n l) = lit (X (ix2 t (col (body (ix2 n l))))) (sign (ix2 n l)) := by
  have e : lits X body sign (ix3 t n l) = signs sign (ix3 0 n l) * takes X body (ix3 t n l)
      + (Ideal.ofBits .f32 0x3F800000#32 - signs sign (ix3 0 n l)) * (Ideal.ofBits .f32 0x3F800000#32 - takes X body (ix3 t n l)) := by
    have hk : (fun a => if h1 : S1x128x3.size a = 1 then ⟨0, by omega⟩ else ⟨(ix3 t n l ((![0, 1, 2] : Fin 3 → Fin 3) a)).val, by fin_cases a <;> first | exact absurd rfl h1 | exact (ix3 t n l _).isLt⟩ : S1x128x3.Idx) = ix3 0 n l := by
      funext a; fin_cases a <;> rfl
    exact congrArg (fun k => signs sign k * takes X body (ix3 t n l) + (Ideal.ofBits .f32 0x3F800000#32 - signs sign k) * (Ideal.ofBits .f32 0x3F800000#32 - takes X body (ix3 t n l))) hk
  rw [e, signs_apply, takes_apply X body hb, Ideal.ofBits_one_f32]
  exact lit_eq (hX _) (hs _)

/-- The clauses. -/
def clauses (X : FVec Ideal S16384x256 .f32) (body sign : Cells.Idx → BitVec 32) : FVec Ideal S16384x128 .f32 :=
  Host.reduce FloatOps.minimumf (lits X body sign) (constant S_ .f32 0x7F800000#32) reducesTo_S16384x128x3_S16384x128_d2 h_S_

theorem top_f32 : Ideal.ofBits .f32 0x7F800000#32 = ⊤ := by simp [Ideal.ofBits, Ideal.ieee]
theorem bot_f32 : Ideal.ofBits .f32 0xFF800000#32 = ⊥ := by simp [Ideal.ofBits, Ideal.ieee]

theorem clauses_apply (X : FVec Ideal S16384x256 .f32) (body sign : Cells.Idx → BitVec 32) (hb : ∀ i, (body i).toNat < 256) (hX : ∀ i, Unit01 (X i))
    (hs : ∀ i, sign i = 0#32 ∨ sign i = 1#32) (t : Fin 16384) (n : Fin 128) :
    clauses X body sign (ix2 t n) = clause X body sign t n := by
  have hr : S16384x128x3.Reduces [2] S16384x128 := by decide
  unfold clauses
  rw [Host.reduce_eq_fold_single _ _ _ _ hr]
  have hl (l : Fin 3) : hr.lift (ix2 t n) l = ix3 t n l := by
    funext a
    match a with
    | ⟨0, _⟩ => rfl
    | ⟨1, _⟩ => rfl
    | ⟨2, _⟩ => rfl
  have hf : (lits X body sign ∘ hr.lift (ix2 t n)) = fun l : Fin 3 => lit (X (ix2 t (col (body (ix2 n l))))) (sign (ix2 n l)) := by
    funext l
    exact (congrArg (lits X body sign) (hl l)).trans (lits_apply X body sign hb hX hs t n l)
  rw [hf]
  show (Finset.univ : Finset (Fin 3)).fold min (Ideal.ofBits .f32 0x7F800000#32) (fun l : Fin 3 => lit (X (ix2 t (col (body (ix2 n l))))) (sign (ix2 n l))) = _
  rw [top_f32]
  refine le_antisymm ?_ ?_
  · have h := (Finset.le_fold_min (s := (Finset.univ : Finset (Fin 3))) (b := (⊤ : EReal)) (f := fun l : Fin 3 => lit (X (ix2 t (col (body (ix2 n l))))) (sign (ix2 n l))) _).mp le_rfl
    exact le_min (le_min (h.2 0 (Finset.mem_univ _)) (h.2 1 (Finset.mem_univ _))) (h.2 2 (Finset.mem_univ _))
  · refine (Finset.le_fold_min _).mpr ⟨le_top, fun l _ => ?_⟩
    match l with
    | 0 => exact (min_le_left _ _).trans (min_le_left _ _)
    | 1 => exact (min_le_left _ _).trans (min_le_right _ _)
    | 2 => exact min_le_right _ _

/-- Each column's greatest clause, of the clauses it heads. -/
def best (C : FVec Ideal S16384x128 .f32) (heads : S128.Idx → BitVec 32) : FVec Ideal S16384x256 .f32 :=
  Host.reduce FloatOps.maximumf (select (broadcastInDim S16384x128x256 ![0, 1, 2] bcast_S1x128x256_S16384x128x256_0_1_2 (broadcastInDim S1x128x256 ![1, 2] bcast_S128x256_S1x128x256_1_2 (cmpi .eq (broadcastInDim S128x256 ![0, 1] bcast_S128x1_S128x256_0_1 (broadcastInDim S128x1 ![0] bcast_S128_S128x1_0 heads)) (broadcastInDim S128x256 ![0, 1] bcast_S1x256_S128x256_0_1 (broadcastInDim S1x256 ![1] bcast_S256_S1x256_1 (iotaInDim S256 32 0)))))) (broadcastInDim S16384x128x256 ![0, 1, 2] bcast_S16384x128x1_S16384x128x256_0_1_2 (broadcastInDim S16384x128x1 ![0, 1] bcast_S16384x128_S16384x128x1_0_1 C)) (broadcastInDim S16384x128x256 ![] bcast_S_S16384x128x256 (id (constant S_ .f32 0xFF800000#32)))) (constant S_ .f32 0xFF800000#32) reducesTo_S16384x128x256_S16384x256_d1 h_S_

/-- One entry of the masked clauses. -/
theorem masked_apply (C : FVec Ideal S16384x128 .f32) (heads : S128.Idx → BitVec 32) (t : Fin 16384) (n : Fin 128) (c : Fin 256) :
    select (broadcastInDim S16384x128x256 ![0, 1, 2] bcast_S1x128x256_S16384x128x256_0_1_2 (broadcastInDim S1x128x256 ![1, 2] bcast_S128x256_S1x128x256_1_2 (cmpi .eq (broadcastInDim S128x256 ![0, 1] bcast_S128x1_S128x256_0_1 (broadcastInDim S128x1 ![0] bcast_S128_S128x1_0 heads)) (broadcastInDim S128x256 ![0, 1] bcast_S1x256_S128x256_0_1 (broadcastInDim S1x256 ![1] bcast_S256_S1x256_1 (iotaInDim S256 32 0)))))) (broadcastInDim S16384x128x256 ![0, 1, 2] bcast_S16384x128x1_S16384x128x256_0_1_2 (broadcastInDim S16384x128x1 ![0, 1] bcast_S16384x128_S16384x128x1_0_1 C)) (broadcastInDim S16384x128x256 ![] bcast_S_S16384x128x256 (id (constant S_ .f32 0xFF800000#32))) (ix3 t n c)
      = if heads (ix1 n) = BitVec.ofNat 32 c.val then C (ix2 t n) else (⊥ : EReal) := by
  rw [select_apply]
  rw [broadcastInDim_apply _ _ _ _ (ix3 0 n c : S1x128x256.Idx) (by intro a; fin_cases a <;> rfl),
    broadcastInDim_apply _ _ _ _ (ix2 n c : S128x256.Idx) (by intro a; fin_cases a <;> rfl),
    broadcastInDim_apply _ _ _ (ix3 t n c : S16384x128x256.Idx) (ix3 t n 0 : S16384x128x1.Idx) (by intro a; fin_cases a <;> rfl),
    broadcastInDim_apply _ _ _ (ix3 t n 0 : S16384x128x1.Idx) (ix2 t n : S16384x128.Idx) (by intro a; fin_cases a <;> rfl)]
  have hc : cmpi .eq (broadcastInDim S128x256 ![0, 1] bcast_S128x1_S128x256_0_1 (broadcastInDim S128x1 ![0] bcast_S128_S128x1_0 heads)) (broadcastInDim S128x256 ![0, 1] bcast_S1x256_S128x256_0_1 (broadcastInDim S1x256 ![1] bcast_S256_S1x256_1 (iotaInDim S256 32 0))) (ix2 n c)
      = BitVec.ofBool (decide (heads (ix1 n) = BitVec.ofNat 32 c.val)) := by
    rw [← WordCmp.cmpi_eq_eq]
    show IntOp.cmpi .eq _ _ = _
    rw [broadcastInDim_apply _ _ _ _ (ix2 n 0 : S128x1.Idx) (by intro a; fin_cases a <;> rfl),
      broadcastInDim_apply _ _ heads _ (ix1 n : S128.Idx) (by intro a; fin_cases a; rfl),
      broadcastInDim_apply _ _ _ _ (ix2 0 c : S1x256.Idx) (by intro a; fin_cases a <;> rfl),
      broadcastInDim_apply _ _ (iotaInDim S256 32 0) _ (ix1 c : S256.Idx) (by intro a; fin_cases a; rfl)]
    rfl
  rw [hc]
  by_cases h : heads (ix1 n) = BitVec.ofNat 32 c.val
  · rw [if_pos h, decide_eq_true h]; rfl
  · rw [if_neg h, decide_eq_false h]; exact bot_f32

theorem best_apply (C : FVec Ideal S16384x128 .f32) (heads : S128.Idx → BitVec 32) (t : Fin 16384) (c : Fin 256) :
    best C heads (ix2 t c) = (Finset.univ : Finset (Fin 128)).fold max (⊥ : EReal) (fun n => if heads (ix1 n) = BitVec.ofNat 32 c.val then C (ix2 t n) else (⊥ : EReal)) := by
  have hr : S16384x128x256.Reduces [1] S16384x256 := by decide
  unfold best
  rw [Host.reduce_eq_fold_single _ _ _ _ hr]
  have hl (n : Fin 128) : hr.lift (ix2 t c) n = ix3 t n c := by
    funext a
    match a with
    | ⟨0, _⟩ => rfl
    | ⟨1, _⟩ => rfl
    | ⟨2, _⟩ => rfl
  have hi : (constant (F := Ideal) S_ .f32 0xFF800000#32) (Shape.Idx.first h_S_) = (⊥ : EReal) := bot_f32
  rw [hi]
  refine Finset.fold_congr fun n _ => ?_
  exact (congrArg _ (hl n)).trans (masked_apply C heads t n c)

/-- One stratum of the reference over any array. -/
def stratum (X : FVec Ideal S16384x256 .f32) (heads : S128.Idx → BitVec 32) (body sign : Cells.Idx → BitVec 32) : FVec Ideal S16384x256 .f32 :=
  maximumf X (best (clauses X body sign) heads)

/-- With the heads in pairs from column `lo` on, a stratum is the plain step. -/
theorem stratum_eq (X : FVec Ideal S16384x256 .f32) (lo : ℕ) (hlo : lo + 64 ≤ 256) (heads : S128.Idx → BitVec 32) (body sign : Cells.Idx → BitVec 32)
    (hh : ∀ i, heads i = BitVec.ofNat 32 (lo + (i 0).val / 2)) (hb : ∀ i, (body i).toNat < 256) (hX : ∀ i, Unit01 (X i))
    (hs : ∀ i, sign i = 0#32 ∨ sign i = 1#32) : stratum X heads body sign = step lo body sign X := by
  funext i
  obtain ⟨t, c, rfl⟩ : ∃ t c, i = ix2 t c := ⟨_, _, eq_ix2 i⟩
  show max (X (ix2 t c)) (best (clauses X body sign) heads (ix2 t c)) = _
  rw [best_apply]
  have hn (n : Fin 128) : heads (ix1 n) = BitVec.ofNat 32 c.val ↔ lo + n.val / 2 = c.val := by
    rw [hh]
    exact WordCmp.ofNat_eq_ofNat_iff (by show lo + n.val / 2 < _; omega) (by omega)
  simp only [hn, clauses_apply X body sign hb hX hs]
  unfold step
  show _ = if lo ≤ c.val ∧ c.val < lo + 64 then max (X (ix2 t c)) (max (clause X body sign t (num (2 * (c.val - lo)))) (clause X body sign t (num (2 * (c.val - lo) + 1)))) else X (ix2 t c)
  split
  · next h =>
    congr 1
    refine le_antisymm ?_ ?_
    · refine (Finset.fold_max_le _).mpr ⟨bot_le, fun n _ => ?_⟩
      split
      · next e =>
        rcases Nat.mod_two_eq_zero_or_one n.val with h0 | h1
        · refine le_max_of_le_left (le_of_eq (congrArg _ (Fin.ext ?_)))
          show n.val = _ % 128
          omega
        · refine le_max_of_le_right (le_of_eq (congrArg _ (Fin.ext ?_)))
          show n.val = _ % 128
          omega
      · exact bot_le
    · have key (n : Fin 128) (e : lo + n.val / 2 = c.val) : clause X body sign t n
          ≤ (Finset.univ : Finset (Fin 128)).fold max (⊥ : EReal) (fun n => if lo + n.val / 2 = c.val then clause X body sign t n else (⊥ : EReal)) :=
        (Finset.le_fold_max _).mpr (Or.inr ⟨n, Finset.mem_univ _, by rw [if_pos e]⟩)
      exact max_le (key _ (by show lo + (2 * (c.val - lo)) % 128 / 2 = c.val; omega)) (key _ (by show lo + (2 * (c.val - lo) + 1) % 128 / 2 = c.val; omega))
  · next h =>
    have e : (Finset.univ : Finset (Fin 128)).fold max (⊥ : EReal) (fun n => if lo + n.val / 2 = c.val then clause X body sign t n else (⊥ : EReal)) ≤ ⊥ :=
      (Finset.fold_max_le _).mpr ⟨le_rfl, fun n _ => by rw [if_neg (by have := n.isLt; omega)]⟩
    exact max_eq_left (e.trans bot_le)

end Cert.Proof.Stratum
end
-- ==== Proof.Atoms.lean ====
/-
  The reference's take and write back by the atoms, each the identity when the atoms are the columns in order; and so the
  reference's result as the three plain steps.
-/
module

public import proofs.«01_k».proof.Proof.Stratum

@[expose] public section
noncomputable section
namespace Cert.Proof.Stratum
open Idealize.ShloMosaic Idealize.ShloMosaic.ValueIdx Cert.ReferenceIdeal Cert.ReferenceIdeal.Gen Cert.Proof.Plain

/-- The atoms as start indices, negative ones wrapped. -/
def places (atoms : S256.Idx → BitVec 32) : S256x1.Idx → BitVec 32 :=
  broadcastInDim S256x1 ![0] bcast_S256_S256x1_0 (select (cmpi .slt atoms (broadcastInDim S256 ![] bcast_S_S256 (constantI S_ 32 0#32))) (addi atoms (broadcastInDim S256 ![] bcast_S_S256 (constantI S_ 32 256#32))) atoms)

theorem places_apply (atoms : S256.Idx → BitVec 32) (ha : ∀ i, atoms i = BitVec.ofNat 32 (i 0).val) (i : S256x1.Idx) : places atoms i = BitVec.ofNat 32 (i 0).val := by
  unfold places
  rw [broadcastInDim_apply _ _ _ _ (ix1 (i 0) : S256.Idx) (by intro a; fin_cases a; rfl), select_apply]
  have hi : (i 0).val < 256 := (i 0).isLt
  have e : atoms (ix1 (i 0)) = BitVec.ofNat 32 (i 0).val := ha _
  show Scalar.select (IntOp.cmpi .slt (atoms (ix1 (i 0))) 0#32) (atoms (ix1 (i 0)) + 256#32) (atoms (ix1 (i 0))) = _
  rw [e]
  exact Routing.wrap_of_lt _ _ (by rw [BitVec.toNat_ofNat]; omega)

/-- The columns taken by the atoms. -/
def taken (X : FVec Ideal S16384x256 .f32) (atoms : S256.Idx → BitVec 32) : FVec Ideal S16384x256 .f32 :=
  select (broadcastInDim S16384x256 ![1] bcast_S256_S16384x256_1 (Host.reduce IntOp.andi (andi (cmpi .sge (places atoms) (broadcastInDim S256x1 ![] bcast_S_S256x1 (constantI S_ 32 0#32))) (cmpi .sle (places atoms) (broadcastInDim S256x1 ![0, 1] bcast_S1x1_S256x1_0_1 (broadcastInDim S1x1 ![1] bcast_S1_S1x1_1 (constantI S1 32 255#32))))) (constantI S_ 1 1#1) reducesTo_S256x1_S256_d1 h_S_)) (Host.gather gather_S16384x256_S256x1_S16384x256_0_1_n_n_1_1_163841 X (places atoms)) (broadcastInDim S16384x256 ![] bcast_S_S16384x256 (constant S_ .f32 0x7FC00000#32))

theorem gather_cols (X : FVec Ideal S16384x256 .f32) (idx : S256x1.Idx → BitVec 32) (t : Fin 16384) (c : Fin 256)
    (h : idx (ix2 c 0) = BitVec.ofNat 32 c.val) :
    Host.gather gather_S16384x256_S256x1_S16384x256_0_1_n_n_1_1_163841 X idx (ix2 t c) = X (ix2 t c) := by
  unfold Host.gather
  congr 1
  funext a
  refine Fin.ext ?_
  match a with
  | ⟨0, _⟩ => exact Nat.zero_add _
  | ⟨1, _⟩ =>
    have hsi : gather_S16384x256_S256x1_S16384x256_0_1_n_n_1_1_163841.siIdx (ix2 t c) ⟨0, by decide⟩ = ix2 c 0 := by
      funext b
      match b with
      | ⟨0, _⟩ => rfl
      | ⟨1, _⟩ => rfl
    show min (idx (gather_S16384x256_S256x1_S16384x256_0_1_n_n_1_1_163841.siIdx (ix2 t c) ⟨0, _⟩)).toInt.toNat 255 + 0 + 0 = c.val
    rw [hsi, h, WordCmp.toInt_ofNat_of_lt (by have := c.isLt; omega)]
    omega

theorem taken_eq (X : FVec Ideal S16384x256 .f32) (atoms : S256.Idx → BitVec 32) (ha : ∀ i, atoms i = BitVec.ofNat 32 (i 0).val) : taken X atoms = X := by
  funext i
  obtain ⟨t, c, rfl⟩ : ∃ t c, i = ix2 t c := ⟨_, _, eq_ix2 i⟩
  unfold taken
  rw [select_apply]
  have hm : broadcastInDim S16384x256 ![1] bcast_S256_S16384x256_1 (Host.reduce IntOp.andi (andi (cmpi .sge (places atoms) (broadcastInDim S256x1 ![] bcast_S_S256x1 (constantI S_ 32 0#32))) (cmpi .sle (places atoms) (broadcastInDim S256x1 ![0, 1] bcast_S1x1_S256x1_0_1 (broadcastInDim S1x1 ![1] bcast_S1_S1x1_1 (constantI S1 32 255#32))))) (constantI S_ 1 1#1) reducesTo_S256x1_S256_d1 h_S_) (ix2 t c) = 1#1 :=
    Host.reduce_andi_one _ _ _ _ _ rfl fun i => (congrArg (fun v => IntOp.andi (IntOp.cmpi .sge v 0#32) (IntOp.cmpi .sle v 255#32)) (places_apply atoms ha i)).trans
      (in_range _ (by rw [BitVec.toNat_ofNat]; have : (i 0).val < 256 := (i 0).isLt; omega))
  rw [hm, select_one, gather_cols X _ t c (places_apply atoms ha _)]

/-- The write back by the atoms writes every column in its place. -/
theorem scatter_eq (X U : FVec Ideal S16384x256 .f32) (idx : S256x1.Idx → BitVec 32) (h : ∀ c : Fin 256, idx (ix2 c 0) = BitVec.ofNat 32 c.val) :
    Host.scatter scatter_S16384x256_S256x1_S16384x256_0_1_1_1 (fun _ b => b) X idx U = U := by
  funext i
  obtain ⟨t, c, rfl⟩ : ∃ t c, i = ix2 t c := ⟨_, _, eq_ix2 i⟩
  have hit (t' : Fin 16384) (c' : Fin 256) : scatter_S16384x256_S256x1_S16384x256_0_1_1_1.resultIdx? (ix2 t' c') idx = some (ix2 t c) ↔ t' = t ∧ c' = c := by
    rw [Routing.resultIdx?_ix2]
    have hsi : scatter_S16384x256_S256x1_S16384x256_0_1_1_1.siIdx (ix2 t' c') ⟨0, by decide⟩ = ix2 c' 0 := by
      funext b
      match b with
      | ⟨0, _⟩ => rfl
      | ⟨1, _⟩ => rfl
    have h0 : scatter_S16384x256_S256x1_S16384x256_0_1_1_1.start (ix2 t' c') idx 0 + (scatter_S16384x256_S256x1_S16384x256_0_1_1_1.window (ix2 t' c') 0 : ℕ) = (t'.val : ℤ) := Int.zero_add _
    have h1 : scatter_S16384x256_S256x1_S16384x256_0_1_1_1.start (ix2 t' c') idx 1 + (scatter_S16384x256_S256x1_S16384x256_0_1_1_1.window (ix2 t' c') 1 : ℕ) = (c'.val : ℤ) := by
      show (idx (scatter_S16384x256_S256x1_S16384x256_0_1_1_1.siIdx (ix2 t' c') ⟨0, _⟩)).toInt + ((0 : ℕ) : ℤ) = _
      rw [hsi, h, WordCmp.toInt_ofNat_of_lt (by have := c'.isLt; omega)]
      simp
    rw [h0, h1, Fin.ext_iff, Fin.ext_iff]
    omega
  refine Routing.scatter_set_hit _ _ _ _ _ _ (fun k hk => ?_) (ix2 t c) ((hit t c).mpr ⟨rfl, rfl⟩)
  obtain ⟨t', c', rfl⟩ : ∃ t c, k = ix2 t c := ⟨_, _, eq_ix2 k⟩
  obtain ⟨rfl, rfl⟩ := (hit t' c').mp hk
  rfl

end Cert.Proof.Stratum
end
-- ==== Proof.Equation.lean ====
/-
  Both programs end with the same array: the three plain steps, one after another, of the predicates.
-/
module

public import proofs.«01_k».proof.Proof.KernelSide
public import proofs.«01_k».proof.Proof.Atoms
public import proofs.«01_k».proof.Proof.Ideal

@[expose] public section
noncomputable section
namespace Cert.Proof.Equation
open Idealize.ShloMosaic Idealize.ShloMosaic.ValueIdx Idealize.SL.Sem
open Cert.Proof.Plain (step Unit01 step_unit sg)
open Cert.Proof.Vals (Cells Rows wordT wordC wordF cell rowOf)

/-- The three steps. -/
def steps (a0 : Plain.Preds.Idx → EReal) (a3 a4 a6 a7 a9 a10 : Cells.Idx → BitVec 32) : Plain.Preds.Idx → EReal :=
  step 192 a9 a10 (step 128 a6 a7 (step 64 a3 a4 a0))

/-! ## The kernel's side -/

section
variable (m : Ideal.Mem) (d : Dev Cert.Kernel.nD)

/-- A stratum's bodies and signs, by its number. -/
abbrev body (s : Fin 3) : Cells.Idx → BitVec 32 :=
  ![m (d, Kernel.ref Cert.Kernel.main_arg3), m (d, Kernel.ref Cert.Kernel.main_arg6), m (d, Kernel.ref Cert.Kernel.main_arg9)] s
abbrev sign (s : Fin 3) : Cells.Idx → BitVec 32 :=
  ![m (d, Kernel.ref Cert.Kernel.main_arg4), m (d, Kernel.ref Cert.Kernel.main_arg7), m (d, Kernel.ref Cert.Kernel.main_arg10)] s

theorem cols_word (s : Fin 3) (r : ℕ) (hr : r < 384) : Kernel.VI m d (wordT (384 * s.val + r)) = body m d s (cell r) := by
  rw [Kernel.VI_eq, Vals.table_apply _ _ _ _ _ s r hr]
  have e (a) : Kernel.colRows a (rowOf r) = a (cell r) := Vals.rows_apply a _ _ _ r hr
  fin_cases s <;> exact e _

theorem offs_word (s : Fin 3) (r : ℕ) (hr : r < 384) : Kernel.VB m d (wordT (384 * s.val + r)) = (1 - sg (sign m d s (cell r)) : EReal) := by
  rw [Kernel.VB_eq, Vals.table_apply _ _ _ _ _ s r hr]
  have e (a) : Kernel.offRows (F := Ideal) a (rowOf r) = (1 - sg (a (cell r)) : EReal) := by
    show Ideal.ofBits .f32 0x3F800000#32 - sg (Kernel.colRows a (rowOf r)) = _
    rw [Ideal.ofBits_one_f32, show Kernel.colRows a (rowOf r) = a (cell r) from Vals.rows_apply a _ _ _ r hr]
  fin_cases s <;> exact e _

/-- A chunk of the flat array is 128 rows of the array. -/
theorem chunk_rows (q : ℕ) (hq : q < 128) : Vals.chunkOf (Kernel.VP m d) q = Vals.chunkRows q (m (d, Kernel.ref Cert.Kernel.main_arg0)) := by
  funext y
  have hy : (y 0).val < 32768 := (y 0).isLt
  rw [Kernel.VP_eq]
  refine shapeCast_apply (s := Cert.Kernel.S16384x256) (t := Cert.Kernel.S4194304) _ _ _ _ ?_
  rw [Shape.rowMajor_val_one, Shape.rowMajor_val_two]
  show (128 * q + (y 0).val / 256) % 16384 * 256 + (y 0).val % 256 = (32768 * q + (y 0).val) % 4194304
  omega

theorem kernel_value (hb : ∀ s i, (body m d s i).toNat < 256) :
    Kernel.V3 m d (Kernel.ref Cert.Kernel.main_v36) = steps (m (d, Kernel.ref Cert.Kernel.main_arg0)) (m (d, Kernel.ref Cert.Kernel.main_arg3))
      (m (d, Kernel.ref Cert.Kernel.main_arg4)) (m (d, Kernel.ref Cert.Kernel.main_arg6)) (m (d, Kernel.ref Cert.Kernel.main_arg7))
      (m (d, Kernel.ref Cert.Kernel.main_arg9)) (m (d, Kernel.ref Cert.Kernel.main_arg10)) := by
  have hp (s : Fin 3) (q : ℕ) (X : Plain.Preds.Idx → EReal) : Vals.pass (F := Ideal) s.val (Kernel.VI m d) (Kernel.VB m d) (Vals.chunkRows q X)
      = Vals.chunkRows q (step (64 + 64 * s.val) (body m d s) (sign m d s) X) :=
    Vals.pass_eq s.val _ _ (body m d s) (sign m d s) (cols_word m d s) (offs_word m d s) (hb s) q X
  rw [Kernel.V3_out]
  funext i
  obtain ⟨t, c, rfl⟩ : ∃ t c, i = ix2 t c := ⟨_, _, eq_ix2 i⟩
  have ht := t.isLt
  have hc := c.isLt
  rw [shapeCast_apply (s := Cert.Kernel.S4194304) (t := Cert.Kernel.S16384x256) _ _ (ix2 t c) (wordF (256 * t.val + c.val))
    (by rw [Shape.rowMajor_val_one, Shape.rowMajor_val_two]; show (256 * t.val + c.val) % 4194304 = t.val * 256 + c.val; omega)]
  show Vals.outF (Kernel.VI m d) (Kernel.VB m d) (Kernel.VP m d) (wordF (256 * t.val + c.val)) = _
  unfold Vals.outF
  rw [Vals.wordF_val, chunk_rows m d _ (by omega)]
  unfold Vals.passes
  rw [show Vals.pass (F := Ideal) 0 _ _ _ = _ from hp 0 _ _, show Vals.pass (F := Ideal) 1 _ _ _ = _ from hp 1 _ _, show Vals.pass (F := Ideal) 2 _ _ _ = _ from hp 2 _ _]
  refine congrArg (steps _ _ _ _ _ _ _) ?_
  funext a
  match a with
  | ⟨0, _⟩ =>
    exact Fin.ext (show (128 * ((256 * t.val + c.val) % 4194304 / 32768) + (256 * t.val + c.val) % 4194304 % 32768 % 32768 / 256) % 16384 = t.val by omega)
  | ⟨1, _⟩ => exact Fin.ext (show (256 * t.val + c.val) % 4194304 % 32768 % 32768 % 256 = c.val by omega)

end

/-! ## The reference's side -/

section
open Cert.ReferenceIdeal Cert.ReferenceIdeal.Gen Cert.ReferenceIdeal.Value

variable (V : Valuation τ sig (Elt Ideal))

theorem first_eq : res_main_v16 V = Stratum.taken (V (Proc.devRef .tc main_arg0)) (V (Proc.devRef .tc main_arg1)) := rfl

theorem second_eq : res_main_v56 V = Stratum.stratum (res_main_v16 V) (V (Proc.devRef .tc main_arg2)) (V (Proc.devRef .tc main_arg3)) (V (Proc.devRef .tc main_arg4)) := rfl

theorem third_eq : res_main_v96 V = Stratum.stratum (res_main_v56 V) (V (Proc.devRef .tc main_arg5)) (V (Proc.devRef .tc main_arg6)) (V (Proc.devRef .tc main_arg7)) := rfl

/-- The reference's result as the write back of the third stratum. -/
def refOut : FVec Ideal S16384x256 .f32 :=
  Host.scatter scatter_S16384x256_S256x1_S16384x256_0_1_1_1 (fun _ b => b) (V (Proc.devRef .tc main_arg0)) (Stratum.places (V (Proc.devRef .tc main_arg1)))
    (Stratum.stratum (res_main_v96 V) (V (Proc.devRef .tc main_arg8)) (V (Proc.devRef .tc main_arg9)) (V (Proc.devRef .tc main_arg10)))

theorem reference_value (g : Inputs.Good (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7)) (V (Proc.devRef .tc main_arg8))
      (V (Proc.devRef .tc main_arg9)) (V (Proc.devRef .tc main_arg10))) :
    refOut V = steps (V (Proc.devRef .tc main_arg0)) (V (Proc.devRef .tc main_arg3)) (V (Proc.devRef .tc main_arg4)) (V (Proc.devRef .tc main_arg6))
      (V (Proc.devRef .tc main_arg7)) (V (Proc.devRef .tc main_arg9)) (V (Proc.devRef .tc main_arg10)) := by
  have h0 : ∀ i, Unit01 (V (Proc.devRef .tc main_arg0) i) := g.preds
  have h1 := step_unit 64 (body := V (Proc.devRef .tc main_arg3)) h0 g.signs₀
  have h2 := step_unit 128 (body := V (Proc.devRef .tc main_arg6)) h1 g.signs₁
  unfold refOut
  rw [Stratum.scatter_eq _ _ _ fun c => Stratum.places_apply _ g.atoms _, third_eq, second_eq, first_eq, Stratum.taken_eq _ _ g.atoms,
    Stratum.stratum_eq _ 64 (by decide) _ _ _ g.heads₀ g.bodies.1 h0 g.signs₀,
    Stratum.stratum_eq _ 128 (by decide) _ _ _ g.heads₁ g.bodies.2.1 h1 g.signs₁,
    Stratum.stratum_eq _ 192 (by decide) _ _ _ g.heads₂ g.bodies.2.2 h2 g.signs₂]
  rfl

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v143) = refOut (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := run m ρ

end

/-! ## The claim -/

attribute [local instance] Cert.KernelIdeal.Gen.facts Cert.ReferenceIdeal.Gen.facts

theorem algebraic : Cert.algebraic_KernelIdeal_ReferenceIdeal_pre_inputs := by
  intro m g m' g' hpre hargs
  have hg := Ideal.good m hpre
  refine ⟨fun c => Kernel.V3 m c (Kernel.ref Cert.Kernel.main_v36), ?_, ?_⟩
  · exact (θ_run Cert.KernelIdeal.defs _ _).mono
      (fun _ h c => ⟨h.1 c _ (Kernel.mem_uc Cert.Kernel.main_v36 (by decide)), Kernel.args_keep m c _ (h.1 c)⟩) (Ideal.run m g (Ideal.cols' m hpre))
  · refine (θ_run Cert.ReferenceIdeal.defs _ _).mono (fun _ h c => ⟨(h c).1.trans ?_, (h c).2⟩) (reference_run m' g')
    obtain ⟨e0, e1, e2, e3, e4, e5, e6, e7, e8, e9, e10⟩ := hargs c
    have hb : ∀ s i, (body m c s i).toNat < 256 := fun s => by
      fin_cases s
      · exact (hg c).bodies.1
      · exact (hg c).bodies.2.1
      · exact (hg c).bodies.2.2
    refine Eq.trans ?_ (kernel_value m c hb).symm
    have hV (b : Ref Cert.ReferenceIdeal.sig .tc) : StableHlo.launchContents m' c (Proc.devRef .tc b) = m' ((c.tc : Thread Cert.ReferenceIdeal.nD Cert.ReferenceIdeal.τ).loc b) := rfl
    rw [reference_value]
    · simp only [hV]
      rw [e0, e3, e4, e6, e7, e9, e10]
    · simp only [hV]
      rw [e0, e1, e2, e3, e4, e5, e6, e7, e8, e9, e10]
      exact hg c

end Cert.Proof.Equation
end
-- ==== Proof.lean ====
/-
  The claim: the frames of the kernel, of its idealization and of the reference; the idealization rewrites nothing; and over the reals the
  kernel's result is the reference's.
-/
module

public import proofs.«01_k».proof.Proof.Ideal
public import proofs.«01_k».proof.Proof.Reference
public import proofs.«01_k».proof.Proof.Equation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Inputs.factsC, Inputs.factsI,
  Kernel.frame, Ideal.frame, Ideal.frame', Reference.frame, Reference.frame', trivial, Equation.algebraic⟩

end Cert.Proof

end
